-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Feed (m : (ℓ : Loc Cert.Feed.nD Cert.Feed.τ Cert.Feed.sig) → Buf (Elt Bits) ℓ) : Prop :=
  True

def Pre_FeedIdeal (m : (ℓ : Loc Cert.FeedIdeal.nD Cert.FeedIdeal.τ Cert.FeedIdeal.sig) → Buf (Elt Ideal) ℓ) : Prop :=
  True

def Pre_FeedReferenceIdeal (m : (ℓ : Loc Cert.FeedReferenceIdeal.nD Cert.FeedReferenceIdeal.τ Cert.FeedReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_Expand (m : (ℓ : Loc Cert.Expand.nD Cert.Expand.τ Cert.Expand.sig) → Buf (Elt Bits) ℓ) : Prop :=
  True

def Pre_ExpandIdeal (m : (ℓ : Loc Cert.ExpandIdeal.nD Cert.ExpandIdeal.τ Cert.ExpandIdeal.sig) → Buf (Elt Ideal) ℓ) : Prop :=
  True

def Pre_ExpandReferenceIdeal (m : (ℓ : Loc Cert.ExpandReferenceIdeal.nD Cert.ExpandReferenceIdeal.τ Cert.ExpandReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Feed [hFeed : Cert.Feed.Facts] : Prop :=
  ∀ (m : (ℓ : Loc Cert.Feed.nD Cert.Feed.τ Cert.Feed.sig) → Buf (Elt Bits) ℓ) (g : Dev Cert.Feed.nD → PrngReg), Pre_Feed m →
    θ_run (Cert.Feed.defs (F := Bits)) (onTc (τ := Cert.Feed.τ) (Cert.Feed.main (F := Bits))) ⟨m, fun _ => 0, g⟩ (fun r => (∀ c : Dev Cert.Feed.nD,
      r.2.mem ((c.tc : Thread Cert.Feed.nD Cert.Feed.τ).loc Cert.Feed.main_arg0) = m ((c.tc : Thread Cert.Feed.nD Cert.Feed.τ).loc Cert.Feed.main_arg0)
      ∧ r.2.mem ((c.tc : Thread Cert.Feed.nD Cert.Feed.τ).loc Cert.Feed.main_arg1) = m ((c.tc : Thread Cert.Feed.nD Cert.Feed.τ).loc Cert.Feed.main_arg1)
      ∧ r.2.mem ((c.tc : Thread Cert.Feed.nD Cert.Feed.τ).loc Cert.Feed.main_arg2) = m ((c.tc : Thread Cert.Feed.nD Cert.Feed.τ).loc Cert.Feed.main_arg2)
      ∧ r.2.mem ((c.tc : Thread Cert.Feed.nD Cert.Feed.τ).loc Cert.Feed.main_arg3) = m ((c.tc : Thread Cert.Feed.nD Cert.Feed.τ).loc Cert.Feed.main_arg3))
      ∧ r.2.sem = fun _ => 0)

def quiescent_FeedIdeal [hFeedIdeal : Cert.FeedIdeal.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3))
      ∧ r.2.sem = fun _ => 0)

def quiescent_FeedReferenceIdeal [hFeedReferenceIdeal : Cert.FeedReferenceIdeal.Facts] : Prop :=
  ∀ (m : (ℓ : Loc Cert.FeedReferenceIdeal.nD Cert.FeedReferenceIdeal.τ Cert.FeedReferenceIdeal.sig) → Buf (Elt Ideal) ℓ) (g : Dev Cert.FeedReferenceIdeal.nD → PrngReg), Pre_FeedReferenceIdeal m →
    θ_run (Cert.FeedReferenceIdeal.defs (F := Ideal)) (onTc (τ := Cert.FeedReferenceIdeal.τ) (Cert.FeedReferenceIdeal.main (F := Ideal))) ⟨m, fun _ => 0, g⟩ (fun r => (∀ c : Dev Cert.FeedReferenceIdeal.nD,
      r.2.mem ((c.tc : Thread Cert.FeedReferenceIdeal.nD Cert.FeedReferenceIdeal.τ).loc Cert.FeedReferenceIdeal.main_arg0) = m ((c.tc : Thread Cert.FeedReferenceIdeal.nD Cert.FeedReferenceIdeal.τ).loc Cert.FeedReferenceIdeal.main_arg0)
      ∧ r.2.mem ((c.tc : Thread Cert.FeedReferenceIdeal.nD Cert.FeedReferenceIdeal.τ).loc Cert.FeedReferenceIdeal.main_arg1) = m ((c.tc : Thread Cert.FeedReferenceIdeal.nD Cert.FeedReferenceIdeal.τ).loc Cert.FeedReferenceIdeal.main_arg1)
      ∧ r.2.mem ((c.tc : Thread Cert.FeedReferenceIdeal.nD Cert.FeedReferenceIdeal.τ).loc Cert.FeedReferenceIdeal.main_arg2) = m ((c.tc : Thread Cert.FeedReferenceIdeal.nD Cert.FeedReferenceIdeal.τ).loc Cert.FeedReferenceIdeal.main_arg2)
      ∧ r.2.mem ((c.tc : Thread Cert.FeedReferenceIdeal.nD Cert.FeedReferenceIdeal.τ).loc Cert.FeedReferenceIdeal.main_arg3) = m ((c.tc : Thread Cert.FeedReferenceIdeal.nD Cert.FeedReferenceIdeal.τ).loc Cert.FeedReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6))
      ∧ r.2.sem = fun _ => 0)

def quiescent_Expand [hExpand : Cert.Expand.Facts] : Prop :=
  ∀ (m : (ℓ : Loc Cert.Expand.nD Cert.Expand.τ Cert.Expand.sig) → Buf (Elt Bits) ℓ) (g : Dev Cert.Expand.nD → PrngReg), Pre_Expand m →
    θ_run (Cert.Expand.defs (F := Bits)) (onTc (τ := Cert.Expand.τ) (Cert.Expand.main (F := Bits))) ⟨m, fun _ => 0, g⟩ (fun r => (∀ c : Dev Cert.Expand.nD,
      r.2.mem ((c.tc : Thread Cert.Expand.nD Cert.Expand.τ).loc Cert.Expand.main_arg0) = m ((c.tc : Thread Cert.Expand.nD Cert.Expand.τ).loc Cert.Expand.main_arg0)
      ∧ r.2.mem ((c.tc : Thread Cert.Expand.nD Cert.Expand.τ).loc Cert.Expand.main_arg1) = m ((c.tc : Thread Cert.Expand.nD Cert.Expand.τ).loc Cert.Expand.main_arg1)
      ∧ r.2.mem ((c.tc : Thread Cert.Expand.nD Cert.Expand.τ).loc Cert.Expand.main_arg2) = m ((c.tc : Thread Cert.Expand.nD Cert.Expand.τ).loc Cert.Expand.main_arg2)
      ∧ r.2.mem ((c.tc : Thread Cert.Expand.nD Cert.Expand.τ).loc Cert.Expand.main_arg3) = m ((c.tc : Thread Cert.Expand.nD Cert.Expand.τ).loc Cert.Expand.main_arg3)
      ∧ r.2.mem ((c.tc : Thread Cert.Expand.nD Cert.Expand.τ).loc Cert.Expand.main_arg4) = m ((c.tc : Thread Cert.Expand.nD Cert.Expand.τ).loc Cert.Expand.main_arg4)
      ∧ r.2.mem ((c.tc : Thread Cert.Expand.nD Cert.Expand.τ).loc Cert.Expand.main_arg5) = m ((c.tc : Thread Cert.Expand.nD Cert.Expand.τ).loc Cert.Expand.main_arg5)
      ∧ r.2.mem ((c.tc : Thread Cert.Expand.nD Cert.Expand.τ).loc Cert.Expand.main_arg6) = m ((c.tc : Thread Cert.Expand.nD Cert.Expand.τ).loc Cert.Expand.main_arg6)
      ∧ r.2.mem ((c.tc : Thread Cert.Expand.nD Cert.Expand.τ).loc Cert.Expand.main_arg7) = m ((c.tc : Thread Cert.Expand.nD Cert.Expand.τ).loc Cert.Expand.main_arg7)
      ∧ r.2.mem ((c.tc : Thread Cert.Expand.nD Cert.Expand.τ).loc Cert.Expand.main_arg8) = m ((c.tc : Thread Cert.Expand.nD Cert.Expand.τ).loc Cert.Expand.main_arg8)
      ∧ r.2.mem ((c.tc : Thread Cert.Expand.nD Cert.Expand.τ).loc Cert.Expand.main_arg9) = m ((c.tc : Thread Cert.Expand.nD Cert.Expand.τ).loc Cert.Expand.main_arg9)
      ∧ r.2.mem ((c.tc : Thread Cert.Expand.nD Cert.Expand.τ).loc Cert.Expand.main_arg10) = m ((c.tc : Thread Cert.Expand.nD Cert.Expand.τ).loc Cert.Expand.main_arg10))
      ∧ r.2.sem = fun _ => 0)

def quiescent_ExpandIdeal [hExpandIdeal : Cert.ExpandIdeal.Facts] : Prop :=
  ∀ (m : (ℓ : Loc Cert.ExpandIdeal.nD Cert.ExpandIdeal.τ Cert.ExpandIdeal.sig) → Buf (Elt Ideal) ℓ) (g : Dev Cert.ExpandIdeal.nD → PrngReg), Pre_ExpandIdeal m →
    θ_run (Cert.ExpandIdeal.defs (F := Ideal)) (onTc (τ := Cert.ExpandIdeal.τ) (Cert.ExpandIdeal.main (F := Ideal))) ⟨m, fun _ => 0, g⟩ (fun r => (∀ c : Dev Cert.ExpandIdeal.nD,
      r.2.mem ((c.tc : Thread Cert.ExpandIdeal.nD Cert.ExpandIdeal.τ).loc Cert.ExpandIdeal.main_arg0) = m ((c.tc : Thread Cert.ExpandIdeal.nD Cert.ExpandIdeal.τ).loc Cert.ExpandIdeal.main_arg0)
      ∧ r.2.mem ((c.tc : Thread Cert.ExpandIdeal.nD Cert.ExpandIdeal.τ).loc Cert.ExpandIdeal.main_arg1) = m ((c.tc : Thread Cert.ExpandIdeal.nD Cert.ExpandIdeal.τ).loc Cert.ExpandIdeal.main_arg1)
      ∧ r.2.mem ((c.tc : Thread Cert.ExpandIdeal.nD Cert.ExpandIdeal.τ).loc Cert.ExpandIdeal.main_arg2) = m ((c.tc : Thread Cert.ExpandIdeal.nD Cert.ExpandIdeal.τ).loc Cert.ExpandIdeal.main_arg2)
      ∧ r.2.mem ((c.tc : Thread Cert.ExpandIdeal.nD Cert.ExpandIdeal.τ).loc Cert.ExpandIdeal.main_arg3) = m ((c.tc : Thread Cert.ExpandIdeal.nD Cert.ExpandIdeal.τ).loc Cert.ExpandIdeal.main_arg3)
      ∧ r.2.mem ((c.tc : Thread Cert.ExpandIdeal.nD Cert.ExpandIdeal.τ).loc Cert.ExpandIdeal.main_arg4) = m ((c.tc : Thread Cert.ExpandIdeal.nD Cert.ExpandIdeal.τ).loc Cert.ExpandIdeal.main_arg4)
      ∧ r.2.mem ((c.tc : Thread Cert.ExpandIdeal.nD Cert.ExpandIdeal.τ).loc Cert.ExpandIdeal.main_arg5) = m ((c.tc : Thread Cert.ExpandIdeal.nD Cert.ExpandIdeal.τ).loc Cert.ExpandIdeal.main_arg5)
      ∧ r.2.mem ((c.tc : Thread Cert.ExpandIdeal.nD Cert.ExpandIdeal.τ).loc Cert.ExpandIdeal.main_arg6) = m ((c.tc : Thread Cert.ExpandIdeal.nD Cert.ExpandIdeal.τ).loc Cert.ExpandIdeal.main_arg6)
      ∧ r.2.mem ((c.tc : Thread Cert.ExpandIdeal.nD Cert.ExpandIdeal.τ).loc Cert.ExpandIdeal.main_arg7) = m ((c.tc : Thread Cert.ExpandIdeal.nD Cert.ExpandIdeal.τ).loc Cert.ExpandIdeal.main_arg7)
      ∧ r.2.mem ((c.tc : Thread Cert.ExpandIdeal.nD Cert.ExpandIdeal.τ).loc Cert.ExpandIdeal.main_arg8) = m ((c.tc : Thread Cert.ExpandIdeal.nD Cert.ExpandIdeal.τ).loc Cert.ExpandIdeal.main_arg8)
      ∧ r.2.mem ((c.tc : Thread Cert.ExpandIdeal.nD Cert.ExpandIdeal.τ).loc Cert.ExpandIdeal.main_arg9) = m ((c.tc : Thread Cert.ExpandIdeal.nD Cert.ExpandIdeal.τ).loc Cert.ExpandIdeal.main_arg9)
      ∧ r.2.mem ((c.tc : Thread Cert.ExpandIdeal.nD Cert.ExpandIdeal.τ).loc Cert.ExpandIdeal.main_arg10) = m ((c.tc : Thread Cert.ExpandIdeal.nD Cert.ExpandIdeal.τ).loc Cert.ExpandIdeal.main_arg10))
      ∧ r.2.sem = fun _ => 0)

def quiescent_ExpandReferenceIdeal [hExpandReferenceIdeal : Cert.ExpandReferenceIdeal.Facts] : Prop :=
  ∀ (m : (ℓ : Loc Cert.ExpandReferenceIdeal.nD Cert.ExpandReferenceIdeal.τ Cert.ExpandReferenceIdeal.sig) → Buf (Elt Ideal) ℓ) (g : Dev Cert.ExpandReferenceIdeal.nD → PrngReg), Pre_ExpandReferenceIdeal m →
    θ_run (Cert.ExpandReferenceIdeal.defs (F := Ideal)) (onTc (τ := Cert.ExpandReferenceIdeal.τ) (Cert.ExpandReferenceIdeal.main (F := Ideal))) ⟨m, fun _ => 0, g⟩ (fun r => (∀ c : Dev Cert.ExpandReferenceIdeal.nD,
      r.2.mem ((c.tc : Thread Cert.ExpandReferenceIdeal.nD Cert.ExpandReferenceIdeal.τ).loc Cert.ExpandReferenceIdeal.main_arg0) = m ((c.tc : Thread Cert.ExpandReferenceIdeal.nD Cert.ExpandReferenceIdeal.τ).loc Cert.ExpandReferenceIdeal.main_arg0)
      ∧ r.2.mem ((c.tc : Thread Cert.ExpandReferenceIdeal.nD Cert.ExpandReferenceIdeal.τ).loc Cert.ExpandReferenceIdeal.main_arg1) = m ((c.tc : Thread Cert.ExpandReferenceIdeal.nD Cert.ExpandReferenceIdeal.τ).loc Cert.ExpandReferenceIdeal.main_arg1)
      ∧ r.2.mem ((c.tc : Thread Cert.ExpandReferenceIdeal.nD Cert.ExpandReferenceIdeal.τ).loc Cert.ExpandReferenceIdeal.main_arg2) = m ((c.tc : Thread Cert.ExpandReferenceIdeal.nD Cert.ExpandReferenceIdeal.τ).loc Cert.ExpandReferenceIdeal.main_arg2)
      ∧ r.2.mem ((c.tc : Thread Cert.ExpandReferenceIdeal.nD Cert.ExpandReferenceIdeal.τ).loc Cert.ExpandReferenceIdeal.main_arg3) = m ((c.tc : Thread Cert.ExpandReferenceIdeal.nD Cert.ExpandReferenceIdeal.τ).loc Cert.ExpandReferenceIdeal.main_arg3)
      ∧ r.2.mem ((c.tc : Thread Cert.ExpandReferenceIdeal.nD Cert.ExpandReferenceIdeal.τ).loc Cert.ExpandReferenceIdeal.main_arg4) = m ((c.tc : Thread Cert.ExpandReferenceIdeal.nD Cert.ExpandReferenceIdeal.τ).loc Cert.ExpandReferenceIdeal.main_arg4)
      ∧ r.2.mem ((c.tc : Thread Cert.ExpandReferenceIdeal.nD Cert.ExpandReferenceIdeal.τ).loc Cert.ExpandReferenceIdeal.main_arg5) = m ((c.tc : Thread Cert.ExpandReferenceIdeal.nD Cert.ExpandReferenceIdeal.τ).loc Cert.ExpandReferenceIdeal.main_arg5)
      ∧ r.2.mem ((c.tc : Thread Cert.ExpandReferenceIdeal.nD Cert.ExpandReferenceIdeal.τ).loc Cert.ExpandReferenceIdeal.main_arg6) = m ((c.tc : Thread Cert.ExpandReferenceIdeal.nD Cert.ExpandReferenceIdeal.τ).loc Cert.ExpandReferenceIdeal.main_arg6)
      ∧ r.2.mem ((c.tc : Thread Cert.ExpandReferenceIdeal.nD Cert.ExpandReferenceIdeal.τ).loc Cert.ExpandReferenceIdeal.main_arg7) = m ((c.tc : Thread Cert.ExpandReferenceIdeal.nD Cert.ExpandReferenceIdeal.τ).loc Cert.ExpandReferenceIdeal.main_arg7)
      ∧ r.2.mem ((c.tc : Thread Cert.ExpandReferenceIdeal.nD Cert.ExpandReferenceIdeal.τ).loc Cert.ExpandReferenceIdeal.main_arg8) = m ((c.tc : Thread Cert.ExpandReferenceIdeal.nD Cert.ExpandReferenceIdeal.τ).loc Cert.ExpandReferenceIdeal.main_arg8)
      ∧ r.2.mem ((c.tc : Thread Cert.ExpandReferenceIdeal.nD Cert.ExpandReferenceIdeal.τ).loc Cert.ExpandReferenceIdeal.main_arg9) = m ((c.tc : Thread Cert.ExpandReferenceIdeal.nD Cert.ExpandReferenceIdeal.τ).loc Cert.ExpandReferenceIdeal.main_arg9)
      ∧ r.2.mem ((c.tc : Thread Cert.ExpandReferenceIdeal.nD Cert.ExpandReferenceIdeal.τ).loc Cert.ExpandReferenceIdeal.main_arg10) = m ((c.tc : Thread Cert.ExpandReferenceIdeal.nD Cert.ExpandReferenceIdeal.τ).loc Cert.ExpandReferenceIdeal.main_arg10))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Feed_FeedIdeal : Prop :=
  True

def algebraic_FeedIdeal_FeedReferenceIdeal [hFeedIdeal : Cert.FeedIdeal.Facts] [hFeedReferenceIdeal : Cert.FeedReferenceIdeal.Facts] : Prop :=
  ∀ (m : (ℓ : Loc Cert.FeedIdeal.nD Cert.FeedIdeal.τ Cert.FeedIdeal.sig) → Buf (Elt Ideal) ℓ) (g : Dev Cert.FeedIdeal.nD → PrngReg)
    (m' : (ℓ : Loc Cert.FeedReferenceIdeal.nD Cert.FeedReferenceIdeal.τ Cert.FeedReferenceIdeal.sig) → Buf (Elt Ideal) ℓ) (g' : Dev Cert.FeedReferenceIdeal.nD → PrngReg), Pre_FeedIdeal m →
    (∀ c : Dev Cert.FeedIdeal.nD,
      m' ((c.tc : Thread Cert.FeedReferenceIdeal.nD Cert.FeedReferenceIdeal.τ).loc Cert.FeedReferenceIdeal.main_arg0) = m ((c.tc : Thread Cert.FeedIdeal.nD Cert.FeedIdeal.τ).loc Cert.FeedIdeal.main_arg0)
      ∧ m' ((c.tc : Thread Cert.FeedReferenceIdeal.nD Cert.FeedReferenceIdeal.τ).loc Cert.FeedReferenceIdeal.main_arg1) = m ((c.tc : Thread Cert.FeedIdeal.nD Cert.FeedIdeal.τ).loc Cert.FeedIdeal.main_arg1)
      ∧ m' ((c.tc : Thread Cert.FeedReferenceIdeal.nD Cert.FeedReferenceIdeal.τ).loc Cert.FeedReferenceIdeal.main_arg2) = m ((c.tc : Thread Cert.FeedIdeal.nD Cert.FeedIdeal.τ).loc Cert.FeedIdeal.main_arg2)
      ∧ m' ((c.tc : Thread Cert.FeedReferenceIdeal.nD Cert.FeedReferenceIdeal.τ).loc Cert.FeedReferenceIdeal.main_arg3) = m ((c.tc : Thread Cert.FeedIdeal.nD Cert.FeedIdeal.τ).loc Cert.FeedIdeal.main_arg3)) →
    ∃ (v0 : (c : Dev Cert.FeedIdeal.nD) → Buf (Elt Ideal) ((c.tc : Thread Cert.FeedIdeal.nD Cert.FeedIdeal.τ).loc Cert.FeedIdeal.main_v0)),
      θ_run (Cert.FeedIdeal.defs (F := Ideal)) (onTc (τ := Cert.FeedIdeal.τ) (Cert.FeedIdeal.main (F := Ideal))) ⟨m, fun _ => 0, g⟩ (fun r => ∀ c : Dev Cert.FeedIdeal.nD,
          r.2.mem ((c.tc : Thread Cert.FeedIdeal.nD Cert.FeedIdeal.τ).loc Cert.FeedIdeal.main_v0) = v0 c
          ∧ r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
          ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
          ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
          ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3))
      ∧ θ_run (Cert.FeedReferenceIdeal.defs (F := Ideal)) (onTc (τ := Cert.FeedReferenceIdeal.τ) (Cert.FeedReferenceIdeal.main (F := Ideal))) ⟨m', fun _ => 0, g'⟩ (fun r => ∀ c : Dev Cert.FeedReferenceIdeal.nD,
          r.2.mem ((c.tc : Thread Cert.FeedReferenceIdeal.nD Cert.FeedReferenceIdeal.τ).loc Cert.FeedReferenceIdeal.main_v18) = v0 c
          ∧ r.2.mem ((c.tc : Thread Cert.FeedReferenceIdeal.nD Cert.FeedReferenceIdeal.τ).loc Cert.FeedReferenceIdeal.main_arg0) = m' ((c.tc : Thread Cert.FeedReferenceIdeal.nD Cert.FeedReferenceIdeal.τ).loc Cert.FeedReferenceIdeal.main_arg0)
          ∧ r.2.mem ((c.tc : Thread Cert.FeedReferenceIdeal.nD Cert.FeedReferenceIdeal.τ).loc Cert.FeedReferenceIdeal.main_arg1) = m' ((c.tc : Thread Cert.FeedReferenceIdeal.nD Cert.FeedReferenceIdeal.τ).loc Cert.FeedReferenceIdeal.main_arg1)
          ∧ r.2.mem ((c.tc : Thread Cert.FeedReferenceIdeal.nD Cert.FeedReferenceIdeal.τ).loc Cert.FeedReferenceIdeal.main_arg2) = m' ((c.tc : Thread Cert.FeedReferenceIdeal.nD Cert.FeedReferenceIdeal.τ).loc Cert.FeedReferenceIdeal.main_arg2)
          ∧ r.2.mem ((c.tc : Thread Cert.FeedReferenceIdeal.nD Cert.FeedReferenceIdeal.τ).loc Cert.FeedReferenceIdeal.main_arg3) = m' ((c.tc : Thread Cert.FeedReferenceIdeal.nD Cert.FeedReferenceIdeal.τ).loc Cert.FeedReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v13) = v0 c
          ∧ r.2.mem ((c.tc : Thread Cert.ProjReferenceIdeal.nD Cert.ProjReferenceIdeal.τ).loc Cert.ProjReferenceIdeal.main_v17) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v56) = v0 c
          ∧ r.2.mem ((c.tc : Thread Cert.MergeReferenceIdeal.nD Cert.MergeReferenceIdeal.τ).loc Cert.MergeReferenceIdeal.main_v57) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Latent_LatentIdeal : Prop :=
  True

def algebraic_LatentIdeal_LatentReferenceIdeal [hLatentIdeal : Cert.LatentIdeal.Facts] [hLatentReferenceIdeal : Cert.LatentReferenceIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)
      ∧ m' ((c.tc : Thread Cert.LatentReferenceIdeal.nD Cert.LatentReferenceIdeal.τ).loc Cert.LatentReferenceIdeal.main_arg5) = m ((c.tc : Thread Cert.LatentIdeal.nD Cert.LatentIdeal.τ).loc Cert.LatentIdeal.main_arg5)
      ∧ m' ((c.tc : Thread Cert.LatentReferenceIdeal.nD Cert.LatentReferenceIdeal.τ).loc Cert.LatentReferenceIdeal.main_arg6) = m ((c.tc : Thread Cert.LatentIdeal.nD Cert.LatentIdeal.τ).loc Cert.LatentIdeal.main_arg6)) →
    ∃ (v0 : (c : Dev Cert.LatentIdeal.nD) → Buf (Elt Ideal) ((c.tc : Thread Cert.LatentIdeal.nD Cert.LatentIdeal.τ).loc Cert.LatentIdeal.main_v0_0)) (v1 : (c : Dev Cert.LatentIdeal.nD) → Buf (Elt Ideal) ((c.tc : Thread Cert.LatentIdeal.nD Cert.LatentIdeal.τ).loc Cert.LatentIdeal.main_v0_1)) (v2 : (c : Dev Cert.LatentIdeal.nD) → Buf (Elt Ideal) ((c.tc : Thread Cert.LatentIdeal.nD Cert.LatentIdeal.τ).loc Cert.LatentIdeal.main_v0_2)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0_0) = v0 c
          ∧ r.2.mem ((c.tc : Thread Cert.LatentIdeal.nD Cert.LatentIdeal.τ).loc Cert.LatentIdeal.main_v0_1) = v1 c
          ∧ r.2.mem ((c.tc : Thread Cert.LatentIdeal.nD Cert.LatentIdeal.τ).loc Cert.LatentIdeal.main_v0_2) = v2 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v61) = v0 c
          ∧ r.2.mem ((c.tc : Thread Cert.LatentReferenceIdeal.nD Cert.LatentReferenceIdeal.τ).loc Cert.LatentReferenceIdeal.main_v59) = v1 c
          ∧ r.2.mem ((c.tc : Thread Cert.LatentReferenceIdeal.nD Cert.LatentReferenceIdeal.τ).loc Cert.LatentReferenceIdeal.main_v75) = v2 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5)
          ∧ r.2.mem ((c.tc : Thread Cert.LatentReferenceIdeal.nD Cert.LatentReferenceIdeal.τ).loc Cert.LatentReferenceIdeal.main_arg6) = m' ((c.tc : Thread Cert.LatentReferenceIdeal.nD Cert.LatentReferenceIdeal.τ).loc Cert.LatentReferenceIdeal.main_arg6))

def preserves_Expand_ExpandIdeal : Prop :=
  True

def algebraic_ExpandIdeal_ExpandReferenceIdeal [hExpandIdeal : Cert.ExpandIdeal.Facts] [hExpandReferenceIdeal : Cert.ExpandReferenceIdeal.Facts] : Prop :=
  ∀ (m : (ℓ : Loc Cert.ExpandIdeal.nD Cert.ExpandIdeal.τ Cert.ExpandIdeal.sig) → Buf (Elt Ideal) ℓ) (g : Dev Cert.ExpandIdeal.nD → PrngReg)
    (m' : (ℓ : Loc Cert.ExpandReferenceIdeal.nD Cert.ExpandReferenceIdeal.τ Cert.ExpandReferenceIdeal.sig) → Buf (Elt Ideal) ℓ) (g' : Dev Cert.ExpandReferenceIdeal.nD → PrngReg), Pre_ExpandIdeal m →
    (∀ c : Dev Cert.ExpandIdeal.nD,
      m' ((c.tc : Thread Cert.ExpandReferenceIdeal.nD Cert.ExpandReferenceIdeal.τ).loc Cert.ExpandReferenceIdeal.main_arg0) = m ((c.tc : Thread Cert.ExpandIdeal.nD Cert.ExpandIdeal.τ).loc Cert.ExpandIdeal.main_arg0)
      ∧ m' ((c.tc : Thread Cert.ExpandReferenceIdeal.nD Cert.ExpandReferenceIdeal.τ).loc Cert.ExpandReferenceIdeal.main_arg1) = m ((c.tc : Thread Cert.ExpandIdeal.nD Cert.ExpandIdeal.τ).loc Cert.ExpandIdeal.main_arg1)
      ∧ m' ((c.tc : Thread Cert.ExpandReferenceIdeal.nD Cert.ExpandReferenceIdeal.τ).loc Cert.ExpandReferenceIdeal.main_arg2) = m ((c.tc : Thread Cert.ExpandIdeal.nD Cert.ExpandIdeal.τ).loc Cert.ExpandIdeal.main_arg2)
      ∧ m' ((c.tc : Thread Cert.ExpandReferenceIdeal.nD Cert.ExpandReferenceIdeal.τ).loc Cert.ExpandReferenceIdeal.main_arg3) = m ((c.tc : Thread Cert.ExpandIdeal.nD Cert.ExpandIdeal.τ).loc Cert.ExpandIdeal.main_arg3)
      ∧ m' ((c.tc : Thread Cert.ExpandReferenceIdeal.nD Cert.ExpandReferenceIdeal.τ).loc Cert.ExpandReferenceIdeal.main_arg4) = m ((c.tc : Thread Cert.ExpandIdeal.nD Cert.ExpandIdeal.τ).loc Cert.ExpandIdeal.main_arg4)
      ∧ m' ((c.tc : Thread Cert.ExpandReferenceIdeal.nD Cert.ExpandReferenceIdeal.τ).loc Cert.ExpandReferenceIdeal.main_arg5) = m ((c.tc : Thread Cert.ExpandIdeal.nD Cert.ExpandIdeal.τ).loc Cert.ExpandIdeal.main_arg5)
      ∧ m' ((c.tc : Thread Cert.ExpandReferenceIdeal.nD Cert.ExpandReferenceIdeal.τ).loc Cert.ExpandReferenceIdeal.main_arg6) = m ((c.tc : Thread Cert.ExpandIdeal.nD Cert.ExpandIdeal.τ).loc Cert.ExpandIdeal.main_arg6)
      ∧ m' ((c.tc : Thread Cert.ExpandReferenceIdeal.nD Cert.ExpandReferenceIdeal.τ).loc Cert.ExpandReferenceIdeal.main_arg7) = m ((c.tc : Thread Cert.ExpandIdeal.nD Cert.ExpandIdeal.τ).loc Cert.ExpandIdeal.main_arg7)
      ∧ m' ((c.tc : Thread Cert.ExpandReferenceIdeal.nD Cert.ExpandReferenceIdeal.τ).loc Cert.ExpandReferenceIdeal.main_arg8) = m ((c.tc : Thread Cert.ExpandIdeal.nD Cert.ExpandIdeal.τ).loc Cert.ExpandIdeal.main_arg8)
      ∧ m' ((c.tc : Thread Cert.ExpandReferenceIdeal.nD Cert.ExpandReferenceIdeal.τ).loc Cert.ExpandReferenceIdeal.main_arg9) = m ((c.tc : Thread Cert.ExpandIdeal.nD Cert.ExpandIdeal.τ).loc Cert.ExpandIdeal.main_arg9)
      ∧ m' ((c.tc : Thread Cert.ExpandReferenceIdeal.nD Cert.ExpandReferenceIdeal.τ).loc Cert.ExpandReferenceIdeal.main_arg10) = m ((c.tc : Thread Cert.ExpandIdeal.nD Cert.ExpandIdeal.τ).loc Cert.ExpandIdeal.main_arg10)) →
    ∃ (v0 : (c : Dev Cert.ExpandIdeal.nD) → Buf (Elt Ideal) ((c.tc : Thread Cert.ExpandIdeal.nD Cert.ExpandIdeal.τ).loc Cert.ExpandIdeal.main_v0_0)) (v1 : (c : Dev Cert.ExpandIdeal.nD) → Buf (Elt Ideal) ((c.tc : Thread Cert.ExpandIdeal.nD Cert.ExpandIdeal.τ).loc Cert.ExpandIdeal.main_v0_1)) (v2 : (c : Dev Cert.ExpandIdeal.nD) → Buf (Elt Ideal) ((c.tc : Thread Cert.ExpandIdeal.nD Cert.ExpandIdeal.τ).loc Cert.ExpandIdeal.main_v0_2)) (v3 : (c : Dev Cert.ExpandIdeal.nD) → Buf (Elt Ideal) ((c.tc : Thread Cert.ExpandIdeal.nD Cert.ExpandIdeal.τ).loc Cert.ExpandIdeal.main_v0_3)) (v4 : (c : Dev Cert.ExpandIdeal.nD) → Buf (Elt Ideal) ((c.tc : Thread Cert.ExpandIdeal.nD Cert.ExpandIdeal.τ).loc Cert.ExpandIdeal.main_v0_4)),
      θ_run (Cert.ExpandIdeal.defs (F := Ideal)) (onTc (τ := Cert.ExpandIdeal.τ) (Cert.ExpandIdeal.main (F := Ideal))) ⟨m, fun _ => 0, g⟩ (fun r => ∀ c : Dev Cert.ExpandIdeal.nD,
          r.2.mem ((c.tc : Thread Cert.ExpandIdeal.nD Cert.ExpandIdeal.τ).loc Cert.ExpandIdeal.main_v0_0) = v0 c
          ∧ r.2.mem ((c.tc : Thread Cert.ExpandIdeal.nD Cert.ExpandIdeal.τ).loc Cert.ExpandIdeal.main_v0_1) = v1 c
          ∧ r.2.mem ((c.tc : Thread Cert.ExpandIdeal.nD Cert.ExpandIdeal.τ).loc Cert.ExpandIdeal.main_v0_2) = v2 c
          ∧ r.2.mem ((c.tc : Thread Cert.ExpandIdeal.nD Cert.ExpandIdeal.τ).loc Cert.ExpandIdeal.main_v0_3) = v3 c
          ∧ r.2.mem ((c.tc : Thread Cert.ExpandIdeal.nD Cert.ExpandIdeal.τ).loc Cert.ExpandIdeal.main_v0_4) = v4 c
          ∧ r.2.mem ((c.tc : Thread Cert.ExpandIdeal.nD Cert.ExpandIdeal.τ).loc Cert.ExpandIdeal.main_arg0) = m ((c.tc : Thread Cert.ExpandIdeal.nD Cert.ExpandIdeal.τ).loc Cert.ExpandIdeal.main_arg0)
          ∧ r.2.mem ((c.tc : Thread Cert.ExpandIdeal.nD Cert.ExpandIdeal.τ).loc Cert.ExpandIdeal.main_arg1) = m ((c.tc : Thread Cert.ExpandIdeal.nD Cert.ExpandIdeal.τ).loc Cert.ExpandIdeal.main_arg1)
          ∧ r.2.mem ((c.tc : Thread Cert.ExpandIdeal.nD Cert.ExpandIdeal.τ).loc Cert.ExpandIdeal.main_arg2) = m ((c.tc : Thread Cert.ExpandIdeal.nD Cert.ExpandIdeal.τ).loc Cert.ExpandIdeal.main_arg2)
          ∧ r.2.mem ((c.tc : Thread Cert.ExpandIdeal.nD Cert.ExpandIdeal.τ).loc Cert.ExpandIdeal.main_arg3) = m ((c.tc : Thread Cert.ExpandIdeal.nD Cert.ExpandIdeal.τ).loc Cert.ExpandIdeal.main_arg3)
          ∧ r.2.mem ((c.tc : Thread Cert.ExpandIdeal.nD Cert.ExpandIdeal.τ).loc Cert.ExpandIdeal.main_arg4) = m ((c.tc : Thread Cert.ExpandIdeal.nD Cert.ExpandIdeal.τ).loc Cert.ExpandIdeal.main_arg4)
          ∧ r.2.mem ((c.tc : Thread Cert.ExpandIdeal.nD Cert.ExpandIdeal.τ).loc Cert.ExpandIdeal.main_arg5) = m ((c.tc : Thread Cert.ExpandIdeal.nD Cert.ExpandIdeal.τ).loc Cert.ExpandIdeal.main_arg5)
          ∧ r.2.mem ((c.tc : Thread Cert.ExpandIdeal.nD Cert.ExpandIdeal.τ).loc Cert.ExpandIdeal.main_arg6) = m ((c.tc : Thread Cert.ExpandIdeal.nD Cert.ExpandIdeal.τ).loc Cert.ExpandIdeal.main_arg6)
          ∧ r.2.mem ((c.tc : Thread Cert.ExpandIdeal.nD Cert.ExpandIdeal.τ).loc Cert.ExpandIdeal.main_arg7) = m ((c.tc : Thread Cert.ExpandIdeal.nD Cert.ExpandIdeal.τ).loc Cert.ExpandIdeal.main_arg7)
          ∧ r.2.mem ((c.tc : Thread Cert.ExpandIdeal.nD Cert.ExpandIdeal.τ).loc Cert.ExpandIdeal.main_arg8) = m ((c.tc : Thread Cert.ExpandIdeal.nD Cert.ExpandIdeal.τ).loc Cert.ExpandIdeal.main_arg8)
          ∧ r.2.mem ((c.tc : Thread Cert.ExpandIdeal.nD Cert.ExpandIdeal.τ).loc Cert.ExpandIdeal.main_arg9) = m ((c.tc : Thread Cert.ExpandIdeal.nD Cert.ExpandIdeal.τ).loc Cert.ExpandIdeal.main_arg9)
          ∧ r.2.mem ((c.tc : Thread Cert.ExpandIdeal.nD Cert.ExpandIdeal.τ).loc Cert.ExpandIdeal.main_arg10) = m ((c.tc : Thread Cert.ExpandIdeal.nD Cert.ExpandIdeal.τ).loc Cert.ExpandIdeal.main_arg10))
      ∧ θ_run (Cert.ExpandReferenceIdeal.defs (F := Ideal)) (onTc (τ := Cert.ExpandReferenceIdeal.τ) (Cert.ExpandReferenceIdeal.main (F := Ideal))) ⟨m', fun _ => 0, g'⟩ (fun r => ∀ c : Dev Cert.ExpandReferenceIdeal.nD,
          r.2.mem ((c.tc : Thread Cert.ExpandReferenceIdeal.nD Cert.ExpandReferenceIdeal.τ).loc Cert.ExpandReferenceIdeal.main_v93) = v0 c
          ∧ r.2.mem ((c.tc : Thread Cert.ExpandReferenceIdeal.nD Cert.ExpandReferenceIdeal.τ).loc Cert.ExpandReferenceIdeal.main_v49) = v1 c
          ∧ r.2.mem ((c.tc : Thread Cert.ExpandReferenceIdeal.nD Cert.ExpandReferenceIdeal.τ).loc Cert.ExpandReferenceIdeal.main_v94) = v2 c
          ∧ r.2.mem ((c.tc : Thread Cert.ExpandReferenceIdeal.nD Cert.ExpandReferenceIdeal.τ).loc Cert.ExpandReferenceIdeal.main_v110) = v3 c
          ∧ r.2.mem ((c.tc : Thread Cert.ExpandReferenceIdeal.nD Cert.ExpandReferenceIdeal.τ).loc Cert.ExpandReferenceIdeal.main_v112) = v4 c
          ∧ r.2.mem ((c.tc : Thread Cert.ExpandReferenceIdeal.nD Cert.ExpandReferenceIdeal.τ).loc Cert.ExpandReferenceIdeal.main_arg0) = m' ((c.tc : Thread Cert.ExpandReferenceIdeal.nD Cert.ExpandReferenceIdeal.τ).loc Cert.ExpandReferenceIdeal.main_arg0)
          ∧ r.2.mem ((c.tc : Thread Cert.ExpandReferenceIdeal.nD Cert.ExpandReferenceIdeal.τ).loc Cert.ExpandReferenceIdeal.main_arg1) = m' ((c.tc : Thread Cert.ExpandReferenceIdeal.nD Cert.ExpandReferenceIdeal.τ).loc Cert.ExpandReferenceIdeal.main_arg1)
          ∧ r.2.mem ((c.tc : Thread Cert.ExpandReferenceIdeal.nD Cert.ExpandReferenceIdeal.τ).loc Cert.ExpandReferenceIdeal.main_arg2) = m' ((c.tc : Thread Cert.ExpandReferenceIdeal.nD Cert.ExpandReferenceIdeal.τ).loc Cert.ExpandReferenceIdeal.main_arg2)
          ∧ r.2.mem ((c.tc : Thread Cert.ExpandReferenceIdeal.nD Cert.ExpandReferenceIdeal.τ).loc Cert.ExpandReferenceIdeal.main_arg3) = m' ((c.tc : Thread Cert.ExpandReferenceIdeal.nD Cert.ExpandReferenceIdeal.τ).loc Cert.ExpandReferenceIdeal.main_arg3)
          ∧ r.2.mem ((c.tc : Thread Cert.ExpandReferenceIdeal.nD Cert.ExpandReferenceIdeal.τ).loc Cert.ExpandReferenceIdeal.main_arg4) = m' ((c.tc : Thread Cert.ExpandReferenceIdeal.nD Cert.ExpandReferenceIdeal.τ).loc Cert.ExpandReferenceIdeal.main_arg4)
          ∧ r.2.mem ((c.tc : Thread Cert.ExpandReferenceIdeal.nD Cert.ExpandReferenceIdeal.τ).loc Cert.ExpandReferenceIdeal.main_arg5) = m' ((c.tc : Thread Cert.ExpandReferenceIdeal.nD Cert.ExpandReferenceIdeal.τ).loc Cert.ExpandReferenceIdeal.main_arg5)
          ∧ r.2.mem ((c.tc : Thread Cert.ExpandReferenceIdeal.nD Cert.ExpandReferenceIdeal.τ).loc Cert.ExpandReferenceIdeal.main_arg6) = m' ((c.tc : Thread Cert.ExpandReferenceIdeal.nD Cert.ExpandReferenceIdeal.τ).loc Cert.ExpandReferenceIdeal.main_arg6)
          ∧ r.2.mem ((c.tc : Thread Cert.ExpandReferenceIdeal.nD Cert.ExpandReferenceIdeal.τ).loc Cert.ExpandReferenceIdeal.main_arg7) = m' ((c.tc : Thread Cert.ExpandReferenceIdeal.nD Cert.ExpandReferenceIdeal.τ).loc Cert.ExpandReferenceIdeal.main_arg7)
          ∧ r.2.mem ((c.tc : Thread Cert.ExpandReferenceIdeal.nD Cert.ExpandReferenceIdeal.τ).loc Cert.ExpandReferenceIdeal.main_arg8) = m' ((c.tc : Thread Cert.ExpandReferenceIdeal.nD Cert.ExpandReferenceIdeal.τ).loc Cert.ExpandReferenceIdeal.main_arg8)
          ∧ r.2.mem ((c.tc : Thread Cert.ExpandReferenceIdeal.nD Cert.ExpandReferenceIdeal.τ).loc Cert.ExpandReferenceIdeal.main_arg9) = m' ((c.tc : Thread Cert.ExpandReferenceIdeal.nD Cert.ExpandReferenceIdeal.τ).loc Cert.ExpandReferenceIdeal.main_arg9)
          ∧ r.2.mem ((c.tc : Thread Cert.ExpandReferenceIdeal.nD Cert.ExpandReferenceIdeal.τ).loc Cert.ExpandReferenceIdeal.main_arg10) = m' ((c.tc : Thread Cert.ExpandReferenceIdeal.nD Cert.ExpandReferenceIdeal.τ).loc Cert.ExpandReferenceIdeal.main_arg10))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v58) = v0 c
          ∧ r.2.mem ((c.tc : Thread Cert.MixReferenceIdeal.nD Cert.MixReferenceIdeal.τ).loc Cert.MixReferenceIdeal.main_v59) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10))

def Claim : Prop :=
  ∃ (hKernel : Cert.Kernel.Facts) (hKernelIdeal : Cert.KernelIdeal.Facts) (hReferenceIdeal : Cert.ReferenceIdeal.Facts) (hFeed : Cert.Feed.Facts) (hFeedIdeal : Cert.FeedIdeal.Facts) (hFeedReferenceIdeal : Cert.FeedReferenceIdeal.Facts) (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hLatent : Cert.Latent.Facts) (hLatentIdeal : Cert.LatentIdeal.Facts) (hLatentReferenceIdeal : Cert.LatentReferenceIdeal.Facts) (hExpand : Cert.Expand.Facts) (hExpandIdeal : Cert.ExpandIdeal.Facts) (hExpandReferenceIdeal : Cert.ExpandReferenceIdeal.Facts) (hMix : Cert.Mix.Facts) (hMixIdeal : Cert.MixIdeal.Facts) (hMixReferenceIdeal : Cert.MixReferenceIdeal.Facts) (hPre_finite_and_ones : Cert.Pre_finite_and_ones.Facts),
    quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ quiescent_Feed (hFeed := hFeed)
    ∧ quiescent_FeedIdeal (hFeedIdeal := hFeedIdeal)
    ∧ quiescent_FeedReferenceIdeal (hFeedReferenceIdeal := hFeedReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Latent (hLatent := hLatent)
    ∧ quiescent_LatentIdeal (hLatentIdeal := hLatentIdeal)
    ∧ quiescent_LatentReferenceIdeal (hLatentReferenceIdeal := hLatentReferenceIdeal)
    ∧ quiescent_Expand (hExpand := hExpand)
    ∧ quiescent_ExpandIdeal (hExpandIdeal := hExpandIdeal)
    ∧ quiescent_ExpandReferenceIdeal (hExpandReferenceIdeal := hExpandReferenceIdeal)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
    ∧ preserves_Feed_FeedIdeal
    ∧ algebraic_FeedIdeal_FeedReferenceIdeal (hFeedIdeal := hFeedIdeal) (hFeedReferenceIdeal := hFeedReferenceIdeal)
    ∧ preserves_Proj_ProjIdeal
    ∧ algebraic_ProjIdeal_ProjReferenceIdeal (hProjIdeal := hProjIdeal) (hProjReferenceIdeal := hProjReferenceIdeal)
    ∧ preserves_Merge_MergeIdeal
    ∧ algebraic_MergeIdeal_MergeReferenceIdeal (hMergeIdeal := hMergeIdeal) (hMergeReferenceIdeal := hMergeReferenceIdeal)
    ∧ preserves_Latent_LatentIdeal
    ∧ algebraic_LatentIdeal_LatentReferenceIdeal (hLatentIdeal := hLatentIdeal) (hLatentReferenceIdeal := hLatentReferenceIdeal)
    ∧ preserves_Expand_ExpandIdeal
    ∧ algebraic_ExpandIdeal_ExpandReferenceIdeal (hExpandIdeal := hExpandIdeal) (hExpandReferenceIdeal := hExpandReferenceIdeal)
    ∧ preserves_Mix_MixIdeal
    ∧ algebraic_MixIdeal_MixReferenceIdeal (hMixIdeal := hMixIdeal) (hMixReferenceIdeal := hMixReferenceIdeal)
-- ==== Pre_finite_and_ones.lean ====
abbrev S32768x1024 : Shape := ⟨2, ![32768, 1024]⟩
abbrev S1024x32768 : Shape := ⟨2, ![1024, 32768]⟩
abbrev S8x128x32768 : Shape := ⟨3, ![8, 128, 32768]⟩
abbrev S8x1x32768 : Shape := ⟨3, ![8, 1, 32768]⟩
abbrev S8x32768 : Shape := ⟨2, ![8, 32768]⟩
abbrev S_ : Shape := ⟨0, ![]⟩

class Facts : Prop where
  bitsLt_bf16_f32 : FTy.bits .bf16 < FTy.bits .f32
  shapeCasts_S1024x32768_S8x128x32768 : S1024x32768.ShapeCasts S8x128x32768
  slices_S8x128x32768_S8x1x32768_0_64_0 : S8x128x32768.Slices ![0, 64, 0] S8x1x32768
  shapeCasts_S8x1x32768_S8x32768 : S8x1x32768.ShapeCasts S8x32768
  bcast_S_S8x32768 : S_.BroadcastsInDim S8x32768 (![] : Fin 0 → Fin S8x32768.rank)
  bcast_S_S32768x1024 : S_.BroadcastsInDim S32768x1024 (![] : Fin 0 → Fin S32768x1024.rank)
  reducesTo_S32768x1024_S_d0_1 : S32768x1024.ReducesTo [0, 1] S_
  h_S_ : 0 < S_.numel
  reducesTo_S8x32768_S_d0_1 : S8x32768.ReducesTo [0, 1] S_

variable [Facts]

def fn_part1 {F : FTy → Type} [FloatOps F] (main_v16 : IVec S_ 1) (main_v17 : IVec S_ 1) : IVec S_ 1 :=
  let main_v18 : IVec S_ 1 := andi main_v16 main_v17
  main_v18

def fn {F : FTy → Type} [FloatOps F] (main_arg0 : FVec F S32768x1024 .bf16) (main_arg1 : FVec F S32768x1024 .bf16) (main_arg2 : FVec F S1024x32768 .bf16) : IVec S_ 1 :=
  let main_v0 : FVec F S1024x32768 .f32 := (extf .f32 · bitsLt_bf16_f32) main_arg2
  let main_v1 : FVec F S8x128x32768 .f32 := shapeCast S8x128x32768 main_v0 shapeCasts_S1024x32768_S8x128x32768
  let main_v2 : FVec F S8x1x32768 .f32 := (extractStridedSlice S8x1x32768 ![0, 64, 0] · slices_S8x128x32768_S8x1x32768_0_64_0) main_v1
  let main_v3 : FVec F S8x32768 .f32 := shapeCast S8x32768 main_v2 shapeCasts_S8x1x32768_S8x32768
  let main_cst : FVec F S_ .f32 := constant S_ .f32 0x3F800000#32
  let main_v4 : FVec F S8x32768 .f32 := broadcastInDim S8x32768 ![] bcast_S_S8x32768 main_cst
  let main_v5 : IVec S8x32768 1 := cmpf .oeq main_v3 main_v4
  let main_v6 : FVec F S32768x1024 .f32 := (extf .f32 · bitsLt_bf16_f32) main_arg0
  let main_v7 : FVec F S32768x1024 .f32 := Host.absf main_v6
  let main_cst_0 : FVec F S_ .f32 := constant S_ .f32 0x7F800000#32
  let main_v8 : FVec F S32768x1024 .f32 := broadcastInDim S32768x1024 ![] bcast_S_S32768x1024 main_cst_0
  let main_v9 : IVec S32768x1024 1 := cmpf .olt main_v7 main_v8
  let main_v10 : FVec F S32768x1024 .f32 := (extf .f32 · bitsLt_bf16_f32) main_arg1
  let main_v11 : FVec F S32768x1024 .f32 := Host.absf main_v10
  let main_cst_1 : FVec F S_ .f32 := constant S_ .f32 0x7F800000#32
  let main_v12 : FVec F S32768x1024 .f32 := broadcastInDim S32768x1024 ![] bcast_S_S32768x1024 main_cst_1
  let main_v13 : IVec S32768x1024 1 := cmpf .olt main_v11 main_v12
  let main_c : IVec S_ 1 := constantI S_ 1 1#1
  let main_v14 : IVec S_ 1 := (fun x v => Host.reduce IntOp.andi x v reducesTo_S32768x1024_S_d0_1 h_S_) main_v9 main_c
  let main_c_2 : IVec S_ 1 := constantI S_ 1 1#1
  let main_v15 : IVec S_ 1 := (fun x v => Host.reduce IntOp.andi x v reducesTo_S32768x1024_S_d0_1 h_S_) main_v13 main_c_2
  let main_v16 : IVec S_ 1 := andi main_v14 main_v15
  let main_c_3 : IVec S_ 1 := constantI S_ 1 1#1
  let main_v17 : IVec S_ 1 := (fun x v => Host.reduce IntOp.andi x v reducesTo_S8x32768_S_d0_1 h_S_) main_v5 main_c_3
  fn_part1 (F := F) main_v16 main_v17
-- ==== Kernel.lean ====
abbrev S32768x1024 : Shape := ⟨2, ![32768, 1024]⟩
abbrev S1024x32768 : Shape := ⟨2, ![1024, 32768]⟩
abbrev S32768x512 : Shape := ⟨2, ![32768, 512]⟩
abbrev S512x256 : Shape := ⟨2, ![512, 256]⟩
abbrev S4096x256 : Shape := ⟨2, ![4096, 256]⟩
abbrev S256x4096 : Shape := ⟨2, ![256, 4096]⟩
abbrev S512x128 : Shape := ⟨2, ![512, 128]⟩
abbrev S2x256x512 : Shape := ⟨3, ![2, 256, 512]⟩
abbrev S2x1x512 : Shape := ⟨3, ![2, 1, 512]⟩
abbrev S2x128x512 : Shape := ⟨3, ![2, 128, 512]⟩
abbrev S256x128 : Shape := ⟨2, ![256, 128]⟩
abbrev S256x512 : Shape := ⟨2, ![256, 512]⟩
abbrev S1x256x512 : Shape := ⟨3, ![1, 256, 512]⟩
abbrev S1x1x512 : Shape := ⟨3, ![1, 1, 512]⟩
abbrev S1x512 : Shape := ⟨2, ![1, 512]⟩
abbrev S512 : Shape := ⟨1, ![512]⟩
abbrev S128x256 : Shape := ⟨2, ![128, 256]⟩
abbrev S1x128x512 : Shape := ⟨3, ![1, 128, 512]⟩
abbrev S128x512 : Shape := ⟨2, ![128, 512]⟩

abbrev nBuf : Space → Nat
  | .hbm => 4
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x32768, .bf16⟩
  | .hbm, ⟨3, _⟩ => ⟨S32768x512, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S256x4096, .bf16⟩
  | .local _ .vmem, ⟨5, _⟩ => ⟨S256x4096, .bf16⟩
  | .local _ .vmem, ⟨6, _⟩ => ⟨S512x128, .bf16⟩
  | .local _ .vmem, ⟨7, _⟩ => ⟨S512x128, .bf16⟩
  | .local _ .vmem, ⟨8, _⟩ => ⟨S2x256x512, .f32⟩
  | .local _ .vmem, ⟨9, _⟩ => ⟨S2x256x512, .f32⟩
  | .local _ .vmem, ⟨10, _⟩ => ⟨S2x1x512, .f32⟩
  | .local _ .vmem, ⟨11, _⟩ => ⟨S2x128x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_mult1 : BitVec 32 :=
  let c0_i32 : BitVec 32 := 0#32
  c0_i32
@[reducible] def k0_t1_loop (i : grid0.Coords) : Scf.Loop 32 :=
  let c0_i32_19 : BitVec 32 := 0#32
  let arg2 : BitVec 32 := BitVec.ofNat 32 (i 2).val
  let v23 : BitVec 32 := Scalar.subi arg2 c0_i32_19
  let c1_i32 : BitVec 32 := 1#32
  let v25 : BitVec 32 := Scalar.divsi v23 c1_i32
  let v26 : BitVec 32 := Scalar.muli v25 c1_i32
  let v27 : BitVec 32 := Scalar.addi c0_i32_19 v26
  let c1_i32_20 : BitVec 32 := 1#32
  ⟨c0_i32_19, v27, c1_i32_20⟩
def k0_mult2 (i : grid0.Coords) (k0_t1 : Fin (k0_t1_loop i).trips) : BitVec 32 :=
  let c2_i32_131 : BitVec 32 := 2#32
  let c0_i32_19 : BitVec 32 := 0#32
  let c1_i32_20 : BitVec 32 := 1#32
  let arg11 : BitVec 32 := Scf.iv c0_i32_19 c1_i32_20 k0_t1
  let v208 : BitVec 32 := Scalar.muli c2_i32_131 arg11
  let c1_i32_132 : BitVec 32 := 1#32
  let v209 : BitVec 32 := Scalar.addi v208 c1_i32_132
  let c256_i32_133 : BitVec 32 := 256#32
  let v210 : BitVec 32 := Scalar.muli v209 c256_i32_133
  v210
def k0_off1 (i : grid0.Coords) (k0_t1 : Fin (k0_t1_loop i).trips) (c1_i32_132 : BitVec 32) : Fin 2 → Nat :=
  let c2_i32_131 : BitVec 32 := 2#32
  let c0_i32_19 : BitVec 32 := 0#32
  let c1_i32_20 : BitVec 32 := 1#32
  let arg11 : BitVec 32 := Scf.iv c0_i32_19 c1_i32_20 k0_t1
  let v208 : BitVec 32 := Scalar.muli c2_i32_131 arg11
  let v209 : BitVec 32 := Scalar.addi v208 c1_i32_132
  let c256_i32_133 : BitVec 32 := 256#32
  let v210 : BitVec 32 := Scalar.muli v209 c256_i32_133
  let v211 : BitVec 32 := v210
  let v212 : Index := Scalar.indexCast v211
  let c0_134 : Index := 0#32
  ![v212.toNat, 0]
def k0_off2 (i : grid0.Coords) (k0_t1 : Fin (k0_t1_loop i).trips) (c1_i32_132 : BitVec 32) : Fin 2 → Nat :=
  let c2_i32_131 : BitVec 32 := 2#32
  let c0_i32_19 : BitVec 32 := 0#32
  let c1_i32_20 : BitVec 32 := 1#32
  let arg11 : BitVec 32 := Scf.iv c0_i32_19 c1_i32_20 k0_t1
  let v208 : BitVec 32 := Scalar.muli c2_i32_131 arg11
  let v209 : BitVec 32 := Scalar.addi v208 c1_i32_132
  let c256_i32_133 : BitVec 32 := 256#32
  let v210 : BitVec 32 := Scalar.muli v209 c256_i32_133
  let v211 : BitVec 32 := v210
  let v219 : Index := Scalar.indexCast v211
  let c128_141 : Index := 128#32
  ![v219.toNat, 128]
def k0_mult3 (i : grid0.Coords) (k0_t1 : Fin (k0_t1_loop i).trips) : BitVec 32 :=
  let c2_i32_148 : BitVec 32 := 2#32
  let c0_i32_19 : BitVec 32 := 0#32
  let c1_i32_20 : BitVec 32 := 1#32
  let arg11 : BitVec 32 := Scf.iv c0_i32_19 c1_i32_20 k0_t1
  let v226 : BitVec 32 := Scalar.muli c2_i32_148 arg11
  let c256_i32_149 : BitVec 32 := 256#32
  let v227 : BitVec 32 := Scalar.muli v226 c256_i32_149
  v227
def k0_off3 (i : grid0.Coords) (k0_t1 : Fin (k0_t1_loop i).trips) : Fin 2 → Nat :=
  let c0_157 : Index := 0#32
  let c2_i32_148 : BitVec 32 := 2#32
  let c0_i32_19 : BitVec 32 := 0#32
  let c1_i32_20 : BitVec 32 := 1#32
  let arg11 : BitVec 32 := Scf.iv c0_i32_19 c1_i32_20 k0_t1
  let v226 : BitVec 32 := Scalar.muli c2_i32_148 arg11
  let c256_i32_149 : BitVec 32 := 256#32
  let v227 : BitVec 32 := Scalar.muli v226 c256_i32_149
  let v228 : BitVec 32 := v227
  let v240 : Index := Scalar.indexCast v228
  ![0, v240.toNat]
def k0_off4 (i : grid0.Coords) (k0_t1 : Fin (k0_t1_loop i).trips) : Fin 2 → Nat :=
  let c128_175 : Index := 128#32
  let c2_i32_148 : BitVec 32 := 2#32
  let c0_i32_19 : BitVec 32 := 0#32
  let c1_i32_20 : BitVec 32 := 1#32
  let arg11 : BitVec 32 := Scf.iv c0_i32_19 c1_i32_20 k0_t1
  let v226 : BitVec 32 := Scalar.muli c2_i32_148 arg11
  let c256_i32_149 : BitVec 32 := 256#32
  let v227 : BitVec 32 := Scalar.muli v226 c256_i32_149
  let v228 : BitVec 32 := v227
  let v267 : Index := Scalar.indexCast v228
  ![128, v267.toNat]
def k0_mult4 (i : grid0.Coords) (k0_t1 : Fin (k0_t1_loop i).trips) : BitVec 32 :=
  let c2_i32_186 : BitVec 32 := 2#32
  let c0_i32_19 : BitVec 32 := 0#32
  let c1_i32_20 : BitVec 32 := 1#32
  let arg11 : BitVec 32 := Scf.iv c0_i32_19 c1_i32_20 k0_t1
  let v283 : BitVec 32 := Scalar.muli c2_i32_186 arg11
  let c2_i32_187 : BitVec 32 := 2#32
  let v284 : BitVec 32 := Scalar.addi v283 c2_i32_187
  let c256_i32_188 : BitVec 32 := 256#32
  let v285 : BitVec 32 := Scalar.muli v284 c256_i32_188
  v285
def k0_mult5 (i : grid0.Coords) (k0_t1 : Fin (k0_t1_loop i).trips) : BitVec 32 :=
  let c2_i32_203 : BitVec 32 := 2#32
  let c0_i32_19 : BitVec 32 := 0#32
  let c1_i32_20 : BitVec 32 := 1#32
  let arg11 : BitVec 32 := Scf.iv c0_i32_19 c1_i32_20 k0_t1
  let v301 : BitVec 32 := Scalar.muli c2_i32_203 arg11
  let c1_i32_204 : BitVec 32 := 1#32
  let v302 : BitVec 32 := Scalar.addi v301 c1_i32_204
  let c256_i32_205 : BitVec 32 := 256#32
  let v303 : BitVec 32 := Scalar.muli v302 c256_i32_205
  v303
def k0_off5 (i : grid0.Coords) (k0_t1 : Fin (k0_t1_loop i).trips) : Fin 2 → Nat :=
  let c0_213 : Index := 0#32
  let c2_i32_203 : BitVec 32 := 2#32
  let c0_i32_19 : BitVec 32 := 0#32
  let c1_i32_20 : BitVec 32 := 1#32
  let arg11 : BitVec 32 := Scf.iv c0_i32_19 c1_i32_20 k0_t1
  let v301 : BitVec 32 := Scalar.muli c2_i32_203 arg11
  let c1_i32_204 : BitVec 32 := 1#32
  let v302 : BitVec 32 := Scalar.addi v301 c1_i32_204
  let c256_i32_205 : BitVec 32 := 256#32
  let v303 : BitVec 32 := Scalar.muli v302 c256_i32_205
  let v304 : BitVec 32 := v303
  let v316 : Index := Scalar.indexCast v304
  ![0, v316.toNat]
def k0_off6 (i : grid0.Coords) (k0_t1 : Fin (k0_t1_loop i).trips) : Fin 2 → Nat :=
  let c128_231 : Index := 128#32
  let c2_i32_203 : BitVec 32 := 2#32
  let c0_i32_19 : BitVec 32 := 0#32
  let c1_i32_20 : BitVec 32 := 1#32
  let arg11 : BitVec 32 := Scf.iv c0_i32_19 c1_i32_20 k0_t1
  let v301 : BitVec 32 := Scalar.muli c2_i32_203 arg11
  let c1_i32_204 : BitVec 32 := 1#32
  let v302 : BitVec 32 := Scalar.addi v301 c1_i32_204
  let c256_i32_205 : BitVec 32 := 256#32
  let v303 : BitVec 32 := Scalar.muli v302 c256_i32_205
  let v304 : BitVec 32 := v303
  let v343 : Index := Scalar.indexCast v304
  ![128, v343.toNat]
@[reducible] def k0_t2_loop (i : grid0.Coords) : Scf.Loop 32 :=
  let c0_i32_19 : BitVec 32 := 0#32
  let arg2 : BitVec 32 := BitVec.ofNat 32 (i 2).val
  let v23 : BitVec 32 := Scalar.subi arg2 c0_i32_19
  let c1_i32 : BitVec 32 := 1#32
  let v25 : BitVec 32 := Scalar.divsi v23 c1_i32
  let v26 : BitVec 32 := Scalar.muli v25 c1_i32
  let v27 : BitVec 32 := Scalar.addi c0_i32_19 v26
  let v24 : BitVec 32 := Scalar.addi c0_i32_19 v23
  let c1_i32_21 : BitVec 32 := 1#32
  ⟨v27, v24, c1_i32_21⟩
def k0_mult6 (i : grid0.Coords) (k0_t2 : Fin (k0_t2_loop i).trips) : BitVec 32 :=
  let c2_i32_131 : BitVec 32 := 2#32
  let c0_i32_19 : BitVec 32 := 0#32
  let arg2 : BitVec 32 := BitVec.ofNat 32 (i 2).val
  let v23 : BitVec 32 := Scalar.subi arg2 c0_i32_19
  let c1_i32 : BitVec 32 := 1#32
  let v25 : BitVec 32 := Scalar.divsi v23 c1_i32
  let v26 : BitVec 32 := Scalar.muli v25 c1_i32
  let v27 : BitVec 32 := Scalar.addi c0_i32_19 v26
  let c1_i32_21 : BitVec 32 := 1#32
  let arg11 : BitVec 32 := Scf.iv v27 c1_i32_21 k0_t2
  let v208 : BitVec 32 := Scalar.muli c2_i32_131 arg11
  let c1_i32_132 : BitVec 32 := 1#32
  let v209 : BitVec 32 := Scalar.addi v208 c1_i32_132
  let c256_i32_133 : BitVec 32 := 256#32
  let v210 : BitVec 32 := Scalar.muli v209 c256_i32_133
  v210
def k0_off7 (i : grid0.Coords) (k0_t2 : Fin (k0_t2_loop i).trips) (c1_i32_132 : BitVec 32) : Fin 2 → Nat :=
  let c2_i32_131 : BitVec 32 := 2#32
  let c0_i32_19 : BitVec 32 := 0#32
  let arg2 : BitVec 32 := BitVec.ofNat 32 (i 2).val
  let v23 : BitVec 32 := Scalar.subi arg2 c0_i32_19
  let c1_i32 : BitVec 32 := 1#32
  let v25 : BitVec 32 := Scalar.divsi v23 c1_i32
  let v26 : BitVec 32 := Scalar.muli v25 c1_i32
  let v27 : BitVec 32 := Scalar.addi c0_i32_19 v26
  let c1_i32_21 : BitVec 32 := 1#32
  let arg11 : BitVec 32 := Scf.iv v27 c1_i32_21 k0_t2
  let v208 : BitVec 32 := Scalar.muli c2_i32_131 arg11
  let v209 : BitVec 32 := Scalar.addi v208 c1_i32_132
  let c256_i32_133 : BitVec 32 := 256#32
  let v210 : BitVec 32 := Scalar.muli v209 c256_i32_133
  let v211 : BitVec 32 := v210
  let v212 : Index := Scalar.indexCast v211
  let c0_134 : Index := 0#32
  ![v212.toNat, 0]
def k0_off8 (i : grid0.Coords) (k0_t2 : Fin (k0_t2_loop i).trips) (c1_i32_132 : BitVec 32) : Fin 2 → Nat :=
  let c2_i32_131 : BitVec 32 := 2#32
  let c0_i32_19 : BitVec 32 := 0#32
  let arg2 : BitVec 32 := BitVec.ofNat 32 (i 2).val
  let v23 : BitVec 32 := Scalar.subi arg2 c0_i32_19
  let c1_i32 : BitVec 32 := 1#32
  let v25 : BitVec 32 := Scalar.divsi v23 c1_i32
  let v26 : BitVec 32 := Scalar.muli v25 c1_i32
  let v27 : BitVec 32 := Scalar.addi c0_i32_19 v26
  let c1_i32_21 : BitVec 32 := 1#32
  let arg11 : BitVec 32 := Scf.iv v27 c1_i32_21 k0_t2
  let v208 : BitVec 32 := Scalar.muli c2_i32_131 arg11
  let v209 : BitVec 32 := Scalar.addi v208 c1_i32_132
  let c256_i32_133 : BitVec 32 := 256#32
  let v210 : BitVec 32 := Scalar.muli v209 c256_i32_133
  let v211 : BitVec 32 := v210
  let v219 : Index := Scalar.indexCast v211
  let c128_141 : Index := 128#32
  ![v219.toNat, 128]
def k0_mult7 (i : grid0.Coords) (k0_t2 : Fin (k0_t2_loop i).trips) : BitVec 32 :=
  let c2_i32_148 : BitVec 32 := 2#32
  let c0_i32_19 : BitVec 32 := 0#32
  let arg2 : BitVec 32 := BitVec.ofNat 32 (i 2).val
  let v23 : BitVec 32 := Scalar.subi arg2 c0_i32_19
  let c1_i32 : BitVec 32 := 1#32
  let v25 : BitVec 32 := Scalar.divsi v23 c1_i32
  let v26 : BitVec 32 := Scalar.muli v25 c1_i32
  let v27 : BitVec 32 := Scalar.addi c0_i32_19 v26
  let c1_i32_21 : BitVec 32 := 1#32
  let arg11 : BitVec 32 := Scf.iv v27 c1_i32_21 k0_t2
  let v226 : BitVec 32 := Scalar.muli c2_i32_148 arg11
  let c256_i32_149 : BitVec 32 := 256#32
  let v227 : BitVec 32 := Scalar.muli v226 c256_i32_149
  v227
def k0_off9 (i : grid0.Coords) (k0_t2 : Fin (k0_t2_loop i).trips) : Fin 2 → Nat :=
  let c0_157 : Index := 0#32
  let c2_i32_148 : BitVec 32 := 2#32
  let c0_i32_19 : BitVec 32 := 0#32
  let arg2 : BitVec 32 := BitVec.ofNat 32 (i 2).val
  let v23 : BitVec 32 := Scalar.subi arg2 c0_i32_19
  let c1_i32 : BitVec 32 := 1#32
  let v25 : BitVec 32 := Scalar.divsi v23 c1_i32
  let v26 : BitVec 32 := Scalar.muli v25 c1_i32
  let v27 : BitVec 32 := Scalar.addi c0_i32_19 v26
  let c1_i32_21 : BitVec 32 := 1#32
  let arg11 : BitVec 32 := Scf.iv v27 c1_i32_21 k0_t2
  let v226 : BitVec 32 := Scalar.muli c2_i32_148 arg11
  let c256_i32_149 : BitVec 32 := 256#32
  let v227 : BitVec 32 := Scalar.muli v226 c256_i32_149
  let v228 : BitVec 32 := v227
  let v240 : Index := Scalar.indexCast v228
  ![0, v240.toNat]
def k0_off10 (i : grid0.Coords) (k0_t2 : Fin (k0_t2_loop i).trips) : Fin 2 → Nat :=
  let c128_175 : Index := 128#32
  let c2_i32_148 : BitVec 32 := 2#32
  let c0_i32_19 : BitVec 32 := 0#32
  let arg2 : BitVec 32 := BitVec.ofNat 32 (i 2).val
  let v23 : BitVec 32 := Scalar.subi arg2 c0_i32_19
  let c1_i32 : BitVec 32 := 1#32
  let v25 : BitVec 32 := Scalar.divsi v23 c1_i32
  let v26 : BitVec 32 := Scalar.muli v25 c1_i32
  let v27 : BitVec 32 := Scalar.addi c0_i32_19 v26
  let c1_i32_21 : BitVec 32 := 1#32
  let arg11 : BitVec 32 := Scf.iv v27 c1_i32_21 k0_t2
  let v226 : BitVec 32 := Scalar.muli c2_i32_148 arg11
  let c256_i32_149 : BitVec 32 := 256#32
  let v227 : BitVec 32 := Scalar.muli v226 c256_i32_149
  let v228 : BitVec 32 := v227
  let v267 : Index := Scalar.indexCast v228
  ![128, v267.toNat]
def k0_mult8 (i : grid0.Coords) (k0_t2 : Fin (k0_t2_loop i).trips) : BitVec 32 :=
  let c2_i32_186 : BitVec 32 := 2#32
  let c0_i32_19 : BitVec 32 := 0#32
  let arg2 : BitVec 32 := BitVec.ofNat 32 (i 2).val
  let v23 : BitVec 32 := Scalar.subi arg2 c0_i32_19
  let c1_i32 : BitVec 32 := 1#32
  let v25 : BitVec 32 := Scalar.divsi v23 c1_i32
  let v26 : BitVec 32 := Scalar.muli v25 c1_i32
  let v27 : BitVec 32 := Scalar.addi c0_i32_19 v26
  let c1_i32_21 : BitVec 32 := 1#32
  let arg11 : BitVec 32 := Scf.iv v27 c1_i32_21 k0_t2
  let v283 : BitVec 32 := Scalar.muli c2_i32_186 arg11
  let c2_i32_187 : BitVec 32 := 2#32
  let v284 : BitVec 32 := Scalar.addi v283 c2_i32_187
  let c256_i32_188 : BitVec 32 := 256#32
  let v285 : BitVec 32 := Scalar.muli v284 c256_i32_188
  v285
def k0_mult9 (i : grid0.Coords) (k0_t2 : Fin (k0_t2_loop i).trips) : BitVec 32 :=
  let c2_i32_203 : BitVec 32 := 2#32
  let c0_i32_19 : BitVec 32 := 0#32
  let arg2 : BitVec 32 := BitVec.ofNat 32 (i 2).val
  let v23 : BitVec 32 := Scalar.subi arg2 c0_i32_19
  let c1_i32 : BitVec 32 := 1#32
  let v25 : BitVec 32 := Scalar.divsi v23 c1_i32
  let v26 : BitVec 32 := Scalar.muli v25 c1_i32
  let v27 : BitVec 32 := Scalar.addi c0_i32_19 v26
  let c1_i32_21 : BitVec 32 := 1#32
  let arg11 : BitVec 32 := Scf.iv v27 c1_i32_21 k0_t2
  let v301 : BitVec 32 := Scalar.muli c2_i32_203 arg11
  let c1_i32_204 : BitVec 32 := 1#32
  let v302 : BitVec 32 := Scalar.addi v301 c1_i32_204
  let c256_i32_205 : BitVec 32 := 256#32
  let v303 : BitVec 32 := Scalar.muli v302 c256_i32_205
  v303
def k0_off11 (i : grid0.Coords) (k0_t2 : Fin (k0_t2_loop i).trips) : Fin 2 → Nat :=
  let c0_213 : Index := 0#32
  let c2_i32_203 : BitVec 32 := 2#32
  let c0_i32_19 : BitVec 32 := 0#32
  let arg2 : BitVec 32 := BitVec.ofNat 32 (i 2).val
  let v23 : BitVec 32 := Scalar.subi arg2 c0_i32_19
  let c1_i32 : BitVec 32 := 1#32
  let v25 : BitVec 32 := Scalar.divsi v23 c1_i32
  let v26 : BitVec 32 := Scalar.muli v25 c1_i32
  let v27 : BitVec 32 := Scalar.addi c0_i32_19 v26
  let c1_i32_21 : BitVec 32 := 1#32
  let arg11 : BitVec 32 := Scf.iv v27 c1_i32_21 k0_t2
  let v301 : BitVec 32 := Scalar.muli c2_i32_203 arg11
  let c1_i32_204 : BitVec 32 := 1#32
  let v302 : BitVec 32 := Scalar.addi v301 c1_i32_204
  let c256_i32_205 : BitVec 32 := 256#32
  let v303 : BitVec 32 := Scalar.muli v302 c256_i32_205
  let v304 : BitVec 32 := v303
  let v316 : Index := Scalar.indexCast v304
  ![0, v316.toNat]
def k0_off12 (i : grid0.Coords) (k0_t2 : Fin (k0_t2_loop i).trips) : Fin 2 → Nat :=
  let c128_231 : Index := 128#32
  let c2_i32_203 : BitVec 32 := 2#32
  let c0_i32_19 : BitVec 32 := 0#32
  let arg2 : BitVec 32 := BitVec.ofNat 32 (i 2).val
  let v23 : BitVec 32 := Scalar.subi arg2 c0_i32_19
  let c1_i32 : BitVec 32 := 1#32
  let v25 : BitVec 32 := Scalar.divsi v23 c1_i32
  let v26 : BitVec 32 := Scalar.muli v25 c1_i32
  let v27 : BitVec 32 := Scalar.addi c0_i32_19 v26
  let c1_i32_21 : BitVec 32 := 1#32
  let arg11 : BitVec 32 := Scf.iv v27 c1_i32_21 k0_t2
  let v301 : BitVec 32 := Scalar.muli c2_i32_203 arg11
  let c1_i32_204 : BitVec 32 := 1#32
  let v302 : BitVec 32 := Scalar.addi v301 c1_i32_204
  let c256_i32_205 : BitVec 32 := 256#32
  let v303 : BitVec 32 := Scalar.muli v302 c256_i32_205
  let v304 : BitVec 32 := v303
  let v343 : Index := Scalar.indexCast v304
  ![128, v343.toNat]
def k0_mult10 (i : grid0.Coords) : BitVec 32 :=
  let c2_i32 : BitVec 32 := 2#32
  let arg2 : BitVec 32 := BitVec.ofNat 32 (i 2).val
  let v28 : BitVec 32 := Scalar.muli c2_i32 arg2
  let c1_i32_22 : BitVec 32 := 1#32
  let v29 : BitVec 32 := Scalar.addi v28 c1_i32_22
  let c256_i32 : BitVec 32 := 256#32
  let v30 : BitVec 32 := Scalar.muli v29 c256_i32
  v30
def k0_off13 (i : grid0.Coords) : Fin 2 → Nat :=
  let c2_i32 : BitVec 32 := 2#32
  let arg2 : BitVec 32 := BitVec.ofNat 32 (i 2).val
  let v28 : BitVec 32 := Scalar.muli c2_i32 arg2
  let c1_i32_22 : BitVec 32 := 1#32
  let v29 : BitVec 32 := Scalar.addi v28 c1_i32_22
  let c256_i32 : BitVec 32 := 256#32
  let v30 : BitVec 32 := Scalar.muli v29 c256_i32
  let v31 : BitVec 32 := v30
  let v32 : Index := Scalar.indexCast v31
  let c0_23 : Index := 0#32
  ![v32.toNat, 0]
def k0_off14 (i : grid0.Coords) : Fin 2 → Nat :=
  let c2_i32 : BitVec 32 := 2#32
  let arg2 : BitVec 32 := BitVec.ofNat 32 (i 2).val
  let v28 : BitVec 32 := Scalar.muli c2_i32 arg2
  let c1_i32_22 : BitVec 32 := 1#32
  let v29 : BitVec 32 := Scalar.addi v28 c1_i32_22
  let c256_i32 : BitVec 32 := 256#32
  let v30 : BitVec 32 := Scalar.muli v29 c256_i32
  let v31 : BitVec 32 := v30
  let v39 : Index := Scalar.indexCast v31
  let c128_30 : Index := 128#32
  ![v39.toNat, 128]
def k0_mult11 (i : grid0.Coords) : BitVec 32 :=
  let c2_i32_37 : BitVec 32 := 2#32
  let arg2 : BitVec 32 := BitVec.ofNat 32 (i 2).val
  let v46 : BitVec 32 := Scalar.muli c2_i32_37 arg2
  let c256_i32_38 : BitVec 32 := 256#32
  let v47 : BitVec 32 := Scalar.muli v46 c256_i32_38
  v47
def k0_off15 (i : grid0.Coords) : Fin 2 → Nat :=
  let c0_48 : Index := 0#32
  let c2_i32_37 : BitVec 32 := 2#32
  let arg2 : BitVec 32 := BitVec.ofNat 32 (i 2).val
  let v46 : BitVec 32 := Scalar.muli c2_i32_37 arg2
  let c256_i32_38 : BitVec 32 := 256#32
  let v47 : BitVec 32 := Scalar.muli v46 c256_i32_38
  let v48 : BitVec 32 := v47
  let v67 : Index := Scalar.indexCast v48
  ![0, v67.toNat]
def k0_off16 (i : grid0.Coords) : Fin 2 → Nat :=
  let c128_68 : Index := 128#32
  let c2_i32_37 : BitVec 32 := 2#32
  let arg2 : BitVec 32 := BitVec.ofNat 32 (i 2).val
  let v46 : BitVec 32 := Scalar.muli c2_i32_37 arg2
  let c256_i32_38 : BitVec 32 := 256#32
  let v47 : BitVec 32 := Scalar.muli v46 c256_i32_38
  let v48 : BitVec 32 := v47
  let v101 : Index := Scalar.indexCast v48
  ![128, v101.toNat]
def k0_mult12 (i : grid0.Coords) : BitVec 32 :=
  let c2_i32_79 : BitVec 32 := 2#32
  let arg2 : BitVec 32 := BitVec.ofNat 32 (i 2).val
  let v117 : BitVec 32 := Scalar.muli c2_i32_79 arg2
  let c1_i32_80 : BitVec 32 := 1#32
  let v118 : BitVec 32 := Scalar.addi v117 c1_i32_80
  let c256_i32_81 : BitVec 32 := 256#32
  let v119 : BitVec 32 := Scalar.muli v118 c256_i32_81
  v119
def k0_off17 (i : grid0.Coords) : Fin 2 → Nat :=
  let c0_91 : Index := 0#32
  let c2_i32_79 : BitVec 32 := 2#32
  let arg2 : BitVec 32 := BitVec.ofNat 32 (i 2).val
  let v117 : BitVec 32 := Scalar.muli c2_i32_79 arg2
  let c1_i32_80 : BitVec 32 := 1#32
  let v118 : BitVec 32 := Scalar.addi v117 c1_i32_80
  let c256_i32_81 : BitVec 32 := 256#32
  let v119 : BitVec 32 := Scalar.muli v118 c256_i32_81
  let v120 : BitVec 32 := v119
  let v139 : Index := Scalar.indexCast v120
  ![0, v139.toNat]
def k0_off18 (i : grid0.Coords) : Fin 2 → Nat :=
  let c128_111 : Index := 128#32
  let c2_i32_79 : BitVec 32 := 2#32
  let arg2 : BitVec 32 := BitVec.ofNat 32 (i 2).val
  let v117 : BitVec 32 := Scalar.muli c2_i32_79 arg2
  let c1_i32_80 : BitVec 32 := 1#32
  let v118 : BitVec 32 := Scalar.addi v117 c1_i32_80
  let c256_i32_81 : BitVec 32 := 256#32
  let v119 : BitVec 32 := Scalar.muli v118 c256_i32_81
  let v120 : BitVec 32 := v119
  let v173 : Index := Scalar.indexCast v120
  ![128, v173.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x1024 : Shape := ⟨2, ![32768, 1024]⟩
abbrev S1024x32768 : Shape := ⟨2, ![1024, 32768]⟩
abbrev S8x4096x8x128 : Shape := ⟨4, ![8, 4096, 8, 128]⟩
abbrev S8x4096x8x64 : Shape := ⟨4, ![8, 4096, 8, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S32768x512 : Shape := ⟨2, ![32768, 512]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x32768, .bf16⟩
  | .hbm, ⟨3, _⟩ => ⟨S32768x1024, .f32⟩
  | .hbm, ⟨4, _⟩ => ⟨S8x4096x8x128, .f32⟩
  | .hbm, ⟨5, _⟩ => ⟨S32768x1024, .f32⟩
  | .hbm, ⟨6, _⟩ => ⟨S8x4096x8x128, .f32⟩
  | .hbm, ⟨7, _⟩ => ⟨S1024x32768, .f32⟩
  | .hbm, ⟨8, _⟩ => ⟨S32768x1024, .f32⟩
  | .hbm, ⟨9, _⟩ => ⟨S8x4096x8x128, .f32⟩
  | .hbm, ⟨10, _⟩ => ⟨S8x4096x8x64, .f32⟩
  | .hbm, ⟨11, _⟩ => ⟨S8x8x4096x4096, .f32⟩
  | .hbm, ⟨12, _⟩ => ⟨S_, .f32⟩
  | .hbm, ⟨13, _⟩ => ⟨S_, .f32⟩
  | .hbm, ⟨14, _⟩ => ⟨S8x8x4096x4096, .f32⟩
  | .hbm, ⟨15, _⟩ => ⟨S8x8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S8x8x4096x4096, .i1⟩
  | .hbm, ⟨25, _⟩ => ⟨S8x8x4096x4096, .f32⟩
  | .hbm, ⟨26, _⟩ => ⟨S8x8x4096x4096, .f32⟩
  | .hbm, ⟨27, _⟩ => ⟨S_, .f32⟩
  | .hbm, ⟨28, _⟩ => ⟨S8x8x4096, .f32⟩
  | .hbm, ⟨29, _⟩ => ⟨S_, .f32⟩
  | .hbm, ⟨30, _⟩ => ⟨S8x8x4096, .f32⟩
  | .hbm, ⟨31, _⟩ => ⟨S8x8x4096, .f32⟩
  | .hbm, ⟨32, _⟩ => ⟨S8x8x4096x1, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S_, .f32⟩
  | .hbm, ⟨37, _⟩ => ⟨S8x8x4096, .f32⟩
  | .hbm, ⟨38, _⟩ => ⟨S8x8x4096x1, .f32⟩
  | .hbm, ⟨39, _⟩ => ⟨S8x8x4096x4096, .f32⟩
  | .hbm, ⟨40, _⟩ => ⟨S8x8x4096x4096, .f32⟩
  | .hbm, ⟨41, _⟩ => ⟨S8x8x64x4096, .f32⟩
  | .hbm, ⟨42, _⟩ => ⟨S8x4096x8x64, .f32⟩
  | .hbm, ⟨43, _⟩ => ⟨S32768x512, .f32⟩
  | .hbm, ⟨44, _⟩ => ⟨S32768x512, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Feed.lean ====
abbrev S32768x1024 : Shape := ⟨2, ![32768, 1024]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FeedReferenceIdeal.lean ====
abbrev S32768x1024 : Shape := ⟨2, ![32768, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S1024x4096, .f32⟩
  | .hbm, ⟨20, _⟩ => ⟨S32768x4096, .f32⟩
  | .hbm, ⟨21, _⟩ => ⟨S_, .f32⟩
  | .hbm, ⟨22, _⟩ => ⟨S32768x4096, .f32⟩
  | .hbm, ⟨23, _⟩ => ⟨S32768x4096, .f32⟩
  | .hbm, ⟨24, _⟩ => ⟨S32768x4096, .f32⟩
  | .hbm, ⟨25, _⟩ => ⟨S4096x1024, .f32⟩
  | .hbm, ⟨26, _⟩ => ⟨S32768x1024, .f32⟩
  | .hbm, ⟨27, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proj.lean ====
abbrev S32768x1024 : Shape := ⟨2, ![32768, 1024]⟩
abbrev S1x1024 : Shape := ⟨2, ![1, 1024]⟩
abbrev S1024x6912 : Shape := ⟨2, ![1024, 6912]⟩
abbrev S256x1024 : Shape := ⟨2, ![256, 1024]⟩
abbrev S32768x6912 : Shape := ⟨2, ![32768, 6912]⟩
abbrev S256x32768 : Shape := ⟨2, ![256, 32768]⟩
abbrev S1024x1024 : Shape := ⟨2, ![1024, 1024]⟩
abbrev S1024x2304 : Shape := ⟨2, ![1024, 2304]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x6912, .bf16⟩
  | .hbm, ⟨3, _⟩ => ⟨S256x1024, .bf16⟩
  | .hbm, ⟨4, _⟩ => ⟨S32768x6912, .f32⟩
  | .hbm, ⟨5, _⟩ => ⟨S256x32768, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2304, .bf16⟩
  | .local _ .vmem, ⟨4, _⟩ => ⟨S1024x2304, .bf16⟩
  | .local _ .vmem, ⟨5, _⟩ => ⟨S256x1024, .bf16⟩
  | .local _ .vmem, ⟨6, _⟩ => ⟨S1024x2304, .f32⟩
  | .local _ .vmem, ⟨7, _⟩ => ⟨S1024x2304, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjReferenceIdeal.lean ====
abbrev S32768x1024 : Shape := ⟨2, ![32768, 1024]⟩
abbrev S1x1024 : Shape := ⟨2, ![1, 1024]⟩
abbrev S1024x6912 : Shape := ⟨2, ![1024, 6912]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S32768x6912 : Shape := ⟨2, ![32768, 6912]⟩
abbrev S1024x256 : Shape := ⟨2, ![1024, 256]⟩
abbrev S32768x256 : Shape := ⟨2, ![32768, 256]⟩
abbrev S256x32768 : Shape := ⟨2, ![256, 32768]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x6912, .bf16⟩
  | .hbm, ⟨3, _⟩ => ⟨S256x1024, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S1024x6912, .f32⟩
  | .hbm, ⟨20, _⟩ => ⟨S32768x6912, .f32⟩
  | .hbm, ⟨21, _⟩ => ⟨S256x1024, .f32⟩
  | .hbm, ⟨22, _⟩ => ⟨S1024x256, .f32⟩
  | .hbm, ⟨23, _⟩ => ⟨S32768x256, .f32⟩
  | .hbm, ⟨24, _⟩ => ⟨S256x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Merge.lean ====
abbrev S32768x6912 : Shape := ⟨2, ![32768, 6912]⟩
abbrev S32768x512 : Shape := ⟨2, ![32768, 512]⟩
abbrev S32768x1024 : Shape := ⟨2, ![32768, 1024]⟩
abbrev S8x8x512 : Shape := ⟨3, ![8, 8, 512]⟩
abbrev S8x512 : Shape := ⟨2, ![8, 512]⟩
abbrev S512x1024 : Shape := ⟨2, ![512, 1024]⟩
abbrev S1024x1024 : Shape := ⟨2, ![1024, 1024]⟩
abbrev S512x1536 : Shape := ⟨2, ![512, 1536]⟩
abbrev S512x3072 : Shape := ⟨2, ![512, 3072]⟩
abbrev S512x512 : Shape := ⟨2, ![512, 512]⟩
abbrev S1x8x512 : Shape := ⟨3, ![1, 8, 512]⟩
abbrev S520x512 : Shape := ⟨2, ![520, 512]⟩
abbrev S1x512 : Shape := ⟨2, ![1, 512]⟩

abbrev nBuf : Space → Nat
  | .hbm => 12
  | .vmem => 22
  | .smem => 0
  | _ => 0

abbrev bufTy : (tb : Table) → Fin (tcTables nBuf tb) → BufTy
  | .hbm, ⟨0, _⟩ => ⟨S32768x6912, .f32⟩
  | .hbm, ⟨1, _⟩ => ⟨S32768x512, .bf16⟩
  | .hbm, ⟨2, _⟩ => ⟨S32768x512, .bf16⟩
  | .hbm, ⟨3, _⟩ => ⟨S32768x1024, .f32⟩
  | .hbm, ⟨4, _⟩ => ⟨S8x8x512, .f32⟩
  | .hbm, ⟨5, _⟩ => ⟨S8x512, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S32768x1024, .f32⟩
  | .hbm, ⟨11, _⟩ => ⟨S8x8x512, .f32⟩
  | .local _ .vmem, ⟨0, _⟩ => ⟨S512x1536, .f32⟩
  | .local _ .vmem, ⟨1, _⟩ => ⟨S512x1536, .f32⟩
  | .local _ .vmem, ⟨2, _⟩ => ⟨S512x3072, .f32⟩
  | .local _ .vmem, ⟨3, _⟩ => ⟨S512x3072, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S1x8x512, .f32⟩
  | .local _ .vmem, ⟨11, _⟩ => ⟨S1x8x512, .f32⟩
  | .local _ .vmem, ⟨12, _⟩ => ⟨S8x512, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S1x8x512, .f32⟩
  | .local _ .vmem, ⟨20, _⟩ => ⟨S1x8x512, .f32⟩
  | .local _ .vmem, ⟨21, _⟩ => ⟨S520x512, .f32⟩
  | _, _ => ⟨S32768x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== MergeReferenceIdeal.lean ====
abbrev S32768x6912 : Shape := ⟨2, ![32768, 6912]⟩
abbrev S32768x512 : Shape := ⟨2, ![32768, 512]⟩
abbrev S32768x1024 : Shape := ⟨2, ![32768, 1024]⟩
abbrev S8x8x512 : Shape := ⟨3, ![8, 8, 512]⟩
abbrev S8x512 : Shape := ⟨2, ![8, 512]⟩
abbrev S512x1024 : Shape := ⟨2, ![512, 1024]⟩
abbrev S1024x1024 : Shape := ⟨2, ![1024, 1024]⟩
abbrev S32768x3072 : Shape := ⟨2, ![32768, 3072]⟩
abbrev S8x4096x512 : Shape := ⟨3, ![8, 4096, 512]⟩
abbrev S8x2x512 : Shape := ⟨3, ![8, 2, 512]⟩
abbrev S8x4098x512 : Shape := ⟨3, ![8, 4098, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S32768x6912, .f32⟩
  | .hbm, ⟨1, _⟩ => ⟨S32768x512, .bf16⟩
  | .hbm, ⟨2, _⟩ => ⟨S32768x512, .bf16⟩
  | .hbm, ⟨3, _⟩ => ⟨S32768x1024, .f32⟩
  | .hbm, ⟨4, _⟩ => ⟨S8x8x512, .f32⟩
  | .hbm, ⟨5, _⟩ => ⟨S8x512, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x3072, .f32⟩
  | .hbm, ⟨14, _⟩ => ⟨S32768x512, .f32⟩
  | .hbm, ⟨15, _⟩ => ⟨S8x4096x512, .f32⟩
  | .hbm, ⟨16, _⟩ => ⟨S8x2x512, .f32⟩
  | .hbm, ⟨17, _⟩ => ⟨S8x4098x512, .f32⟩
  | .hbm, ⟨18, _⟩ => ⟨S8x4096x512, .f32⟩
  | .hbm, ⟨19, _⟩ => ⟨S1x512, .f32⟩
  | .hbm, ⟨20, _⟩ => ⟨S512, .f32⟩
  | .hbm, ⟨21, _⟩ => ⟨S1x1x512, .f32⟩
  | .hbm, ⟨22, _⟩ => ⟨S8x4096x512, .f32⟩
  | .hbm, ⟨23, _⟩ => ⟨S8x4096x512, .f32⟩
  | .hbm, ⟨24, _⟩ => ⟨S_, .f32⟩
  | .hbm, ⟨25, _⟩ => ⟨S8x4096x512, .f32⟩
  | .hbm, ⟨26, _⟩ => ⟨S8x4096x512, .f32⟩
  | .hbm, ⟨27, _⟩ => ⟨S8x4096x512, .f32⟩
  | .hbm, ⟨28, _⟩ => ⟨S1x512, .f32⟩
  | .hbm, ⟨29, _⟩ => ⟨S512, .f32⟩
  | .hbm, ⟨30, _⟩ => ⟨S1x1x512, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S8x4096x512, .f32⟩
  | .hbm, ⟨35, _⟩ => ⟨S1x512, .f32⟩
  | .hbm, ⟨36, _⟩ => ⟨S512, .f32⟩
  | .hbm, ⟨37, _⟩ => ⟨S1x1x512, .f32⟩
  | .hbm, ⟨38, _⟩ => ⟨S8x4096x512, .f32⟩
  | .hbm, ⟨39, _⟩ => ⟨S8x4096x512, .f32⟩
  | .hbm, ⟨40, _⟩ => ⟨S8x4096x512, .f32⟩
  | .hbm, ⟨41, _⟩ => ⟨S32768x512, .f32⟩
  | .hbm, ⟨42, _⟩ => ⟨S32768x512, .f32⟩
  | .hbm, ⟨43, _⟩ => ⟨S512x1024, .f32⟩
  | .hbm, ⟨44, _⟩ => ⟨S32768x1024, .f32⟩
  | .hbm, ⟨45, _⟩ => ⟨S32768x512, .f32⟩
  | .hbm, ⟨46, _⟩ => ⟨S512x1024, .f32⟩
  | .hbm, ⟨47, _⟩ => ⟨S32768x1024, .f32⟩
  | .hbm, ⟨48, _⟩ => ⟨S32768x512, .f32⟩
  | .hbm, ⟨49, _⟩ => ⟨S512x1024, .f32⟩
  | .hbm, ⟨50, _⟩ => ⟨S32768x1024, .f32⟩
  | .hbm, ⟨51, _⟩ => ⟨S32768x3072, .f32⟩
  | .hbm, ⟨52, _⟩ => ⟨S32768x3072, .f32⟩
  | .hbm, ⟨53, _⟩ => ⟨S_, .f32⟩
  | .hbm, ⟨54, _⟩ => ⟨S32768x3072, .f32⟩
  | .hbm, ⟨55, _⟩ => ⟨S32768x3072, .f32⟩
  | .hbm, ⟨56, _⟩ => ⟨S_, .f32⟩
  | .hbm, ⟨57, _⟩ => ⟨S32768x3072, .f32⟩
  | .hbm, ⟨58, _⟩ => ⟨S32768x3072, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S1024x1024, .f32⟩
  | .hbm, ⟨68, _⟩ => ⟨S32768x1024, .f32⟩
  | .hbm, ⟨69, _⟩ => ⟨S32768x1024, .f32⟩
  | .hbm, ⟨70, _⟩ => ⟨S8x8x512, .f32⟩
  | _, _ => ⟨S32768x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_0 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Latent.lean ====
abbrev S1024x6912 : Shape := ⟨2, ![1024, 6912]⟩
abbrev S3x1024x128 : Shape := ⟨3, ![3, 1024, 128]⟩
abbrev S1x384 : Shape := ⟨2, ![1, 384]⟩
abbrev S384x1024 : Shape := ⟨2, ![384, 1024]⟩
abbrev S1x256 : Shape := ⟨2, ![1, 256]⟩
abbrev S1x128 : Shape := ⟨2, ![1, 128]⟩
abbrev S1024x1024 : Shape := ⟨2, ![1024, 1024]⟩
abbrev S1024x256 : Shape := ⟨2, ![1024, 256]⟩
abbrev S1024x32 : Shape := ⟨2, ![1024, 32]⟩
abbrev S512x768 : Shape := ⟨2, ![512, 768]⟩
abbrev S3x512x128 : Shape := ⟨3, ![3, 512, 128]⟩
abbrev S512x1024 : Shape := ⟨2, ![512, 1024]⟩
abbrev S512x256 : Shape := ⟨2, ![512, 256]⟩
abbrev S512x32 : Shape := ⟨2, ![512, 32]⟩
abbrev S512x384 : Shape := ⟨2, ![512, 384]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 10
  | .vmem => 16
  | .smem => 0
  | _ => 0

abbrev bufTy : (tb : Table) → Fin (tcTables nBuf tb) → BufTy
  | .hbm, ⟨0, _⟩ => ⟨S1024x6912, .f32⟩
  | .hbm, ⟨1, _⟩ => ⟨S3x1024x128, .f32⟩
  | .hbm, ⟨2, _⟩ => ⟨S3x1024x128, .f32⟩
  | .hbm, ⟨3, _⟩ => ⟨S1x384, .f32⟩
  | .hbm, ⟨4, _⟩ => ⟨S384x1024, .bf16⟩
  | .hbm, ⟨5, _⟩ => ⟨S1x256, .f32⟩
  | .hbm, ⟨6, _⟩ => ⟨S1x128, .f32⟩
  | .hbm, ⟨7, _⟩ => ⟨S1024x1024, .bf16⟩
  | .hbm, ⟨8, _⟩ => ⟨S1024x256, .f32⟩
  | .hbm, ⟨9, _⟩ => ⟨S1024x32, .f32⟩
  | .local _ .vmem, ⟨0, _⟩ => ⟨S512x768, .f32⟩
  | .local _ .vmem, ⟨1, _⟩ => ⟨S512x768, .f32⟩
  | .local _ .vmem, ⟨2, _⟩ => ⟨S3x512x128, .f32⟩
  | .local _ .vmem, ⟨3, _⟩ => ⟨S3x512x128, .f32⟩
  | .local _ .vmem, ⟨4, _⟩ => ⟨S3x512x128, .f32⟩
  | .local _ .vmem, ⟨5, _⟩ => ⟨S3x512x128, .f32⟩
  | .local _ .vmem, ⟨6, _⟩ => ⟨S1x384, .f32⟩
  | .local _ .vmem, ⟨7, _⟩ => ⟨S384x1024, .bf16⟩
  | .local _ .vmem, ⟨8, _⟩ => ⟨S1x256, .f32⟩
  | .local _ .vmem, ⟨9, _⟩ => ⟨S1x128, .f32⟩
  | .local _ .vmem, ⟨10, _⟩ => ⟨S512x1024, .bf16⟩
  | .local _ .vmem, ⟨11, _⟩ => ⟨S512x1024, .bf16⟩
  | .local _ .vmem, ⟨12, _⟩ => ⟨S512x256, .f32⟩
  | .local _ .vmem, ⟨13, _⟩ => ⟨S512x256, .f32⟩
  | .local _ .vmem, ⟨14, _⟩ => ⟨S512x32, .f32⟩
  | .local _ .vmem, ⟨15, _⟩ => ⟨S512x32, .f32⟩
  | _, _ => ⟨S1024x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LatentReferenceIdeal.lean ====
abbrev S1024x6912 : Shape := ⟨2, ![1024, 6912]⟩
abbrev S3x1024x128 : Shape := ⟨3, ![3, 1024, 128]⟩
abbrev S1x384 : Shape := ⟨2, ![1, 384]⟩
abbrev S384x1024 : Shape := ⟨2, ![384, 1024]⟩
abbrev S1x256 : Shape := ⟨2, ![1, 256]⟩
abbrev S1x128 : Shape := ⟨2, ![1, 128]⟩
abbrev S1024x384 : Shape := ⟨2, ![1024, 384]⟩
abbrev S1024x256 : Shape := ⟨2, ![1024, 256]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S1024x1024 : Shape := ⟨2, ![1024, 1024]⟩
abbrev S1024x8x128 : Shape := ⟨3, ![1024, 8, 128]⟩
abbrev S3x1024x1x128 : Shape := ⟨4, ![3, 1024, 1, 128]⟩
abbrev S1x1024x1x128 : Shape := ⟨4, ![1, 1024, 1, 128]⟩
abbrev S1024x1x128 : Shape := ⟨3, ![1024, 1, 128]⟩
abbrev S1024x8x112 : Shape := ⟨3, ![1024, 8, 112]⟩
abbrev S1024x8x16 : Shape := ⟨3, ![1024, 8, 16]⟩
abbrev S1024x8 : Shape := ⟨2, ![1024, 8]⟩
abbrev S1024x8x1 : Shape := ⟨3, ![1024, 8, 1]⟩
abbrev S1x1x128 : Shape := ⟨3, ![1, 1, 128]⟩
abbrev S1x1024x128 : Shape := ⟨3, ![1, 1024, 128]⟩
abbrev S1024x112 : Shape := ⟨2, ![1024, 112]⟩
abbrev S1024x16 : Shape := ⟨2, ![1024, 16]⟩
abbrev S1024x32 : Shape := ⟨2, ![1024, 32]⟩

abbrev nBuf : Space → Nat
  | .hbm => 100
  | .vmem => 0
  | .smem => 0
  | _ => 0

abbrev bufTy : (tb : Table) → Fin (tcTables nBuf tb) → BufTy
  | .hbm, ⟨0, _⟩ => ⟨S1024x6912, .f32⟩
  | .hbm, ⟨1, _⟩ => ⟨S3x1024x128, .f32⟩
  | .hbm, ⟨2, _⟩ => ⟨S3x1024x128, .f32⟩
  | .hbm, ⟨3, _⟩ => ⟨S1x384, .f32⟩
  | .hbm, ⟨4, _⟩ => ⟨S384x1024, .bf16⟩
  | .hbm, ⟨5, _⟩ => ⟨S1x256, .f32⟩
  | .hbm, ⟨6, _⟩ => ⟨S1x128, .f32⟩
  | .hbm, ⟨7, _⟩ => ⟨S1024x384, .f32⟩
  | .hbm, ⟨8, _⟩ => ⟨S1024x256, .f32⟩
  | .hbm, ⟨9, _⟩ => ⟨S1024x128, .f32⟩
  | .hbm, ⟨10, _⟩ => ⟨S1024x384, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x384, .f32⟩
  | .hbm, ⟨22, _⟩ => ⟨S1024x384, .f32⟩
  | .hbm, ⟨23, _⟩ => ⟨S1024x384, .f32⟩
  | .hbm, ⟨24, _⟩ => ⟨S1024x384, .f32⟩
  | .hbm, ⟨25, _⟩ => ⟨S384x1024, .f32⟩
  | .hbm, ⟨26, _⟩ => ⟨S1024x1024, .f32⟩
  | .hbm, ⟨27, _⟩ => ⟨S1024x8x128, .f32⟩
  | .hbm, ⟨28, _⟩ => ⟨S3x1024x1x128, .f32⟩
  | .hbm, ⟨29, _⟩ => ⟨S1x1024x1x128, .f32⟩
  | .hbm, ⟨30, _⟩ => ⟨S1024x1x128, .f32⟩
  | .hbm, ⟨31, _⟩ => ⟨S1x1024x1x128, .f32⟩
  | .hbm, ⟨32, _⟩ => ⟨S1024x1x128, .f32⟩
  | .hbm, ⟨33, _⟩ => ⟨S1x1024x1x128, .f32⟩
  | .hbm, ⟨34, _⟩ => ⟨S1024x1x128, .f32⟩
  | .hbm, ⟨35, _⟩ => ⟨S1024x8x128, .f32⟩
  | .hbm, ⟨36, _⟩ => ⟨S1024x8x128, .f32⟩
  | .hbm, ⟨37, _⟩ => ⟨S1024x8x112, .f32⟩
  | .hbm, ⟨38, _⟩ => ⟨S1024x8x16, .f32⟩
  | .hbm, ⟨39, _⟩ => ⟨S1024x8x128, .f32⟩
  | .hbm, ⟨40, _⟩ => ⟨S1024x8x128, .f32⟩
  | .hbm, ⟨41, _⟩ => ⟨S1024x8x128, .f32⟩
  | .hbm, ⟨42, _⟩ => ⟨S1024x8x128, .f32⟩
  | .hbm, ⟨43, _⟩ => ⟨S1024x8x16, .f32⟩
  | .hbm, ⟨44, _⟩ => ⟨S1024x8x112, .f32⟩
  | .hbm, ⟨45, _⟩ => ⟨S1024x8x128, .f32⟩
  | .hbm, ⟨46, _⟩ => ⟨S1024x8x128, .f32⟩
  | .hbm, ⟨47, _⟩ => ⟨S1024x8x128, .f32⟩
  | .hbm, ⟨48, _⟩ => ⟨S1024x8x128, .f32⟩
  | .hbm, ⟨49, _⟩ => ⟨S1024x8x128, .f32⟩
  | .hbm, ⟨50, _⟩ => ⟨S_, .f32⟩
  | .hbm, ⟨51, _⟩ => ⟨S1024x8, .f32⟩
  | .hbm, ⟨52, _⟩ => ⟨S1024x8x1, .f32⟩
  | .hbm, ⟨53, _⟩ => ⟨S_, .f32⟩
  | .hbm, ⟨54, _⟩ => ⟨S1024x8x1, .f32⟩
  | .hbm, ⟨55, _⟩ => ⟨S1024x8x1, .f32⟩
  | .hbm, ⟨56, _⟩ => ⟨S_, .f32⟩
  | .hbm, ⟨57, _⟩ => ⟨S1024x8x1, .f32⟩
  | .hbm, ⟨58, _⟩ => ⟨S1024x8x1, .f32⟩
  | .hbm, ⟨59, _⟩ => ⟨S1024x8x1, .f32⟩
  | .hbm, ⟨60, _⟩ => ⟨S1024x8x128, .f32⟩
  | .hbm, ⟨61, _⟩ => ⟨S1024x8x128, .f32⟩
  | .hbm, ⟨62, _⟩ => ⟨S1x1x128, .f32⟩
  | .hbm, ⟨63, _⟩ => ⟨S1024x8x128, .f32⟩
  | .hbm, ⟨64, _⟩ => ⟨S1024x8x128, .f32⟩
  | .hbm, ⟨65, _⟩ => ⟨S1024x256, .f32⟩
  | .hbm, ⟨66, _⟩ => ⟨S_, .f32⟩
  | .hbm, ⟨67, _⟩ => ⟨S1024, .f32⟩
  | .hbm, ⟨68, _⟩ => ⟨S1024x1, .f32⟩
  | .hbm, ⟨69, _⟩ => ⟨S_, .f32⟩
  | .hbm, ⟨70, _⟩ => ⟨S1024x1, .f32⟩
  | .hbm, ⟨71, _⟩ => ⟨S1024x1, .f32⟩
  | .hbm, ⟨72, _⟩ => ⟨S_, .f32⟩
  | .hbm, ⟨73, _⟩ => ⟨S1024x1, .f32⟩
  | .hbm, ⟨74, _⟩ => ⟨S1024x1, .f32⟩
  | .hbm, ⟨75, _⟩ => ⟨S1024x1, .f32⟩
  | .hbm, ⟨76, _⟩ => ⟨S1024x256, .f32⟩
  | .hbm, ⟨77, _⟩ => ⟨S1024x256, .f32⟩
  | .hbm, ⟨78, _⟩ => ⟨S1024x256, .f32⟩
  | .hbm, ⟨79, _⟩ => ⟨S1024x256, .f32⟩
  | .hbm, ⟨80, _⟩ => ⟨S1024x1024, .f32⟩
  | .hbm, ⟨81, _⟩ => ⟨S1024x1024, .bf16⟩
  | .hbm, ⟨82, _⟩ => ⟨S1x1024x128, .f32⟩
  | .hbm, ⟨83, _⟩ => ⟨S1024x128, .f32⟩
  | .hbm, ⟨84, _⟩ => ⟨S1x1024x128, .f32⟩
  | .hbm, ⟨85, _⟩ => ⟨S1024x128, .f32⟩
  | .hbm, ⟨86, _⟩ => ⟨S1x1024x128, .f32⟩
  | .hbm, ⟨87, _⟩ => ⟨S1024x128, .f32⟩
  | .hbm, ⟨88, _⟩ => ⟨S1024x128, .f32⟩
  | .hbm, ⟨89, _⟩ => ⟨S1024x112, .f32⟩
  | .hbm, ⟨90, _⟩ => ⟨S1024x16, .f32⟩
  | .hbm, ⟨91, _⟩ => ⟨S1024x128, .f32⟩
  | .hbm, ⟨92, _⟩ => ⟨S1024x128, .f32⟩
  | .hbm, ⟨93, _⟩ => ⟨S1024x128, .f32⟩
  | .hbm, ⟨94, _⟩ => ⟨S1024x16, .f32⟩
  | .hbm, ⟨95, _⟩ => ⟨S1024x112, .f32⟩
  | .hbm, ⟨96, _⟩ => ⟨S1024x128, .f32⟩
  | .hbm, ⟨97, _⟩ => ⟨S1024x128, .f32⟩
  | .hbm, ⟨98, _⟩ => ⟨S1024x128, .f32⟩
  | .hbm, ⟨99, _⟩ => ⟨S1024x32, .f32⟩
  | _, _ => ⟨S1024x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call1_v0 : Ref sig .tc := ⟨.hbm, 43, rfl⟩
abbrev main_call1_v1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call2_v0 : Ref sig .tc := ⟨.hbm, 89, rfl⟩
abbrev main_call2_v1 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call3_v0 : Ref sig .tc := ⟨.hbm, 94, rfl⟩
abbrev main_call3_v1 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Expand.lean ====
abbrev S32768x6912 : Shape := ⟨2, ![32768, 6912]⟩
abbrev S3x4096x128 : Shape := ⟨3, ![3, 4096, 128]⟩
abbrev S1x384 : Shape := ⟨2, ![1, 384]⟩
abbrev S384x1024 : Shape := ⟨2, ![384, 1024]⟩
abbrev S1x256 : Shape := ⟨2, ![1, 256]⟩
abbrev S1x128 : Shape := ⟨2, ![1, 128]⟩
abbrev S256x1024 : Shape := ⟨2, ![256, 1024]⟩
abbrev S128x1024 : Shape := ⟨2, ![128, 1024]⟩
abbrev S1024x256 : Shape := ⟨2, ![1024, 256]⟩
abbrev S32768x1024 : Shape := ⟨2, ![32768, 1024]⟩
abbrev S32768x256 : Shape := ⟨2, ![32768, 256]⟩
abbrev S32768x32 : Shape := ⟨2, ![32768, 32]⟩
abbrev S1024x32768 : Shape := ⟨2, ![1024, 32768]⟩
abbrev S512x768 : Shape := ⟨2, ![512, 768]⟩
abbrev S3x512x128 : Shape := ⟨3, ![3, 512, 128]⟩
abbrev S512x1024 : Shape := ⟨2, ![512, 1024]⟩
abbrev S512x256 : Shape := ⟨2, ![512, 256]⟩
abbrev S512x32 : Shape := ⟨2, ![512, 32]⟩
abbrev S1024x512 : Shape := ⟨2, ![1024, 512]⟩
abbrev S512x384 : Shape := ⟨2, ![512, 384]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 16
  | .vmem => 24
  | .smem => 0
  | _ => 0

abbrev bufTy : (tb : Table) → Fin (tcTables nBuf tb) → BufTy
  | .hbm, ⟨0, _⟩ => ⟨S32768x6912, .f32⟩
  | .hbm, ⟨1, _⟩ => ⟨S3x4096x128, .f32⟩
  | .hbm, ⟨2, _⟩ => ⟨S3x4096x128, .f32⟩
  | .hbm, ⟨3, _⟩ => ⟨S1x384, .f32⟩
  | .hbm, ⟨4, _⟩ => ⟨S384x1024, .bf16⟩
  | .hbm, ⟨5, _⟩ => ⟨S1x256, .f32⟩
  | .hbm, ⟨6, _⟩ => ⟨S1x128, .f32⟩
  | .hbm, ⟨7, _⟩ => ⟨S256x1024, .bf16⟩
  | .hbm, ⟨8, _⟩ => ⟨S128x1024, .bf16⟩
  | .hbm, ⟨9, _⟩ => ⟨S1024x256, .bf16⟩
  | .hbm, ⟨10, _⟩ => ⟨S1x128, .f32⟩
  | .hbm, ⟨11, _⟩ => ⟨S32768x1024, .bf16⟩
  | .hbm, ⟨12, _⟩ => ⟨S32768x256, .f32⟩
  | .hbm, ⟨13, _⟩ => ⟨S32768x32, .f32⟩
  | .hbm, ⟨14, _⟩ => ⟨S32768x1024, .bf16⟩
  | .hbm, ⟨15, _⟩ => ⟨S1024x32768, .bf16⟩
  | .local _ .vmem, ⟨0, _⟩ => ⟨S512x768, .f32⟩
  | .local _ .vmem, ⟨1, _⟩ => ⟨S512x768, .f32⟩
  | .local _ .vmem, ⟨2, _⟩ => ⟨S3x512x128, .f32⟩
  | .local _ .vmem, ⟨3, _⟩ => ⟨S3x512x128, .f32⟩
  | .local _ .vmem, ⟨4, _⟩ => ⟨S3x512x128, .f32⟩
  | .local _ .vmem, ⟨5, _⟩ => ⟨S3x512x128, .f32⟩
  | .local _ .vmem, ⟨6, _⟩ => ⟨S1x384, .f32⟩
  | .local _ .vmem, ⟨7, _⟩ => ⟨S384x1024, .bf16⟩
  | .local _ .vmem, ⟨8, _⟩ => ⟨S1x256, .f32⟩
  | .local _ .vmem, ⟨9, _⟩ => ⟨S1x128, .f32⟩
  | .local _ .vmem, ⟨10, _⟩ => ⟨S256x1024, .bf16⟩
  | .local _ .vmem, ⟨11, _⟩ => ⟨S128x1024, .bf16⟩
  | .local _ .vmem, ⟨12, _⟩ => ⟨S1024x256, .bf16⟩
  | .local _ .vmem, ⟨13, _⟩ => ⟨S1x128, .f32⟩
  | .local _ .vmem, ⟨14, _⟩ => ⟨S512x1024, .bf16⟩
  | .local _ .vmem, ⟨15, _⟩ => ⟨S512x1024, .bf16⟩
  | .local _ .vmem, ⟨16, _⟩ => ⟨S512x256, .f32⟩
  | .local _ .vmem, ⟨17, _⟩ => ⟨S512x256, .f32⟩
  | .local _ .vmem, ⟨18, _⟩ => ⟨S512x32, .f32⟩
  | .local _ .vmem, ⟨19, _⟩ => ⟨S512x32, .f32⟩
  | .local _ .vmem, ⟨20, _⟩ => ⟨S512x1024, .bf16⟩
  | .local _ .vmem, ⟨21, _⟩ => ⟨S512x1024, .bf16⟩
  | .local _ .vmem, ⟨22, _⟩ => ⟨S1024x512, .bf16⟩
  | .local _ .vmem, ⟨23, _⟩ => ⟨S1024x512, .bf16⟩
  | _, _ => ⟨S32768x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_2 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ExpandReferenceIdeal.lean ====
abbrev S32768x6912 : Shape := ⟨2, ![32768, 6912]⟩
abbrev S3x4096x128 : Shape := ⟨3, ![3, 4096, 128]⟩
abbrev S1x384 : Shape := ⟨2, ![1, 384]⟩
abbrev S384x1024 : Shape := ⟨2, ![384, 1024]⟩
abbrev S1x256 : Shape := ⟨2, ![1, 256]⟩
abbrev S1x128 : Shape := ⟨2, ![1, 128]⟩
abbrev S256x1024 : Shape := ⟨2, ![256, 1024]⟩
abbrev S128x1024 : Shape := ⟨2, ![128, 1024]⟩
abbrev S1024x256 : Shape := ⟨2, ![1024, 256]⟩
abbrev S32768x384 : Shape := ⟨2, ![32768, 384]⟩
abbrev S32768x256 : Shape := ⟨2, ![32768, 256]⟩
abbrev S32768x128 : Shape := ⟨2, ![32768, 128]⟩
abbrev S_ : Shape := ⟨0, ![]⟩
abbrev S32768 : Shape := ⟨1, ![32768]⟩
abbrev S32768x1 : Shape := ⟨2, ![32768, 1]⟩
abbrev S32768x1024 : Shape := ⟨2, ![32768, 1024]⟩
abbrev S32768x8x128 : Shape := ⟨3, ![32768, 8, 128]⟩
abbrev S1x3x1x4096x1x128 : Shape := ⟨6, ![1, 3, 1, 4096, 1, 128]⟩
abbrev S1x3x8x4096x1x128 : Shape := ⟨6, ![1, 3, 8, 4096, 1, 128]⟩
abbrev S3x32768x128 : Shape := ⟨3, ![3, 32768, 128]⟩
abbrev S3x32768x1x128 : Shape := ⟨4, ![3, 32768, 1, 128]⟩
abbrev S1x32768x1x128 : Shape := ⟨4, ![1, 32768, 1, 128]⟩
abbrev S32768x1x128 : Shape := ⟨3, ![32768, 1, 128]⟩
abbrev S32768x8x112 : Shape := ⟨3, ![32768, 8, 112]⟩
abbrev S32768x8x16 : Shape := ⟨3, ![32768, 8, 16]⟩
abbrev S1x32768x128 : Shape := ⟨3, ![1, 32768, 128]⟩
abbrev S32768x112 : Shape := ⟨2, ![32768, 112]⟩
abbrev S32768x16 : Shape := ⟨2, ![32768, 16]⟩
abbrev S256x32768 : Shape := ⟨2, ![256, 32768]⟩
abbrev S1024x32768 : Shape := ⟨2, ![1024, 32768]⟩
abbrev S8x128x32768 : Shape := ⟨3, ![8, 128, 32768]⟩
abbrev S8x64x32768 : Shape := ⟨3, ![8, 64, 32768]⟩
abbrev S8x1x32768 : Shape := ⟨3, ![8, 1, 32768]⟩
abbrev S8x63x32768 : Shape := ⟨3, ![8, 63, 32768]⟩
abbrev S32768x8 : Shape := ⟨2, ![32768, 8]⟩
abbrev S32768x8x1 : Shape := ⟨3, ![32768, 8, 1]⟩
abbrev S1x1x128 : Shape := ⟨3, ![1, 1, 128]⟩
abbrev S32768x32 : Shape := ⟨2, ![32768, 32]⟩

abbrev nBuf : Space → Nat
  | .hbm => 145
  | .vmem => 0
  | .smem => 0
  | _ => 0

abbrev hbmTy0_0 (i : Nat) : BufTy := match i % 128 with
  | 0 => ⟨S32768x6912, .f32⟩
  | 1 => ⟨S3x4096x128, .f32⟩
  | 2 => ⟨S3x4096x128, .f32⟩
  | 3 => ⟨S1x384, .f32⟩
  | 4 => ⟨S384x1024, .bf16⟩
  | 5 => ⟨S1x256, .f32⟩
  | 6 => ⟨S1x128, .f32⟩
  | 7 => ⟨S256x1024, .bf16⟩
  | 8 => ⟨S128x1024, .bf16⟩
  | 9 => ⟨S1024x256, .bf16⟩
  | 10 => ⟨S1x128, .f32⟩
  | 11 => ⟨S32768x384, .f32⟩
  | 12 => ⟨S32768x256, .f32⟩
  | 13 => ⟨S32768x128, .f32⟩
  | 14 => ⟨S32768x384, .f32⟩
  | 15 => ⟨S_, .f32⟩
  | 16 => ⟨S32768, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x1, .f32⟩
  | 25 => ⟨S32768x384, .f32⟩
  | 26 => ⟨S32768x384, .f32⟩
  | 27 => ⟨S32768x384, .f32⟩
  | 28 => ⟨S32768x384, .f32⟩
  | 29 => ⟨S384x1024, .f32⟩
  | 30 => ⟨S32768x1024, .f32⟩
  | 31 => ⟨S32768x8x128, .f32⟩
  | 32 => ⟨S1x3x1x4096x1x128, .f32⟩
  | 33 => ⟨S1x3x8x4096x1x128, .f32⟩
  | 34 => ⟨S3x32768x128, .f32⟩
  | 35 => ⟨S3x32768x1x128, .f32⟩
  | 36 => ⟨S1x32768x1x128, .f32⟩
  | 37 => ⟨S32768x1x128, .f32⟩
  | 38 => ⟨S1x32768x1x128, .f32⟩
  | 39 => ⟨S32768x1x128, .f32⟩
  | 40 => ⟨S1x32768x1x128, .f32⟩
  | 41 => ⟨S32768x1x128, .f32⟩
  | 42 => ⟨S32768x8x128, .f32⟩
  | 43 => ⟨S32768x8x128, .f32⟩
  | 44 => ⟨S32768x8x112, .f32⟩
  | 45 => ⟨S32768x8x16, .f32⟩
  | 46 => ⟨S32768x8x128, .f32⟩
  | 47 => ⟨S32768x8x128, .f32⟩
  | 48 => ⟨S32768x8x128, .f32⟩
  | 49 => ⟨S32768x8x128, .f32⟩
  | 50 => ⟨S32768x8x16, .f32⟩
  | 51 => ⟨S32768x8x112, .f32⟩
  | 52 => ⟨S32768x8x128, .f32⟩
  | 53 => ⟨S32768x8x128, .f32⟩
  | 54 => ⟨S32768x8x128, .f32⟩
  | 55 => ⟨S32768x8x128, .f32⟩
  | 56 => ⟨S32768x256, .f32⟩
  | 57 => ⟨S_, .f32⟩
  | 58 => ⟨S32768, .f32⟩
  | 59 => ⟨S32768x1, .f32⟩
  | 60 => ⟨S_, .f32⟩
  | 61 => ⟨S32768x1, .f32⟩
  | 62 => ⟨S32768x1, .f32⟩
  | 63 => ⟨S_, .f32⟩
  | 64 => ⟨S32768x1, .f32⟩
  | 65 => ⟨S32768x1, .f32⟩
  | 66 => ⟨S32768x1, .f32⟩
  | 67 => ⟨S32768x256, .f32⟩
  | 68 => ⟨S32768x256, .f32⟩
  | 69 => ⟨S32768x256, .f32⟩
  | 70 => ⟨S32768x256, .f32⟩
  | 71 => ⟨S1x3x1x4096x1x128, .f32⟩
  | 72 => ⟨S1x3x8x4096x1x128, .f32⟩
  | 73 => ⟨S3x32768x128, .f32⟩
  | 74 => ⟨S1x32768x128, .f32⟩
  | 75 => ⟨S32768x128, .f32⟩
  | 76 => ⟨S1x32768x128, .f32⟩
  | 77 => ⟨S32768x128, .f32⟩
  | 78 => ⟨S1x32768x128, .f32⟩
  | 79 => ⟨S32768x128, .f32⟩
  | 80 => ⟨S32768x128, .f32⟩
  | 81 => ⟨S32768x112, .f32⟩
  | 82 => ⟨S32768x16, .f32⟩
  | 83 => ⟨S32768x128, .f32⟩
  | 84 => ⟨S32768x128, .f32⟩
  | 85 => ⟨S32768x128, .f32⟩
  | 86 => ⟨S32768x16, .f32⟩
  | 87 => ⟨S32768x112, .f32⟩
  | 88 => ⟨S32768x128, .f32⟩
  | 89 => ⟨S32768x128, .f32⟩
  | 90 => ⟨S32768x128, .f32⟩
  | 91 => ⟨S256x1024, .f32⟩
  | 92 => ⟨S32768x1024, .f32⟩
  | 93 => ⟨S128x1024, .f32⟩
  | 94 => ⟨S32768x1024, .f32⟩
  | 95 => ⟨S32768x1024, .f32⟩
  | 96 => ⟨S1024x256, .f32⟩
  | 97 => ⟨S256x32768, .f32⟩
  | 98 => ⟨S1024x32768, .f32⟩
  | 99 => ⟨S8x128x32768, .f32⟩
  | 100 => ⟨S8x64x32768, .f32⟩
  | 101 => ⟨S_, .f32⟩
  | 102 => ⟨S8x1x32768, .f32⟩
  | 103 => ⟨S8x63x32768, .f32⟩
  | 104 => ⟨S8x128x32768, .f32⟩
  | 105 => ⟨S32768x8x128, .f32⟩
  | 106 => ⟨S_, .f32⟩
  | 107 => ⟨S32768x8, .f32⟩
  | 108 => ⟨S32768x8x1, .f32⟩
  | 109 => ⟨S_, .f32⟩
  | 110 => ⟨S32768x8x1, .f32⟩
  | 111 => ⟨S32768x8x1, .f32⟩
  | 112 => ⟨S_, .f32⟩
  | 113 => ⟨S32768x8x1, .f32⟩
  | 114 => ⟨S32768x8x1, .f32⟩
  | 115 => ⟨S32768x8x1, .f32⟩
  | 116 => ⟨S32768x8x128, .f32⟩
  | 117 => ⟨S32768x8x128, .f32⟩
  | 118 => ⟨S1x1x128, .f32⟩
  | 119 => ⟨S32768x8x128, .f32⟩
  | 120 => ⟨S32768x8x128, .f32⟩
  | 121 => ⟨S32768x1024, .f32⟩
  | 122 => ⟨S32768x1024, .bf16⟩
  | 123 => ⟨S32768x32, .f32⟩
  | 124 => ⟨S32768x8x128, .f32⟩
  | 125 => ⟨S32768x8x128, .f32⟩
  | 126 => ⟨S_, .f32⟩
  | 127 => ⟨S32768x8, .f32⟩
  | _ => ⟨S32768x6912, .f32⟩

abbrev hbmTy0_1 (i : Nat) : BufTy := match i % 128 with
  | 0 => ⟨S32768x8x1, .f32⟩
  | 1 => ⟨S_, .f32⟩
  | 2 => ⟨S32768x8x1, .f32⟩
  | 3 => ⟨S32768x8x1, .f32⟩
  | 4 => ⟨S_, .f32⟩
  | 5 => ⟨S32768x8x1, .f32⟩
  | 6 => ⟨S32768x8x1, .f32⟩
  | 7 => ⟨S32768x8x1, .f32⟩
  | 8 => ⟨S32768x8x128, .f32⟩
  | 9 => ⟨S32768x8x128, .f32⟩
  | 10 => ⟨S1x1x128, .f32⟩
  | 11 => ⟨S32768x8x128, .f32⟩
  | 12 => ⟨S32768x8x128, .f32⟩
  | 13 => ⟨S32768x1024, .f32⟩
  | 14 => ⟨S32768x1024, .bf16⟩
  | 15 => ⟨S1024x32768, .f32⟩
  | 16 => ⟨S1024x32768, .bf16⟩
  | _ => ⟨S32768x6912, .f32⟩

abbrev hbmTy (i : Nat) : BufTy := match i / 128 with
  | 0 => hbmTy0_0 i
  | 1 => hbmTy0_1 i
  | _ => ⟨S32768x6912, .f32⟩

abbrev bufTy : (tb : Table) → Fin (tcTables nBuf tb) → BufTy
  | .hbm, ⟨i, _⟩ => hbmTy i
  | _, _ => ⟨S32768x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call1_v0 : Ref sig .tc := ⟨.hbm, 50, rfl⟩
abbrev main_call1_v1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_2 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call2_v0 : Ref sig .tc := ⟨.hbm, 81, rfl⟩
abbrev main_call2_v1 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call3_v0 : Ref sig .tc := ⟨.hbm, 86, rfl⟩
abbrev main_call3_v1 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_5 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_6 : Ref sig .tc := ⟨.hbm, 106, rfl⟩
abbrev main_v80 : Ref sig .tc := ⟨.hbm, 107, rfl⟩
abbrev main_v81 : Ref sig .tc := ⟨.hbm, 108, rfl⟩
abbrev main_cst_7 : Ref sig .tc := ⟨.hbm, 109, rfl⟩
abbrev main_v82 : Ref sig .tc := ⟨.hbm, 110, rfl⟩
abbrev main_v83 : Ref sig .tc := ⟨.hbm, 111, rfl⟩
abbrev main_cst_8 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_9 : Ref sig .tc := ⟨.hbm, 126, rfl⟩
abbrev main_v97 : Ref sig .tc := ⟨.hbm, 127, rfl⟩
abbrev main_v98 : Ref sig .tc := ⟨.hbm, 128, rfl⟩
abbrev main_cst_10 : Ref sig .tc := ⟨.hbm, 129, rfl⟩
abbrev main_v99 : Ref sig .tc := ⟨.hbm, 130, rfl⟩
abbrev main_v100 : Ref sig .tc := ⟨.hbm, 131, rfl⟩
abbrev main_cst_11 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩

abbrev nD : Nat := 1
abbrev τ : Topo := Topo.v7x

variable {F : FTy → Type} [FloatOps F]
-- ==== Mix.lean ====
abbrev S1024x6912 : Shape := ⟨2, ![1024, 6912]⟩
abbrev S1024x512 : Shape := ⟨2, ![1024, 512]⟩
abbrev S1024x1024 : Shape := ⟨2, ![1024, 1024]⟩
abbrev S8x512 : Shape := ⟨2, ![8, 512]⟩
abbrev S512x1024 : Shape := ⟨2, ![512, 1024]⟩
abbrev S512x1536 : Shape := ⟨2, ![512, 1536]⟩
abbrev S512x3072 : Shape := ⟨2, ![512, 3072]⟩
abbrev S512x512 : Shape := ⟨2, ![512, 512]⟩
abbrev S1x512 : Shape := ⟨2, ![1, 512]⟩

abbrev nBuf : Space → Nat
  | .hbm => 13
  | .vmem => 23
  | .smem => 0
  | _ => 0

abbrev bufTy : (tb : Table) → Fin (tcTables nBuf tb) → BufTy
  | .hbm, ⟨0, _⟩ => ⟨S1024x6912, .f32⟩
  | .hbm, ⟨1, _⟩ => ⟨S1024x512, .bf16⟩
  | .hbm, ⟨2, _⟩ => ⟨S1024x512, .bf16⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S8x512, .f32⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1024x1024, .f32⟩
  | .hbm, ⟨12, _⟩ => ⟨S1024x512, .f32⟩
  | .local _ .vmem, ⟨0, _⟩ => ⟨S512x1536, .f32⟩
  | .local _ .vmem, ⟨1, _⟩ => ⟨S512x1536, .f32⟩
  | .local _ .vmem, ⟨2, _⟩ => ⟨S512x3072, .f32⟩
  | .local _ .vmem, ⟨3, _⟩ => ⟨S512x3072, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S8x512, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | .local _ .vmem, ⟨21, _⟩ => ⟨S512x512, .f32⟩
  | .local _ .vmem, ⟨22, _⟩ => ⟨S512x512, .f32⟩
  | _, _ => ⟨S1024x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixReferenceIdeal.lean ====
abbrev S1024x6912 : Shape := ⟨2, ![1024, 6912]⟩
abbrev S1024x512 : Shape := ⟨2, ![1024, 512]⟩
abbrev S1024x1024 : Shape := ⟨2, ![1024, 1024]⟩
abbrev S8x512 : Shape := ⟨2, ![8, 512]⟩
abbrev S512x1024 : Shape := ⟨2, ![512, 1024]⟩
abbrev S1024x3072 : Shape := ⟨2, ![1024, 3072]⟩
abbrev S128x8x512 : Shape := ⟨3, ![128, 8, 512]⟩
abbrev S128x1x512 : Shape := ⟨3, ![128, 1, 512]⟩
abbrev S128x6x512 : Shape := ⟨3, ![128, 6, 512]⟩
abbrev S128x7x512 : Shape := ⟨3, ![128, 7, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S1024x6912, .f32⟩
  | .hbm, ⟨1, _⟩ => ⟨S1024x512, .bf16⟩
  | .hbm, ⟨2, _⟩ => ⟨S1024x512, .bf16⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S8x512, .f32⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x3072, .f32⟩
  | .hbm, ⟨15, _⟩ => ⟨S1024x512, .f32⟩
  | .hbm, ⟨16, _⟩ => ⟨S128x8x512, .f32⟩
  | .hbm, ⟨17, _⟩ => ⟨S128x8x512, .f32⟩
  | .hbm, ⟨18, _⟩ => ⟨S128x8x512, .f32⟩
  | .hbm, ⟨19, _⟩ => ⟨S128x1x512, .f32⟩
  | .hbm, ⟨20, _⟩ => ⟨S128x1x512, .f32⟩
  | .hbm, ⟨21, _⟩ => ⟨S128x6x512, .f32⟩
  | .hbm, ⟨22, _⟩ => ⟨S128x8x512, .f32⟩
  | .hbm, ⟨23, _⟩ => ⟨S128x1x512, .f32⟩
  | .hbm, ⟨24, _⟩ => ⟨S128x7x512, .f32⟩
  | .hbm, ⟨25, _⟩ => ⟨S128x8x512, .f32⟩
  | .hbm, ⟨26, _⟩ => ⟨S1x512, .f32⟩
  | .hbm, ⟨27, _⟩ => ⟨S512, .f32⟩
  | .hbm, ⟨28, _⟩ => ⟨S1x1x512, .f32⟩
  | .hbm, ⟨29, _⟩ => ⟨S128x8x512, .f32⟩
  | .hbm, ⟨30, _⟩ => ⟨S128x8x512, .f32⟩
  | .hbm, ⟨31, _⟩ => ⟨S1x512, .f32⟩
  | .hbm, ⟨32, _⟩ => ⟨S512, .f32⟩
  | .hbm, ⟨33, _⟩ => ⟨S1x1x512, .f32⟩
  | .hbm, ⟨34, _⟩ => ⟨S128x8x512, .f32⟩
  | .hbm, ⟨35, _⟩ => ⟨S128x8x512, .f32⟩
  | .hbm, ⟨36, _⟩ => ⟨S128x8x512, .f32⟩
  | .hbm, ⟨37, _⟩ => ⟨S1x512, .f32⟩
  | .hbm, ⟨38, _⟩ => ⟨S512, .f32⟩
  | .hbm, ⟨39, _⟩ => ⟨S1x1x512, .f32⟩
  | .hbm, ⟨40, _⟩ => ⟨S128x8x512, .f32⟩
  | .hbm, ⟨41, _⟩ => ⟨S128x8x512, .f32⟩
  | .hbm, ⟨42, _⟩ => ⟨S128x8x512, .f32⟩
  | .hbm, ⟨43, _⟩ => ⟨S1024x512, .f32⟩
  | .hbm, ⟨44, _⟩ => ⟨S1024x512, .f32⟩
  | .hbm, ⟨45, _⟩ => ⟨S512x1024, .f32⟩
  | .hbm, ⟨46, _⟩ => ⟨S1024x1024, .f32⟩
  | .hbm, ⟨47, _⟩ => ⟨S1024x512, .f32⟩
  | .hbm, ⟨48, _⟩ => ⟨S512x1024, .f32⟩
  | .hbm, ⟨49, _⟩ => ⟨S1024x1024, .f32⟩
  | .hbm, ⟨50, _⟩ => ⟨S1024x512, .f32⟩
  | .hbm, ⟨51, _⟩ => ⟨S512x1024, .f32⟩
  | .hbm, ⟨52, _⟩ => ⟨S1024x1024, .f32⟩
  | .hbm, ⟨53, _⟩ => ⟨S1024x3072, .f32⟩
  | .hbm, ⟨54, _⟩ => ⟨S1024x3072, .f32⟩
  | .hbm, ⟨55, _⟩ => ⟨S_, .f32⟩
  | .hbm, ⟨56, _⟩ => ⟨S1024x3072, .f32⟩
  | .hbm, ⟨57, _⟩ => ⟨S1024x3072, .f32⟩
  | .hbm, ⟨58, _⟩ => ⟨S_, .f32⟩
  | .hbm, ⟨59, _⟩ => ⟨S1024x3072, .f32⟩
  | .hbm, ⟨60, _⟩ => ⟨S1024x3072, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S1024x1024, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S1024x1024, .f32⟩
  | .hbm, ⟨72, _⟩ => ⟨S1024x512, .f32⟩
  | _, _ => ⟨S1024x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst : Ref sig .tc := ⟨.hbm, 55, rfl⟩
abbrev main_v44 : Ref sig .tc := ⟨.hbm, 56, rfl⟩
abbrev main_v45 : Ref sig .tc := ⟨.hbm, 57, rfl⟩
abbrev main_cst_0 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Proof.FlashModel.lean ====
/-
  What one grid point of the attention kernel computes, as plain functions of its three input blocks.

  The point holds two heads side by side, which never meet: each has its scores of the key block ahead, its running maximum
  and its running accumulator. One trip of the loop takes two key blocks; after the loop the last two blocks, the ones
  the causal mask cuts, follow. The functions here are the payloads of the printed program put together in that order.
-/
module

public import proofs.«01_k».proof.Proof.Gen.KernelIdeal.Skeleton
public import Idealize.ShloMosaic.Lib.Pointwise.Index

@[expose] public section

noncomputable section

namespace Cert.Flash

open Idealize.ShloMosaic Idealize.ShloMosaic.TcCoe
open Cert.KernelIdeal Cert.KernelIdeal.Gen

variable {F : FTy → Type} [FloatOps F] [Named F]

/-- Head `h`'s queries of the block: columns `128 h ..`. -/
def qBlock (x : Vec F S512x256 .bf16) (h : Fin 2) : Vec F S512x128 .bf16 := fun y =>
  x (ix2 (n0 := 512) (n1 := 256) ⟨(y 0).val, (y 0).isLt⟩ ⟨128 * h.val + (y 1).val, by have := (y 1).isLt; have := h.isLt; simp at *; omega⟩)

/-- Head `h`'s keys of key block `n`: rows `256 n ..`, columns `128 h ..`. -/
def kBlock (x : Vec F S4096x256 .bf16) (h : Fin 2) (n : ℕ) : Vec F S256x128 .bf16 := fun y =>
  x (ix2 (n0 := 4096) (n1 := 256) (Fin.ofNat 4096 (256 * n + (y 0).val)) ⟨128 * h.val + (y 1).val, by have := (y 1).isLt; have := h.isLt; simp at *; omega⟩)

/-- Head `h`'s values of key block `n`, one column per key: rows `128 h ..`, columns `256 n ..`. -/
def vBlock (x : Vec F S256x4096 .bf16) (h : Fin 2) (n : ℕ) : Vec F S128x256 .bf16 := fun y =>
  x (ix2 (n0 := 256) (n1 := 4096) ⟨128 * h.val + (y 0).val, by have := (y 0).isLt; have := h.isLt; simp at *; omega⟩ (Fin.ofNat 4096 (256 * n + (y 1).val)))

/-- What one head carries: the scores of the key block ahead, the running maximum, the running accumulator. -/
structure Carried (F : FTy → Type) where
  ahead : Vec F S1x256x512 .f32
  top : Vec F S1x1x512 .f32
  acc : Vec F S1x128x512 .f32

/-- Before the loop: the first block's scores, the maximum at the fill value, the accumulator at zero. -/
def begin (x0 : Vec F S512x256 .bf16) (x1 : Vec F S4096x256 .bf16) (h : Fin 2) : Carried F where
  ahead := k0_pay54 (kBlock x1 h 0) (qBlock x0 h)
  top := fun _ => Named.named κ "mask" 0xF149F2CA#32
  acc := fun _ => Scalar.ofBits .f32 0x00000000#32

/-- One trip: two key blocks taken in, the third one's scores left ahead. -/
def trip (x0 : Vec F S512x256 .bf16) (x1 : Vec F S4096x256 .bf16) (x2 : Vec F S256x4096 .bf16) (h : Fin 2) (k : ℕ) (s : Carried F) :
    Carried F where
  ahead := k0_pay54 (kBlock x1 h (2 * k + 2)) (qBlock x0 h)
  top := k0_pay76 (k0_pay19 (k0_pay54 (kBlock x1 h (2 * k + 1)) (qBlock x0 h))) (k0_pay76 (k0_pay19 s.ahead) s.top)
  acc := k0_pay75 (k0_pay19 (k0_pay54 (kBlock x1 h (2 * k + 1)) (qBlock x0 h))) (k0_pay76 (k0_pay19 s.ahead) s.top)
    (vBlock x2 h (2 * k + 1)) (k0_pay75 (k0_pay19 s.ahead) s.top (vBlock x2 h (2 * k)) s.acc)

/-- What the head carries after `n` trips. -/
def carried (x0 : Vec F S512x256 .bf16) (x1 : Vec F S4096x256 .bf16) (x2 : Vec F S256x4096 .bf16) (h : Fin 2) : ℕ → Carried F
  | 0 => begin x0 x1 h
  | k + 1 => trip x0 x1 x2 h k (carried x0 x1 x2 h k)

/-- The running maximum after the first of the two masked blocks, the loop having made `q` trips. -/
def lateTop (x0 : Vec F S512x256 .bf16) (x1 : Vec F S4096x256 .bf16) (x2 : Vec F S256x4096 .bf16) (h : Fin 2) (q : ℕ) : Vec F S1x1x512 .f32 :=
  k0_pay76 (k0_pay72 (carried x0 x1 x2 h q).ahead) (carried x0 x1 x2 h q).top

/-- The accumulator there. -/
def lateAcc (x0 : Vec F S512x256 .bf16) (x1 : Vec F S4096x256 .bf16) (x2 : Vec F S256x4096 .bf16) (h : Fin 2) (q : ℕ) : Vec F S1x128x512 .f32 :=
  k0_pay75 (k0_pay72 (carried x0 x1 x2 h q).ahead) (carried x0 x1 x2 h q).top (vBlock x2 h (2 * q)) (carried x0 x1 x2 h q).acc

/-- The accumulator after the second masked block. -/
def lastAcc (x0 : Vec F S512x256 .bf16) (x1 : Vec F S4096x256 .bf16) (x2 : Vec F S256x4096 .bf16) (h : Fin 2) (q : ℕ) : Vec F S1x128x512 .f32 :=
  k0_pay75 (k0_pay77 (k0_pay54 (kBlock x1 h (2 * q + 1)) (qBlock x0 h))) (lateTop x0 x1 x2 h q) (vBlock x2 h (2 * q + 1))
    (lateAcc x0 x1 x2 h q)

/-- The output block: the two heads' quotients side by side. -/
def outBlock (x0 : Vec F S512x256 .bf16) (x1 : Vec F S4096x256 .bf16) (x2 : Vec F S256x4096 .bf16) (q : ℕ) : Vec F S512x128 .bf16 :=
  k0_pay1 (k0_pay87 (lastAcc x0 x1 x2 0 q)) (k0_pay87 (lastAcc x0 x1 x2 1 q)) k0_pay89

end Cert.Flash

end
-- ==== Proof.FlashRun.lean ====
/-
  One grid point of the attention kernel, run from start to end: what its one store leaves in the output block.

  The launch is the frame certificate's run of the body, stated with the stored pieces as a function of what the four
  scratch buffers held when the point began. The second score buffer is never written before the loop over the key blocks,
  so the state the loop starts from names its old contents; the values do not depend on them, which is proved afterwards.
-/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at any grid point, on whole staging memrefs, the inputs' at their contents, the output's and the scratch
    buffers' at anything: it runs to the continuation with the inputs' as they were and the output's with the pieces
    written, which are the witness the run finds. -/
noncomputable def pointRun (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S512x128 .bf16) (harg6 : arg6.IsWhole) (arg7 : Memref sig .tc .vmem S2x256x512 .f32) (harg7 : arg7.IsWhole) (arg8 : Memref sig .tc .vmem S2x256x512 .f32) (harg8 : arg8.IsWhole) (arg9 : Memref sig .tc .vmem S2x1x512 .f32) (harg9 : arg9.IsWhole) (arg10 : Memref sig .tc .vmem S2x128x512 .f32) (harg10 : arg10.IsWhole)
    (x0 : Vec F S512x256 .bf16) (x1 : Vec F S4096x256 .bf16) (x2 : Vec F S256x4096 .bf16) :
    { L3 : BufTy.Contents (Elt F) arg7.view.ty → BufTy.Contents (Elt F) arg8.view.ty → BufTy.Contents (Elt F) arg9.view.ty →
        BufTy.Contents (Elt F) arg10.view.ty → List (View.Piece (Elt F) S512x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ f s0 s1 s2 s3, arg6.view.loc (c : Thread nD τ) ↦[arg6.view.set]{fullShare} arg6.view.writes (Elt F) f (L3 s0 s1 s2 s3)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_flash i arg3 harg3 arg4 harg4 arg5 harg5 arg6 harg6 arg7 harg7 arg8 harg8 arg9 harg9 arg10 harg10) K } := by
  refine ⟨?_, fun E K => ?run⟩
  case run =>
    simp only [cc0_flash_eq_skeleton]; unfold cc0_flash_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _, fs0, fs1, fs2, fs3; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Flash

end
-- ==== Proof.FlashReads.lean ====
/-
  Reading the kernel's buffers: the blocks it loads from its inputs, and the halves of its scratch buffers, one per head.
-/
module

public import proofs.«01_k».proof.Proof.FlashModel
public import proofs.«01_k».proof.Proof.FlashRun
public import Idealize.ShloMosaic.Lib.LoopRemainder
public import Idealize.ShloMosaic.Lib.Pipeline.ReadBack

@[expose] public section

set_option maxRecDepth 16384

noncomputable section

namespace Cert.Flash

open Idealize.ShloMosaic Idealize.ShloMosaic.TcCoe
open Cert.KernelIdeal Cert.KernelIdeal.Gen

variable {F : FTy → Type} [FloatOps F] [Named F]

/-! ## The words of the offsets -/

/-- The loop makes as many trips as the query block's number. -/
theorem trips_eq (i : grid0.Coords) : (k0_t1_loop i).trips = (i 2).val :=
  (by decide +kernel : ∀ q : Fin 8, Scf.trips 0#32 (Scalar.addi 0#32 (Scalar.muli (Scalar.divsi (Scalar.subi (BitVec.ofNat 32 q.val) 0#32) 1#32) 1#32)) 1#32
    = q.val) (i 2)

/-- The remainder loop makes none. -/
theorem trips_rest (i : grid0.Coords) : (k0_t2_loop i).trips = 0 :=
  Scf.rem_trips 0#32 _

theorem trip_lt (i : grid0.Coords) (k : Fin (k0_t1_loop i).trips) : k.val < 8 :=
  lt_trans (lt_of_lt_of_eq k.isLt (trips_eq i)) (i 2).isLt

theorem word_block1 : ∀ k : Fin 8, (Scalar.muli (Scalar.addi (Scalar.muli 2#32 (Scf.iv 0#32 1#32 k.val)) 1#32) 256#32).toNat = 256 * (2 * k.val + 1) := by
  decide +kernel
theorem word_block2 : ∀ k : Fin 8, (Scalar.muli (Scalar.addi (Scalar.muli 2#32 (Scf.iv 0#32 1#32 k.val)) 2#32) 256#32).toNat = 256 * (2 * k.val + 2) := by
  decide +kernel
theorem word_block0 : ∀ k : Fin 8, (Scalar.muli (Scalar.muli 2#32 (Scf.iv 0#32 1#32 k.val)) 256#32).toNat = 256 * (2 * k.val) := by
  decide +kernel
theorem word_last0 : ∀ q : Fin 8, (Scalar.muli (Scalar.muli 2#32 (BitVec.ofNat 32 q.val)) 256#32).toNat = 256 * (2 * q.val) := by
  decide +kernel
theorem word_last1 : ∀ q : Fin 8, (Scalar.muli (Scalar.addi (Scalar.muli 2#32 (BitVec.ofNat 32 q.val)) 1#32) 256#32).toNat = 256 * (2 * q.val + 1) := by
  decide +kernel

/-! ## Blocks of the inputs -/

/-- A load of a key block. -/
theorem load_k (arg4 : Memref sig .tc .vmem S4096x256 .bf16) (harg4 : arg4.IsWhole) (x : Vec F S4096x256 .bf16)
    (off : Fin 2 → ℕ) (inb : ∀ a, off a + (![256, 128] : Fin 2 → ℕ) a ≤ S4096x256.size a) (h : Fin 2) (n : ℕ)
    (h0 : off 0 = 256 * n) (h1 : off 1 = 128 * h.val) :
    View.readAt (Elt F) arg4.view (Rect.unit (s := S4096x256) off ![256, 128] inb).toLoadRect (harg4.unread x) = kBlock x h n := by
  rw [View.readAt_eq_ld, harg4.read_unread]
  funext y
  unfold kBlock
  refine congrArg x (funext fun a => Fin.ext ?_)
  have i0 := inb 0
  have y0 : (y 0).val < 256 := (y 0).isLt
  match a with
  | ⟨0, _⟩ =>
    show off 0 + 1 * (y 0).val = (256 * n + (y 0).val) % 4096
    have : off 0 + 256 ≤ 4096 := i0
    rw [Nat.mod_eq_of_lt (by omega)]; omega
  | ⟨1, _⟩ => show off 1 + 1 * (y 1).val = 128 * h.val + (y 1).val; omega

/-- A load of a head's queries. -/
theorem load_q (arg3 : Memref sig .tc .vmem S512x256 .bf16) (harg3 : arg3.IsWhole) (x : Vec F S512x256 .bf16)
    (off : Fin 2 → ℕ) (inb : ∀ a, off a + (![512, 128] : Fin 2 → ℕ) a ≤ S512x256.size a) (h : Fin 2)
    (h0 : off 0 = 0) (h1 : off 1 = 128 * h.val) :
    View.readAt (Elt F) arg3.view (Rect.unit (s := S512x256) off ![512, 128] inb).toLoadRect (harg3.unread x) = qBlock x h := by
  rw [View.readAt_eq_ld, harg3.read_unread]
  funext y
  unfold qBlock
  refine congrArg x (funext fun a => Fin.ext ?_)
  match a with
  | ⟨0, _⟩ => show off 0 + 1 * (y 0).val = (y 0).val; omega
  | ⟨1, _⟩ => show off 1 + 1 * (y 1).val = 128 * h.val + (y 1).val; omega

/-- A load of a block of values. -/
theorem load_v (arg5 : Memref sig .tc .vmem S256x4096 .bf16) (harg5 : arg5.IsWhole) (x : Vec F S256x4096 .bf16)
    (off : Fin 2 → ℕ) (inb : ∀ a, off a + (![128, 256] : Fin 2 → ℕ) a ≤ S256x4096.size a) (h : Fin 2) (n : ℕ)
    (h0 : off 0 = 128 * h.val) (h1 : off 1 = 256 * n) :
    View.readAt (Elt F) arg5.view (Rect.unit (s := S256x4096) off ![128, 256] inb).toLoadRect (harg5.unread x) = vBlock x h n := by
  rw [View.readAt_eq_ld, harg5.read_unread]
  funext y
  unfold vBlock
  refine congrArg x (funext fun a => Fin.ext ?_)
  have i1 := inb 1
  have y1 : (y 1).val < 256 := (y 1).isLt
  match a with
  | ⟨0, _⟩ => show off 0 + 1 * (y 0).val = 128 * h.val + (y 0).val; omega
  | ⟨1, _⟩ =>
    show off 1 + 1 * (y 1).val = (256 * n + (y 1).val) % 4096
    have : off 1 + 256 ≤ 4096 := i1
    rw [Nat.mod_eq_of_lt (by omega)]; omega

section Loads
variable (arg3 : Memref sig .tc .vmem S512x256 .bf16) (harg3 : arg3.IsWhole) (x0 : Vec F S512x256 .bf16)
  (arg4 : Memref sig .tc .vmem S4096x256 .bf16) (harg4 : arg4.IsWhole) (x1 : Vec F S4096x256 .bf16)
  (arg5 : Memref sig .tc .vmem S256x4096 .bf16) (harg5 : arg5.IsWhole) (x2 : Vec F S256x4096 .bf16)
  (i : grid0.Coords) (k : Fin (k0_t1_loop i).trips)

theorem ld_q0 (inb) : View.readAt (Elt F) arg3.view (Rect.unit (s := S512x256) ![0, 0] ![512, 128] inb).toLoadRect (harg3.unread x0) = qBlock x0 0 :=
  load_q arg3 harg3 x0 _ inb 0 rfl rfl
theorem ld_q1 (inb) : View.readAt (Elt F) arg3.view (Rect.unit (s := S512x256) ![0, 128] ![512, 128] inb).toLoadRect (harg3.unread x0) = qBlock x0 1 :=
  load_q arg3 harg3 x0 _ inb 1 rfl rfl
theorem ld_k00 (inb) : View.readAt (Elt F) arg4.view (Rect.unit (s := S4096x256) ![0, 0] ![256, 128] inb).toLoadRect (harg4.unread x1) = kBlock x1 0 0 :=
  load_k arg4 harg4 x1 _ inb 0 0 rfl rfl
theorem ld_k01 (inb) : View.readAt (Elt F) arg4.view (Rect.unit (s := S4096x256) ![0, 128] ![256, 128] inb).toLoadRect (harg4.unread x1) = kBlock x1 1 0 :=
  load_k arg4 harg4 x1 _ inb 1 0 rfl rfl
theorem ld_k1 (inb) : View.readAt (Elt F) arg4.view (Rect.unit (s := S4096x256) (k0_off1 i k 1#32) ![256, 128] inb).toLoadRect (harg4.unread x1)
    = kBlock x1 0 (2 * k.val + 1) :=
  load_k arg4 harg4 x1 _ inb 0 _ (word_block1 ⟨k.val, trip_lt i k⟩) rfl
theorem ld_k2 (inb) : View.readAt (Elt F) arg4.view (Rect.unit (s := S4096x256) (k0_off1 i k 2#32) ![256, 128] inb).toLoadRect (harg4.unread x1)
    = kBlock x1 0 (2 * k.val + 2) :=
  load_k arg4 harg4 x1 _ inb 0 _ (word_block2 ⟨k.val, trip_lt i k⟩) rfl
theorem ld_k1' (inb) : View.readAt (Elt F) arg4.view (Rect.unit (s := S4096x256) (k0_off2 i k 1#32) ![256, 128] inb).toLoadRect (harg4.unread x1)
    = kBlock x1 1 (2 * k.val + 1) :=
  load_k arg4 harg4 x1 _ inb 1 _ (word_block1 ⟨k.val, trip_lt i k⟩) rfl
theorem ld_k2' (inb) : View.readAt (Elt F) arg4.view (Rect.unit (s := S4096x256) (k0_off2 i k 2#32) ![256, 128] inb).toLoadRect (harg4.unread x1)
    = kBlock x1 1 (2 * k.val + 2) :=
  load_k arg4 harg4 x1 _ inb 1 _ (word_block2 ⟨k.val, trip_lt i k⟩) rfl
theorem ld_v0 (inb) : View.readAt (Elt F) arg5.view (Rect.unit (s := S256x4096) (k0_off3 i k) ![128, 256] inb).toLoadRect (harg5.unread x2)
    = vBlock x2 0 (2 * k.val) :=
  load_v arg5 harg5 x2 _ inb 0 _ rfl (word_block0 ⟨k.val, trip_lt i k⟩)
theorem ld_v0' (inb) : View.readAt (Elt F) arg5.view (Rect.unit (s := S256x4096) (k0_off4 i k) ![128, 256] inb).toLoadRect (harg5.unread x2)
    = vBlock x2 1 (2 * k.val) :=
  load_v arg5 harg5 x2 _ inb 1 _ rfl (word_block0 ⟨k.val, trip_lt i k⟩)
theorem ld_v1 (inb) : View.readAt (Elt F) arg5.view (Rect.unit (s := S256x4096) (k0_off5 i k) ![128, 256] inb).toLoadRect (harg5.unread x2)
    = vBlock x2 0 (2 * k.val + 1) :=
  load_v arg5 harg5 x2 _ inb 0 _ rfl (word_block1 ⟨k.val, trip_lt i k⟩)
theorem ld_v1' (inb) : View.readAt (Elt F) arg5.view (Rect.unit (s := S256x4096) (k0_off6 i k) ![128, 256] inb).toLoadRect (harg5.unread x2)
    = vBlock x2 1 (2 * k.val + 1) :=
  load_v arg5 harg5 x2 _ inb 1 _ rfl (word_block1 ⟨k.val, trip_lt i k⟩)
theorem ld_kl (inb) : View.readAt (Elt F) arg4.view (Rect.unit (s := S4096x256) (k0_off13 i) ![256, 128] inb).toLoadRect (harg4.unread x1)
    = kBlock x1 0 (2 * (i 2).val + 1) :=
  load_k arg4 harg4 x1 _ inb 0 _ (word_last1 (i 2)) rfl
theorem ld_kl' (inb) : View.readAt (Elt F) arg4.view (Rect.unit (s := S4096x256) (k0_off14 i) ![256, 128] inb).toLoadRect (harg4.unread x1)
    = kBlock x1 1 (2 * (i 2).val + 1) :=
  load_k arg4 harg4 x1 _ inb 1 _ (word_last1 (i 2)) rfl
theorem ld_vl0 (inb) : View.readAt (Elt F) arg5.view (Rect.unit (s := S256x4096) (k0_off15 i) ![128, 256] inb).toLoadRect (harg5.unread x2)
    = vBlock x2 0 (2 * (i 2).val) :=
  load_v arg5 harg5 x2 _ inb 0 _ rfl (word_last0 (i 2))
theorem ld_vl0' (inb) : View.readAt (Elt F) arg5.view (Rect.unit (s := S256x4096) (k0_off16 i) ![128, 256] inb).toLoadRect (harg5.unread x2)
    = vBlock x2 1 (2 * (i 2).val) :=
  load_v arg5 harg5 x2 _ inb 1 _ rfl (word_last0 (i 2))
theorem ld_vl1 (inb) : View.readAt (Elt F) arg5.view (Rect.unit (s := S256x4096) (k0_off17 i) ![128, 256] inb).toLoadRect (harg5.unread x2)
    = vBlock x2 0 (2 * (i 2).val + 1) :=
  load_v arg5 harg5 x2 _ inb 0 _ rfl (word_last1 (i 2))
theorem ld_vl1' (inb) : View.readAt (Elt F) arg5.view (Rect.unit (s := S256x4096) (k0_off18 i) ![128, 256] inb).toLoadRect (harg5.unread x2)
    = vBlock x2 1 (2 * (i 2).val + 1) :=
  load_v arg5 harg5 x2 _ inb 1 _ rfl (word_last1 (i 2))
end Loads

/-! ## A head's half of a scratch buffer -/

/-- A rectangle read after a write of it reads what was written, -/
theorem half_hit {s : Shape} {e : EltTy} (v : View sig .tc .vmem s e) (f : v.ty.Contents (Elt F)) (r : Rect s) (w : r.shape.Idx → Elt F e)
    (L : List (View.Piece (Elt F) s e)) : v.readAt (Elt F) r.toLoadRect (v.writes (Elt F) f (⟨r, w⟩ :: L)) = w := by
  funext y
  exact View.read_writes_cons_emb v f r w L y

/-- and read after a write of a rectangle apart from it reads what was there before. -/
theorem half_miss {s : Shape} {e : EltTy} (v : View sig .tc .vmem s e) (f : v.ty.Contents (Elt F)) (r : Rect s) (w : r.shape.Idx → Elt F e)
    (L : List (View.Piece (Elt F) s e)) (B : LoadRect s) (hd : LoadRect.disj r B = true) :
    v.readAt (Elt F) B (v.writes (Elt F) f (⟨r, w⟩ :: L)) = v.readAt (Elt F) B (v.writes (Elt F) f L) := by
  funext y
  exact View.read_writes_cons_miss v f ⟨r, w⟩ L _ (LoadRect.idx_not_mem_of_disj hd y)

/-! Reads of one head's half past the other head's write. -/

theorem past8_10 (v : View sig .tc .vmem S2x256x512 .f32) (i1 i0) (w) (L : List (View.Piece (Elt F) S2x256x512 .f32)) :
    v.readCov (⟨Rect.unit (s := S2x256x512) ![1, 0, 0] ![1, 256, 512] i1, w⟩ :: L) (Rect.unit (s := S2x256x512) ![0, 0, 0] ![1, 256, 512] i0).toLoadRect
      = v.readCov L (Rect.unit (s := S2x256x512) ![0, 0, 0] ![1, 256, 512] i0).toLoadRect :=
  View.readCov_skip v _ w L _ rfl
theorem past8_01 (v : View sig .tc .vmem S2x256x512 .f32) (i1 i0) (w) (L : List (View.Piece (Elt F) S2x256x512 .f32)) :
    v.readCov (⟨Rect.unit (s := S2x256x512) ![0, 0, 0] ![1, 256, 512] i1, w⟩ :: L) (Rect.unit (s := S2x256x512) ![1, 0, 0] ![1, 256, 512] i0).toLoadRect
      = v.readCov L (Rect.unit (s := S2x256x512) ![1, 0, 0] ![1, 256, 512] i0).toLoadRect :=
  View.readCov_skip v _ w L _ rfl
theorem past9_10 (v : View sig .tc .vmem S2x1x512 .f32) (i1 i0) (w) (L : List (View.Piece (Elt F) S2x1x512 .f32)) :
    v.readCov (⟨Rect.unit (s := S2x1x512) ![1, 0, 0] ![1, 1, 512] i1, w⟩ :: L) (Rect.unit (s := S2x1x512) ![0, 0, 0] ![1, 1, 512] i0).toLoadRect
      = v.readCov L (Rect.unit (s := S2x1x512) ![0, 0, 0] ![1, 1, 512] i0).toLoadRect :=
  View.readCov_skip v _ w L _ rfl
theorem past9_01 (v : View sig .tc .vmem S2x1x512 .f32) (i1 i0) (w) (L : List (View.Piece (Elt F) S2x1x512 .f32)) :
    v.readCov (⟨Rect.unit (s := S2x1x512) ![0, 0, 0] ![1, 1, 512] i1, w⟩ :: L) (Rect.unit (s := S2x1x512) ![1, 0, 0] ![1, 1, 512] i0).toLoadRect
      = v.readCov L (Rect.unit (s := S2x1x512) ![1, 0, 0] ![1, 1, 512] i0).toLoadRect :=
  View.readCov_skip v _ w L _ rfl
theorem past10_10 (v : View sig .tc .vmem S2x128x512 .f32) (i1 i0) (w) (L : List (View.Piece (Elt F) S2x128x512 .f32)) :
    v.readCov (⟨Rect.unit (s := S2x128x512) ![1, 0, 0] ![1, 128, 512] i1, w⟩ :: L) (Rect.unit (s := S2x128x512) ![0, 0, 0] ![1, 128, 512] i0).toLoadRect
      = v.readCov L (Rect.unit (s := S2x128x512) ![0, 0, 0] ![1, 128, 512] i0).toLoadRect :=
  View.readCov_skip v _ w L _ rfl
theorem past10_01 (v : View sig .tc .vmem S2x128x512 .f32) (i1 i0) (w) (L : List (View.Piece (Elt F) S2x128x512 .f32)) :
    v.readCov (⟨Rect.unit (s := S2x128x512) ![0, 0, 0] ![1, 128, 512] i1, w⟩ :: L) (Rect.unit (s := S2x128x512) ![1, 0, 0] ![1, 128, 512] i0).toLoadRect
      = v.readCov L (Rect.unit (s := S2x128x512) ![1, 0, 0] ![1, 128, 512] i0).toLoadRect :=
  View.readCov_skip v _ w L _ rfl

/-- What the three scratch buffers read later hold, half by half: the heads' carried values. -/
structure Holds (arg7 : Memref sig .tc .vmem S2x256x512 .f32) (arg9 : Memref sig .tc .vmem S2x1x512 .f32) (arg10 : Memref sig .tc .vmem S2x128x512 .f32)
    (f7 : arg7.view.ty.Contents (Elt F)) (f9 : arg9.view.ty.Contents (Elt F)) (f10 : arg10.view.ty.Contents (Elt F)) (s : Fin 2 → Carried F) : Prop where
  ahead0 : View.readAt (Elt F) arg7.view (Rect.unit (s := S2x256x512) ![0, 0, 0] ![1, 256, 512] inb_S2x256x512_S1x256x512_0_0_0).toLoadRect f7 = (s 0).ahead
  ahead1 : View.readAt (Elt F) arg7.view (Rect.unit (s := S2x256x512) ![1, 0, 0] ![1, 256, 512] inb_S2x256x512_S1x256x512_1_0_0).toLoadRect f7 = (s 1).ahead
  top0 : View.readAt (Elt F) arg9.view (Rect.unit (s := S2x1x512) ![0, 0, 0] ![1, 1, 512] inb_S2x1x512_S1x1x512_0_0_0).toLoadRect f9 = (s 0).top
  top1 : View.readAt (Elt F) arg9.view (Rect.unit (s := S2x1x512) ![1, 0, 0] ![1, 1, 512] inb_S2x1x512_S1x1x512_1_0_0).toLoadRect f9 = (s 1).top
  acc0 : View.readAt (Elt F) arg10.view (Rect.unit (s := S2x128x512) ![0, 0, 0] ![1, 128, 512] inb_S2x128x512_S1x128x512_0_0_0).toLoadRect f10 = (s 0).acc
  acc1 : View.readAt (Elt F) arg10.view (Rect.unit (s := S2x128x512) ![1, 0, 0] ![1, 128, 512] inb_S2x128x512_S1x128x512_1_0_0).toLoadRect f10 = (s 1).acc

end Cert.Flash

end
-- ==== Proof.FlashTrip.lean ====
/-
  One trip of the loop over the key blocks, read off the pieces it writes: both heads' carried values advance by `trip`.
-/
module

public import proofs.«01_k».proof.Proof.FlashReads
public import Idealize.ShloMosaic.Lib.Tactic.RunNames

@[expose] public section

set_option maxRecDepth 16384

noncomputable section

namespace Cert.Flash

open Idealize.ShloMosaic Idealize.ShloMosaic.TcCoe Idealize.ShloMosaic.Tactic
open Cert.KernelIdeal Cert.KernelIdeal.Gen

variable {F : FTy → Type} [FloatOps F] [Named F]

/-- Both heads after `n` trips. -/
def bothCarried (x0 : Vec F S512x256 .bf16) (x1 : Vec F S4096x256 .bf16) (x2 : Vec F S256x4096 .bf16) (n : ℕ) : Fin 2 → Carried F :=
  fun h => carried x0 x1 x2 h n

set_option maxHeartbeats 1000000 in
/-- One trip. -/
theorem holds_trip (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S512x128 .bf16) (harg6 : arg6.IsWhole) (arg7 : Memref sig .tc .vmem S2x256x512 .f32) (harg7 : arg7.IsWhole) (arg8 : Memref sig .tc .vmem S2x256x512 .f32) (harg8 : arg8.IsWhole) (arg9 : Memref sig .tc .vmem S2x1x512 .f32) (harg9 : arg9.IsWhole) (arg10 : Memref sig .tc .vmem S2x128x512 .f32) (harg10 : arg10.IsWhole)
    (w1 w2 w3 : BitVec 32) (x0 : Vec F S512x256 .bf16) (x1 : Vec F S4096x256 .bf16) (x2 : Vec F S256x4096 .bf16) (k : Fin (k0_t1_loop i).trips)
    (f7 : arg7.view.ty.Contents (Elt F)) (f8 : arg8.view.ty.Contents (Elt F)) (f9 : arg9.view.ty.Contents (Elt F)) (f10 : arg10.view.ty.Contents (Elt F))
    (s : Fin 2 → Carried F) (H : Holds arg7 arg9 arg10 f7 f9 f10 s) :
    Holds arg7 arg9 arg10
      (arg7.view.writes (Elt F) f7 (tripL_k0_t1 (F := F) Variants.none c none i arg3 harg3 arg4 harg4 arg5 harg5 arg6 harg6 arg7 harg7 arg8 harg8 arg9 harg9 arg10 harg10 w1 w2 w3 (harg3.unread x0) (harg4.unread x1) (harg5.unread x2) k f7 f8 f9 f10).1)
      (arg9.view.writes (Elt F) f9 (tripL_k0_t1 (F := F) Variants.none c none i arg3 harg3 arg4 harg4 arg5 harg5 arg6 harg6 arg7 harg7 arg8 harg8 arg9 harg9 arg10 harg10 w1 w2 w3 (harg3.unread x0) (harg4.unread x1) (harg5.unread x2) k f7 f8 f9 f10).2.2.1)
      (arg10.view.writes (Elt F) f10 (tripL_k0_t1 (F := F) Variants.none c none i arg3 harg3 arg4 harg4 arg5 harg5 arg6 harg6 arg7 harg7 arg8 harg8 arg9 harg9 arg10 harg10 w1 w2 w3 (harg3.unread x0) (harg4.unread x1) (harg5.unread x2) k f7 f8 f9 f10).2.2.2)
      (fun h => trip x0 x1 x2 h k.val (s h)) := by
  unfold tripL_k0_t1 trip_k0_t1
  dsimp only
  sl_unfold_run_names
  simp only [past8_10, past8_01, past9_10, past9_01, past10_10, past10_01, View.readCov_cons_toLoadRect, H.ahead0, H.ahead1, H.top0, H.top1, H.acc0, H.acc1, ld_q0, ld_q1, ld_k1, ld_k1', ld_k2, ld_k2', ld_v0, ld_v0', ld_v1, ld_v1']
  constructor
  · refine (half_miss _ _ _ _ _ _ (by rfl)).trans ((half_hit _ _ _ _ _).trans ?_)
    rfl
  · refine (half_hit _ _ _ _ _).trans ?_
    rfl
  · refine (half_miss _ _ _ _ _ _ (by rfl)).trans ((half_hit _ _ _ _ _).trans ?_)
    rfl
  · refine (half_hit _ _ _ _ _).trans ?_
    rfl
  · refine (half_miss _ _ _ _ _ _ (by rfl)).trans ((half_hit _ _ _ _ _).trans ?_)
    rfl
  · refine (half_hit _ _ _ _ _).trans ?_
    rfl

end Cert.Flash

end
-- ==== Proof.FlashPoint.lean ====
/-
  A whole grid point: the loop by its trips, then the two masked blocks, and the one store's payload is `outBlock`.
-/
module

public import proofs.«01_k».proof.Proof.FlashTrip

@[expose] public section

set_option maxRecDepth 16384

noncomputable section

namespace Cert.Flash

open Idealize.ShloMosaic Idealize.ShloMosaic.TcCoe Idealize.ShloMosaic.Tactic
open Cert.KernelIdeal Cert.KernelIdeal.Gen

variable {F : FTy → Type} [FloatOps F] [Named F]

/-- The loop's trips, one after another. -/
theorem holds_trips (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S512x128 .bf16) (harg6 : arg6.IsWhole) (arg7 : Memref sig .tc .vmem S2x256x512 .f32) (harg7 : arg7.IsWhole) (arg8 : Memref sig .tc .vmem S2x256x512 .f32) (harg8 : arg8.IsWhole) (arg9 : Memref sig .tc .vmem S2x1x512 .f32) (harg9 : arg9.IsWhole) (arg10 : Memref sig .tc .vmem S2x128x512 .f32) (harg10 : arg10.IsWhole)
    (w1 w2 w3 : BitVec 32) (x0 : Vec F S512x256 .bf16) (x1 : Vec F S4096x256 .bf16) (x2 : Vec F S256x4096 .bf16)
    (g7 : arg7.view.ty.Contents (Elt F)) (g8 : arg8.view.ty.Contents (Elt F)) (g9 : arg9.view.ty.Contents (Elt F)) (g10 : arg10.view.ty.Contents (Elt F))
    (H : Holds arg7 arg9 arg10 g7 g9 g10 (bothCarried x0 x1 x2 0)) (n : ℕ) (hn : n ≤ (k0_t1_loop i).trips) :
    Holds arg7 arg9 arg10 (arg7.view.writes (Elt F) g7 (pb_k0_t1 (F := F) Variants.none c none i arg3 harg3 arg4 harg4 arg5 harg5 arg6 harg6 arg7 harg7 arg8 harg8 arg9 harg9 arg10 harg10 w1 w2 w3 (harg3.unread x0) (harg4.unread x1) (harg5.unread x2) g7 g8 g9 g10 n).1)
      (arg9.view.writes (Elt F) g9 (pb_k0_t1 (F := F) Variants.none c none i arg3 harg3 arg4 harg4 arg5 harg5 arg6 harg6 arg7 harg7 arg8 harg8 arg9 harg9 arg10 harg10 w1 w2 w3 (harg3.unread x0) (harg4.unread x1) (harg5.unread x2) g7 g8 g9 g10 n).2.2.1)
      (arg10.view.writes (Elt F) g10 (pb_k0_t1 (F := F) Variants.none c none i arg3 harg3 arg4 harg4 arg5 harg5 arg6 harg6 arg7 harg7 arg8 harg8 arg9 harg9 arg10 harg10 w1 w2 w3 (harg3.unread x0) (harg4.unread x1) (harg5.unread x2) g7 g8 g9 g10 n).2.2.2) (bothCarried x0 x1 x2 n) := by
  induction n with
  | zero => exact H
  | succ k ih =>
    have h := ih (by omega)
    have e := pb_k0_t1_succ (F := F) Variants.none c none i arg3 harg3 arg4 harg4 arg5 harg5 arg6 harg6 arg7 harg7 arg8 harg8 arg9 harg9 arg10 harg10 w1 w2 w3 (harg3.unread x0) (harg4.unread x1) (harg5.unread x2) g7 g8 g9 g10 ⟨k, hn⟩
    dsimp only at e
    rw [e]
    dsimp only
    rw [View.writes_append, View.writes_append, View.writes_append]
    exact holds_trip c i arg3 harg3 arg4 harg4 arg5 harg5 arg6 harg6 arg7 harg7 arg8 harg8 arg9 harg9 arg10 harg10 w1 w2 w3 x0 x1 x2 ⟨k, hn⟩ _ _ _ _ _ h

/-- What the buffers hold as the loop starts. -/
theorem holds_begin (c : Dev nD) (arg3 : Memref sig .tc .vmem S512x256 .bf16) (harg3 : arg3.IsWhole) (arg4 : Memref sig .tc .vmem S4096x256 .bf16) (harg4 : arg4.IsWhole)
    (arg7 : Memref sig .tc .vmem S2x256x512 .f32) (arg9 : Memref sig .tc .vmem S2x1x512 .f32) (arg10 : Memref sig .tc .vmem S2x128x512 .f32)
    (x0 : Vec F S512x256 .bf16) (x1 : Vec F S4096x256 .bf16) (x2 : Vec F S256x4096 .bf16) :
    Holds arg7 arg9 arg10 (arg7.view.writes (Elt F) arg7.view.junk (pointRun.sl.HS0_2 c arg3 harg3 arg4 harg4 x0 x1))
      (arg9.view.writes (Elt F) arg9.view.junk pointRun.sl.HS2_1) (arg10.view.writes (Elt F) arg10.view.junk pointRun.sl.HS3_1)
      (bothCarried x0 x1 x2 0) := by
  constructor
  · unfold pointRun.sl.HS0_2
    refine (half_miss _ _ _ _ _ _ (by rfl)).trans ((half_hit _ _ _ _ _).trans ?_)
    exact congrArg₂ k0_pay54 (ld_k00 arg4 harg4 x1 _) (ld_q0 arg3 harg3 x0 _)
  · unfold pointRun.sl.HS0_2
    refine (half_hit _ _ _ _ _).trans ?_
    exact congrArg₂ k0_pay54 (ld_k01 arg4 harg4 x1 _) (ld_q1 arg3 harg3 x0 _)
  · exact (View.readCov_fill (Val := Elt F) arg9.view inb_S2x1x512_S2x1x512_0_0_0 k0_pay52 []
      (Rect.unit (s := S2x1x512) ![0, 0, 0] ![1, 1, 512] inb_S2x1x512_S1x1x512_0_0_0) (by decide)).trans rfl
  · exact (View.readCov_fill (Val := Elt F) arg9.view inb_S2x1x512_S2x1x512_0_0_0 k0_pay52 []
      (Rect.unit (s := S2x1x512) ![1, 0, 0] ![1, 1, 512] inb_S2x1x512_S1x1x512_1_0_0) (by decide)).trans rfl
  · exact (View.readCov_fill (Val := Elt F) arg10.view inb_S2x128x512_S2x128x512_0_0_0 k0_pay53 []
      (Rect.unit (s := S2x128x512) ![0, 0, 0] ![1, 128, 512] inb_S2x128x512_S1x128x512_0_0_0) (by decide)).trans rfl
  · exact (View.readCov_fill (Val := Elt F) arg10.view inb_S2x128x512_S2x128x512_0_0_0 k0_pay53 []
      (Rect.unit (s := S2x128x512) ![1, 0, 0] ![1, 128, 512] inb_S2x128x512_S1x128x512_1_0_0) (by decide)).trans rfl

set_option maxHeartbeats 2000000 in
/-- The point's one store writes `outBlock`, whatever the scratch buffers held before. -/
theorem point_out (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S256x4096 .bf16) (harg5 : arg5.IsWhole) (arg6 : Memref sig .tc .vmem S512x128 .bf16) (harg6 : arg6.IsWhole) (arg7 : Memref sig .tc .vmem S2x256x512 .f32) (harg7 : arg7.IsWhole) (arg8 : Memref sig .tc .vmem S2x256x512 .f32) (harg8 : arg8.IsWhole) (arg9 : Memref sig .tc .vmem S2x1x512 .f32) (harg9 : arg9.IsWhole) (arg10 : Memref sig .tc .vmem S2x128x512 .f32) (harg10 : arg10.IsWhole)
    (x0 : Vec F S512x256 .bf16) (x1 : Vec F S4096x256 .bf16) (x2 : Vec F S256x4096 .bf16) (s0 : BufTy.Contents (Elt F) arg7.view.ty) (s1 : BufTy.Contents (Elt F) arg8.view.ty) (s2 : BufTy.Contents (Elt F) arg9.view.ty) (s3 : BufTy.Contents (Elt F) arg10.view.ty) :
    (pointRun (F := F) c i arg3 harg3 arg4 harg4 arg5 harg5 arg6 harg6 arg7 harg7 arg8 harg8 arg9 harg9 arg10 harg10 x0 x1 x2).1 s0 s1 s2 s3
      = [⟨Rect.unit (s := S512x128) ![0, 0] S512x128.size inb_S512x128_S512x128_0_0, outBlock x0 x1 x2 (i 2).val⟩] := by
  have H := holds_trips (F := F) c i arg3 harg3 arg4 harg4 arg5 harg5 arg6 harg6 arg7 harg7 arg8 harg8 arg9 harg9 arg10 harg10 (BitVec.ofNat 32 ↑(i 2)) 0#32 (pointRun.sl.v26 i) x0 x1 x2 _ s1 _ _
    (holds_begin c arg3 harg3 arg4 harg4 arg7 arg9 arg10 x0 x1 x2) (k0_t1_loop i).trips le_rfl
  have ht : (k0_t1_loop i).trips = (i 2).val := trips_eq i
  have h2 : Scf.trips (k0_t2_loop i).lb (k0_t2_loop i).ub (k0_t2_loop i).st = 0 := trips_rest i
  rw [show bothCarried x0 x1 x2 (k0_t1_loop i).trips = bothCarried x0 x1 x2 (i 2).val from congrArg _ ht] at H
  rw [← View.writes_append, ← View.writes_append, ← View.writes_append] at H
  have v49 : pointRun.sl.v49 c i arg3 harg3 arg4 harg4 arg5 harg5 arg6 harg6 arg7 harg7 arg8 harg8 arg9 harg9 arg10 harg10 x0 x1 x2 s1 = (carried x0 x1 x2 0 (i 2).val).ahead := by
    unfold pointRun.sl.v49
    rw [h2]
    exact H.ahead0
  have v83 : pointRun.sl.v83 c i arg3 harg3 arg4 harg4 arg5 harg5 arg6 harg6 arg7 harg7 arg8 harg8 arg9 harg9 arg10 harg10 x0 x1 x2 s1 = (carried x0 x1 x2 1 (i 2).val).ahead := by
    unfold pointRun.sl.v83
    rw [h2]
    exact H.ahead1
  have v58 : pointRun.sl.v58 c i arg3 harg3 arg4 harg4 arg5 harg5 arg6 harg6 arg7 harg7 arg8 harg8 arg9 harg9 arg10 harg10 x0 x1 x2 s1 = (carried x0 x1 x2 0 (i 2).val).top := by
    unfold pointRun.sl.v58
    rw [h2]
    exact H.top0
  have v71 : pointRun.sl.v71 c i arg3 harg3 arg4 harg4 arg5 harg5 arg6 harg6 arg7 harg7 arg8 harg8 arg9 harg9 arg10 harg10 x0 x1 x2 s1 = (carried x0 x1 x2 0 (i 2).val).acc := by
    unfold pointRun.sl.v71
    rw [h2]
    exact H.acc0
  have v92 : pointRun.sl.v92 c i arg3 harg3 arg4 harg4 arg5 harg5 arg6 harg6 arg7 harg7 arg8 harg8 arg9 harg9 arg10 harg10 x0 x1 x2 s1 = (carried x0 x1 x2 1 (i 2).val).top := by
    unfold pointRun.sl.v92 pointRun.sl.HS2_1_1
    refine (View.readCov_skip _ _ _ _ _ (by rfl)).trans ?_
    rw [h2]
    exact H.top1
  have v105 : pointRun.sl.v105 c i arg3 harg3 arg4 harg4 arg5 harg5 arg6 harg6 arg7 harg7 arg8 harg8 arg9 harg9 arg10 harg10 x0 x1 x2 s1 = (carried x0 x1 x2 1 (i 2).val).acc := by
    unfold pointRun.sl.v105 pointRun.sl.HS3_1_1
    refine (View.readCov_skip _ _ _ _ _ (by rfl)).trans ?_
    rw [h2]
    exact H.acc1
  have v121 : pointRun.sl.v121 c i arg3 harg3 arg4 harg4 arg5 harg5 arg6 harg6 arg7 harg7 arg8 harg8 arg9 harg9 arg10 harg10 x0 x1 x2 s1 = k0_pay54 (kBlock x1 0 (2 * (i 2).val + 1)) (qBlock x0 0) := by
    unfold pointRun.sl.v121 pointRun.sl.HS1_2
    refine (View.readCov_skip _ _ _ _ _ (by rfl)).trans ((View.readCov_cons_toLoadRect _ _ _ _).trans ?_)
    exact congrArg₂ k0_pay54 (ld_kl arg4 harg4 x1 i _) (ld_q0 arg3 harg3 x0 _)
  have v155 : pointRun.sl.v155 c i arg3 harg3 arg4 harg4 arg5 harg5 arg6 harg6 arg7 harg7 arg8 harg8 arg9 harg9 arg10 harg10 x0 x1 x2 s1 = k0_pay54 (kBlock x1 1 (2 * (i 2).val + 1)) (qBlock x0 1) := by
    unfold pointRun.sl.v155 pointRun.sl.HS1_2
    refine (View.readCov_cons_toLoadRect _ _ _ _).trans ?_
    exact congrArg₂ k0_pay54 (ld_kl' arg4 harg4 x1 i _) (ld_q1 arg3 harg3 x0 _)
  have v130 : pointRun.sl.v130 c i arg3 harg3 arg4 harg4 arg5 harg5 arg6 harg6 arg7 harg7 arg8 harg8 arg9 harg9 arg10 harg10 x0 x1 x2 s1 = lateTop x0 x1 x2 0 (i 2).val := by
    unfold pointRun.sl.v130 pointRun.sl.HS2_2 pointRun.sl.HS2_1_1
    refine (View.readCov_skip _ _ _ _ _ (by rfl)).trans ((View.readCov_cons_toLoadRect _ _ _ _).trans ?_)
    unfold pointRun.sl.r
    rw [v49, v58]
    rfl
  have v164 : pointRun.sl.v164 c i arg3 harg3 arg4 harg4 arg5 harg5 arg6 harg6 arg7 harg7 arg8 harg8 arg9 harg9 arg10 harg10 x0 x1 x2 s1 = lateTop x0 x1 x2 1 (i 2).val := by
    unfold pointRun.sl.v164 pointRun.sl.HS2_3 pointRun.sl.HS2_2
    refine (View.readCov_skip _ _ _ _ _ (by rfl)).trans ((View.readCov_cons_toLoadRect _ _ _ _).trans ?_)
    unfold pointRun.sl.r_1
    rw [v83, v92]
    rfl
  have v143 : pointRun.sl.v143 c i arg3 harg3 arg4 harg4 arg5 harg5 arg6 harg6 arg7 harg7 arg8 harg8 arg9 harg9 arg10 harg10 x0 x1 x2 s1 = lateAcc x0 x1 x2 0 (i 2).val := by
    unfold pointRun.sl.v143 pointRun.sl.HS3_2 pointRun.sl.HS3_1_1
    refine (View.readCov_skip _ _ _ _ _ (by rfl)).trans ((View.readCov_cons_toLoadRect _ _ _ _).trans ?_)
    unfold pointRun.sl.r
    rw [v49, v58, v71, show View.readAt (Elt F) arg5.view _ _ = _ from ld_vl0 arg5 harg5 x2 i _]
    rfl
  have v177 : pointRun.sl.v177 c i arg3 harg3 arg4 harg4 arg5 harg5 arg6 harg6 arg7 harg7 arg8 harg8 arg9 harg9 arg10 harg10 x0 x1 x2 s1 = lateAcc x0 x1 x2 1 (i 2).val := by
    unfold pointRun.sl.v177 pointRun.sl.HS3_3 pointRun.sl.HS3_2
    refine (View.readCov_skip _ _ _ _ _ (by rfl)).trans ((View.readCov_cons_toLoadRect _ _ _ _).trans ?_)
    unfold pointRun.sl.r_1
    rw [v83, v92, v105, show View.readAt (Elt F) arg5.view _ _ = _ from ld_vl0' arg5 harg5 x2 i _]
    rfl
  have v189 : pointRun.sl.v189 c i arg3 harg3 arg4 harg4 arg5 harg5 arg6 harg6 arg7 harg7 arg8 harg8 arg9 harg9 arg10 harg10 x0 x1 x2 s1 = lastAcc x0 x1 x2 0 (i 2).val := by
    unfold pointRun.sl.v189 pointRun.sl.HS3_4 pointRun.sl.HS3_3
    refine (View.readCov_skip _ _ _ _ _ (by rfl)).trans ((View.readCov_cons_toLoadRect _ _ _ _).trans ?_)
    unfold pointRun.sl.r_2
    rw [v121, v130, v143, show View.readAt (Elt F) arg5.view _ _ = _ from ld_vl1 arg5 harg5 x2 i _]
    rfl
  have v195 : pointRun.sl.v195 c i arg3 harg3 arg4 harg4 arg5 harg5 arg6 harg6 arg7 harg7 arg8 harg8 arg9 harg9 arg10 harg10 x0 x1 x2 s1 = lastAcc x0 x1 x2 1 (i 2).val := by
    unfold pointRun.sl.v195 pointRun.sl.HS3_4
    refine (View.readCov_cons_toLoadRect _ _ _ _).trans ?_
    unfold pointRun.sl.r_3
    rw [v155, v164, v177, show View.readAt (Elt F) arg5.view _ _ = _ from ld_vl1' arg5 harg5 x2 i _]
    rfl
  unfold pointRun
  dsimp only
  unfold pointRun.sl.r_4 pointRun.sl.r_5
  rw [v189, v195]
  rfl

end Cert.Flash

end
-- ==== Proof.FlashFrame.lean ====
/-
  The launch of the attention kernel: every grid point's body leaves the attention of its blocks (`outBlock`), so the
  run ends with the output array assembled of them, the arguments unchanged and every semaphore counter at zero.
  The launch's set-up follows the frame certificate's; what differs is what the output's buffer is said to hold.
-/
module

public import proofs.«01_k».proof.Proof.FlashPoint
public import Idealize.ShloMosaic.Lib.Claim
public import Idealize.ShloMosaic.Lib.Pipeline.Value
public import Idealize.ShloMosaic.Lib.VecWindow

@[expose] public section

set_option maxRecDepth 16384

noncomputable section

namespace Cert.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the output's staging buffer holds after the body at point `t`: the attention of the point's input blocks. -/
def outsAt0 (c : Dev nD) (t : Fin cfg0.N) : Vec F S512x128 .bf16 :=
  outBlock (iblk m c 0 t) (iblk m c 1 t) (iblk m c 2 t) (grid0.coords t 2).val

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩⟩
  iapply ((pointRun c (grid0.coords t) _ _ _ _ _ _ _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, ⟨%e3, %s0, %s1, %s2, %s3, H3⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  unfold owns; iexists _; isplitr
  swap; · iexact H3
  ipureintro
  rw [point_out]
  exact View.read_writes_full _ _ inb_S512x128_S512x128_0_0 _ []

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## The output array -/

/-- What grid point `t` writes back. -/
theorem flushed3 (c : Dev nD) (t : Fin cfg0.N) : (dats m 0 c).flushed 3 t = (cfg0.win 3).cut (grid0.coords t) (outsAt0 m c t) := by
  show (cfg0.win 3).cut (grid0.coords t) ((dats m 0 c).after 3 t) = _
  rw [after0_3]

/-- The run, the output array named and the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Flash

end
-- ==== Proof.FlashBits.lean ====
/-
  The kernel as compiled, on bits. The idealized kernel is the same program but for the mask's constant, which it reads by
  name; when the name is read as the constant's own bits the two are one program, and the frame carries over.
-/
module

public import proofs.«01_k».proof.Defs
public import proofs.«01_k».proof.Proof.Gen.Kernel
public import proofs.«01_k».proof.Proof.FlashFrame

@[expose] public section

set_option maxRecDepth 16384

noncomputable section

namespace Cert.Flash

open Idealize.ShloMosaic Idealize.ShloMosaic.TcCoe Idealize.SL.Sem

/-- A named constant read as its own bits. -/
@[reducible] def namedAsBits : Named Bits where
  named _ _ {φ} bits := Scalar.ofBits φ bits

attribute [local instance] namedAsBits Cert.Kernel.Gen.facts Cert.KernelIdeal.Gen.facts

/-- The two kernel bodies are one program. -/
theorem body_eq : @Cert.Kernel.cc0_flash Bits _ _ = @Cert.KernelIdeal.cc0_flash Bits _ _ _ := rfl

/-- So are the two tables of bodies, -/
theorem bodies_eq : @Cert.Kernel.defs₀ Bits _ _ = @Cert.KernelIdeal.defs₀ Bits _ _ _ :=
  funext fun p => funext fun l => funext fun a => by
    rcases p with _ | _ | _
    · obtain ⟨l, hl⟩ := l
      obtain rfl : l = 0 := Nat.lt_one_iff.mp hl
      obtain ⟨t, s⟩ := a
      rfl
    · rfl
    · rfl

/-- and the two pipelines over them. -/
theorem defs_eq : @Cert.Kernel.defs Bits _ _ = @Cert.KernelIdeal.defs Bits _ _ _ :=
  congrArg (Idealize.ShloMosaic.Pipeline.defs (Cert.Kernel.pcfgs (F := Bits))) bodies_eq

/-- The compiled kernel runs, leaves its arguments as they were and every semaphore counter at zero. -/
theorem compiled_frame : Cert.quiescent_Kernel (hKernel := Cert.Kernel.Gen.facts) := fun m g _ => by
  rw [defs_eq]
  exact frame (F := Bits) m g

end Cert.Flash

end
-- ==== Proof.Online.lean ====
/-
  Pure mathematics of softmax by blocks ("online softmax") over the extended reals, for one query: `s j` is the score of
  key `j` (a real, or `⊥` where the key is masked), `v e j` the entry `e` of value row `j` (any extended real).
  A running pair `(m, a)` stands for the sum `∑ 2^(s j - m) · v e j` over the keys seen, WHATEVER real `m` is: the
  maximum keeps a machine's exponentials small, and over the extended reals any real shift gives the same quotient.
  Nothing here names a program.
-/
module

public import Idealize.ShloMosaic.PureOps.Ideal
public import Mathlib.Analysis.SpecialFunctions.Pow.Real

@[expose] public section

namespace Cert.Flash

open Idealize.ShloMosaic

/-- A real coefficient that is not negative distributes over any finite sum of extended reals. -/
theorem coe_mul_sum {κ : Type*} (c : ℝ) (hc : 0 ≤ c) (S : Finset κ) (f : κ → EReal) :
    (c : EReal) * ∑ j ∈ S, f j = ∑ j ∈ S, (c : EReal) * f j := by
  classical
  induction S using Finset.induction_on with
  | empty => simp
  | insert x S hx ih =>
    rw [Finset.sum_insert hx, Finset.sum_insert hx,
      EReal.left_distrib_of_nonneg_of_ne_top (EReal.coe_nonneg.mpr hc) (EReal.coe_ne_top c), ih]

/-- A finite sum of reals, read in the extended reals. -/
theorem coe_sum {κ : Type*} (S : Finset κ) (f : κ → ℝ) : ((∑ j ∈ S, f j : ℝ) : EReal) = ∑ j ∈ S, (f j : EReal) := by
  classical
  induction S using Finset.induction_on with
  | empty => simp
  | insert x S hx ih => rw [Finset.sum_insert hx, Finset.sum_insert hx, EReal.coe_add, ih]

/-- Every weight `2^(x - M)` with `x` a real or `⊥` is a real that is not negative. -/
theorem exp2_sub_coe {x : EReal} (hx : x ≠ ⊤) (M : ℝ) :
    ∃ r : ℝ, 0 ≤ r ∧ Ideal.exp2 (x - (M : EReal)) = (r : EReal) ∧ (x ≠ ⊥ → 0 < r) := by
  induction x using EReal.rec with
  | bot => exact ⟨0, le_rfl, by rw [EReal.bot_sub, Ideal.exp2_bot]; rfl, fun h => absurd rfl h⟩
  | top => exact absurd rfl hx
  | coe y =>
    refine ⟨Real.rpow 2 (y - M), Real.rpow_nonneg (by norm_num) _, ?_, fun _ => Real.rpow_pos_of_pos (by norm_num) _⟩
    rw [← EReal.coe_sub, Ideal.exp2_coe]

/-- Moving the shift from `M` to `M'` multiplies a weight by `2^(M - M')`. -/
theorem exp2_shift {x : EReal} (hx : x ≠ ⊤) (M M' : ℝ) :
    Ideal.exp2 ((M : EReal) - (M' : EReal)) * Ideal.exp2 (x - (M : EReal)) = Ideal.exp2 (x - (M' : EReal)) := by
  induction x using EReal.rec with
  | bot => rw [EReal.bot_sub, EReal.bot_sub, Ideal.exp2_bot, mul_zero]
  | top => exact absurd rfl hx
  | coe y =>
    rw [← EReal.coe_sub, ← EReal.coe_sub, ← EReal.coe_sub, Ideal.exp2_coe, Ideal.exp2_coe, Ideal.exp2_coe, ← EReal.coe_mul]
    congr 1
    have h := Real.rpow_add (x := 2) (by norm_num) (M - M') (y - M)
    have e : M - M' + (y - M) = y - M' := by ring
    rw [e] at h
    exact h.symm

/-- The running pair `(m, a)` stands for the keys `j < n`: nothing yet, or the shifted sums at a real shift. -/
def Stands {ι : Type*} (s : ℕ → EReal) (v : ι → ℕ → EReal) (n : ℕ) (m : EReal) (a : ι → EReal) : Prop :=
  (n = 0 ∧ m = ⊥ ∧ ∀ e, a e = 0)
    ∨ ∃ M : ℝ, m = (M : EReal) ∧ ∀ e, a e = ∑ j ∈ Finset.range n, v e j * Ideal.exp2 (s j - (M : EReal))

/-- The maximum of a start below `⊤` and entries below `⊤`, one of them a real, is a real. -/
theorem fold_max_real {b : ℕ} (x : EReal) (f : Fin b → EReal) (hx : x ≠ ⊤) (hf : ∀ k, f k ≠ ⊤)
    (h : x ≠ ⊥ ∨ ∃ k, f k ≠ ⊥) : ∃ M : ℝ, max x (Finset.univ.fold max ⊥ f) = (M : EReal) := by
  have htop : max x (Finset.univ.fold max ⊥ f) ≠ ⊤ := by
    refine ne_of_lt (max_lt (lt_top_iff_ne_top.mpr hx) ?_)
    exact (Finset.fold_max_lt ⊤).mpr ⟨bot_lt_top, fun k _ => lt_top_iff_ne_top.mpr (hf k)⟩
  have hbot : max x (Finset.univ.fold max ⊥ f) ≠ ⊥ := by
    rcases h with h | ⟨k, hk⟩
    · exact ne_of_gt (lt_of_lt_of_le (bot_lt_iff_ne_bot.mpr h) (le_max_left _ _))
    · refine ne_of_gt (lt_of_lt_of_le (bot_lt_iff_ne_bot.mpr hk) (le_trans ?_ (le_max_right _ _)))
      exact (Finset.le_fold_max (f k)).mpr (Or.inr ⟨k, Finset.mem_univ k, le_rfl⟩)
  exact ⟨_, (EReal.coe_toReal htop hbot).symm⟩

/-- ONE BLOCK of `b` keys: the new shift is the larger of the old one and the block's maximum, the old sums are scaled by
    `2^(m - m')` and the block's own terms added. -/
theorem Stands.step {ι : Type*} {s : ℕ → EReal} {v : ι → ℕ → EReal} {n b : ℕ} {m m' : EReal} {a a' : ι → EReal}
    (h : Stands s v n m a) (hs : ∀ j, s j ≠ ⊤) (hreal : n = 0 → ∃ k : Fin b, s (n + k.val) ≠ ⊥)
    (hm : m' = max m (Finset.univ.fold max ⊥ fun k : Fin b => s (n + k.val)))
    (ha : ∀ e, a' e = Ideal.exp2 (m - m') * a e + ∑ k : Fin b, v e (n + k.val) * Ideal.exp2 (s (n + k.val) - m')) :
    Stands s v (n + b) m' a' := by
  obtain ⟨M', hM'⟩ : ∃ M' : ℝ, m' = (M' : EReal) := by
    rw [hm]
    refine fold_max_real m _ ?_ (fun k => hs _) ?_
    · rcases h with ⟨_, h, _⟩ | ⟨M, h, _⟩ <;> rw [h]
      · exact bot_ne_top
      · exact EReal.coe_ne_top M
    · rcases h with ⟨h, _, _⟩ | ⟨M, h, _⟩
      · exact Or.inr (hreal h)
      · exact Or.inl (by rw [h]; exact EReal.coe_ne_bot M)
  refine Or.inr ⟨M', hM', fun e => ?_⟩
  rw [ha e, Finset.sum_range_add, hM', ← Fin.sum_univ_eq_sum_range fun k => v e (n + k) * Ideal.exp2 (s (n + k) - (M' : EReal))]
  congr 1
  rcases h with ⟨hn, hm0, h0⟩ | ⟨M, hM, hsum⟩
  · subst hn; rw [h0 e, mul_zero, Finset.sum_range_zero]
  · obtain ⟨r, hr, he, -⟩ := exp2_sub_coe (EReal.coe_ne_top M) M'
    rw [hM, hsum e, he, coe_mul_sum r hr, ← he]
    refine Finset.sum_congr rfl fun j _ => ?_
    rw [mul_left_comm, exp2_shift (hs j)]

/-- The softmax weights of a row, as a program with natural exponentials computes them: score times `log 2`, shifted by a
    real `M`. They are the base-two weights at any other real shift times one positive real. -/
theorem exp_eq_exp2 {x : EReal} (hx : x ≠ ⊤) (M N : ℝ) :
    Ideal.exp2 (x - (M : EReal))
      = ((Real.exp (N - M * Real.log 2) : ℝ) : EReal) * Ideal.exp (x * ((Real.log 2 : ℝ) : EReal) - (N : EReal)) := by
  induction x using EReal.rec with
  | bot =>
    rw [EReal.bot_sub, Ideal.exp2_bot, EReal.bot_mul_coe_of_pos (Real.log_pos (by norm_num)), EReal.bot_sub, Ideal.exp_bot, mul_zero]
  | top => exact absurd rfl hx
  | coe y =>
    rw [← EReal.coe_sub, Ideal.exp2_coe, ← EReal.coe_mul, ← EReal.coe_sub, Ideal.exp_coe, ← EReal.coe_mul]
    congr 1
    show (2 : ℝ) ^ (y - M) = _
    rw [Real.rpow_def_of_pos (by norm_num), ← Real.exp_add]
    congr 1; ring

/-- A division by a positive real is a multiplication by its inverse. -/
theorem div_coe (x : EReal) {d : ℝ} (hd : 0 < d) : Ideal.div x (d : EReal) = x * ((d⁻¹ : ℝ) : EReal) := by
  unfold Ideal.div
  rw [if_neg (by exact_mod_cast hd.ne'), EReal.coe_inv]

/-- THE QUOTIENT: the running pair's sums over the keys `j < n`, divided by the sum of the weights (the entry `o`, whose values
    are all one), are the softmax-weighted means over ALL `N` keys, every key from `n` on being masked. -/
theorem Stands.quotient {ι : Type*} {s : ℕ → EReal} {v : ι → ℕ → EReal} {n N : ℕ} {m : EReal} {a : ι → EReal}
    (h : Stands s v n m a) (hs : ∀ j, s j ≠ ⊤) (hn : 0 < n) (hnN : n ≤ N) (h0 : s 0 ≠ ⊥)
    (hmask : ∀ j, n ≤ j → s j = ⊥) (o : ι) (ho : ∀ j, j < n → v o j = 1) {x : EReal} {M : ℝ} (hx : x = (M : EReal)) (e : ι) :
    Ideal.div (a e) (a o)
      = ∑ j : Fin N, v e j.val * Ideal.div (Ideal.exp (s j.val * ((Real.log 2 : ℝ) : EReal) - x))
          (∑ k : Fin N, Ideal.exp (s k.val * ((Real.log 2 : ℝ) : EReal) - x)) := by
  subst hx
  obtain ⟨K, -, hsum⟩ : ∃ K : ℝ, m = (K : EReal) ∧ ∀ e, a e = ∑ j ∈ Finset.range n, v e j * Ideal.exp2 (s j - (K : EReal)) := by
    rcases h with ⟨h, _⟩ | h
    · omega
    · exact h
  set c : ℝ := Real.exp (M - K * Real.log 2) with hc
  have hcpos : 0 < c := Real.exp_pos _
  -- each natural-exponential weight is a real that is not negative
  have hw : ∀ j, ∃ r : ℝ, 0 ≤ r ∧ Ideal.exp (s j * ((Real.log 2 : ℝ) : EReal) - (M : EReal)) = (r : EReal) ∧ (s j ≠ ⊥ → 0 < r) := by
    intro j
    obtain ⟨r, hr, he, hp⟩ := exp2_sub_coe (hs j) (M / Real.log 2)
    refine ⟨r, hr, ?_, hp⟩
    have := exp_eq_exp2 (hs j) (M / Real.log 2) M
    rw [div_mul_cancel₀ _ (Real.log_pos (by norm_num)).ne', sub_self, Real.exp_zero, EReal.coe_one, one_mul, he] at this
    exact this.symm
  choose w hw0 hw1 hw2 using hw
  have hshift : ∀ j, Ideal.exp2 (s j - (K : EReal)) = ((c * w j : ℝ) : EReal) := fun j => by
    rw [exp_eq_exp2 (hs j) K M, hw1, EReal.coe_mul]
  have hw3 : ∀ j, n ≤ j → w j = 0 := fun j hj => by
    have := hw1 j
    rw [hmask j hj, EReal.bot_mul_coe_of_pos (Real.log_pos (by norm_num)), EReal.bot_sub, Ideal.exp_bot] at this
    exact_mod_cast this.symm
  -- sums over the keys seen are sums over all keys
  have hall : ∀ f : ℕ → EReal, (∀ j, n ≤ j → f j = 0) → ∑ j ∈ Finset.range n, f j = ∑ j : Fin N, f j.val := fun f hf => by
    rw [Fin.sum_univ_eq_sum_range f N]
    refine Finset.sum_subset (Finset.range_subset_range.mpr hnN) fun j _ hj => hf j ?_
    simpa using hj
  set D : ℝ := ∑ j : Fin N, w j.val with hD
  have hDpos : 0 < D := by
    refine Finset.sum_pos' (fun j _ => hw0 _) ⟨⟨0, by omega⟩, Finset.mem_univ _, hw2 0 h0⟩
  have hden : (∑ k : Fin N, Ideal.exp (s k.val * ((Real.log 2 : ℝ) : EReal) - (M : EReal))) = (D : EReal) := by
    rw [hD, coe_sum]
    exact Finset.sum_congr rfl fun k _ => hw1 _
  have hao : a o = ((c * D : ℝ) : EReal) := by
    rw [hsum o, Finset.sum_congr rfl fun j hj => by rw [ho j (Finset.mem_range.mp hj), one_mul, hshift j],
      hall (fun j => ((c * w j : ℝ) : EReal)) fun j hj => by rw [hw3 j hj, mul_zero, EReal.coe_zero], hD, Finset.mul_sum, coe_sum]
  have hae : a e = (c : EReal) * ∑ j : Fin N, v e j.val * (w j.val : EReal) := by
    rw [hsum e, Finset.sum_congr rfl fun j _ => by rw [hshift j, EReal.coe_mul, mul_left_comm],
      hall (fun j => (c : EReal) * (v e j * (w j : EReal))) fun j hj => by rw [hw3 j hj, EReal.coe_zero, mul_zero, mul_zero],
      coe_mul_sum c hcpos.le]
  rw [hden, hao, hae, div_coe _ (mul_pos hcpos hDpos), mul_comm (c : EReal), mul_assoc, ← EReal.coe_mul,
    show c * (c * D)⁻¹ = D⁻¹ by rw [mul_inv, ← mul_assoc, mul_inv_cancel₀ hcpos.ne', one_mul],
    mul_comm, coe_mul_sum _ (inv_nonneg.mpr hDpos.le)]
  refine Finset.sum_congr rfl fun j _ => ?_
  rw [hw1, div_coe _ hDpos, mul_left_comm, mul_comm ((D⁻¹ : ℝ) : EReal)]

end Cert.Flash
-- ==== Proof.FlashIdeal.lean ====
/-
  The payloads of one grid point at the ideal instance, read at an index: scores, running maximum, running accumulator,
  the two masked cuts, the quotient and the output lanes.
-/
module

public import proofs.«01_k».proof.Proof.FlashModel
public import proofs.«01_k».proof.Proof.Online
public import Idealize.ShloMosaic.Lib.Pointwise
public import Idealize.ShloMosaic.Lib.WordCmp

@[expose] public section

set_option maxRecDepth 16384

noncomputable section

namespace Cert.Flash

open Idealize.ShloMosaic Idealize.ShloMosaic.TcCoe
open Cert.KernelIdeal Cert.KernelIdeal.Gen

/-- The mask constant is `⊥`. -/
theorem mask_eq : (Named.named (F := Ideal) (φ := .f32) κ "mask" 0xF149F2CA#32 : EReal) = ⊥ := rfl

/-- The maximum's start is `⊥`. -/
theorem start_eq : Ideal.ofBits .f32 0xFF800000#32 = ⊥ := by
  simp [Ideal.ofBits, Ideal.ieee]

/-- The accumulator's start is zero. -/
theorem zero_eq : (Scalar.ofBits (F := Ideal) .f32 0x00000000#32 : EReal) = 0 := by
  show Ideal.ofBits .f32 0x00000000#32 = 0
  simp [Ideal.ofBits, Ideal.ieee]

/-- A select on a comparison of small numbers. -/
theorem select_le (a b : ℕ) (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat (w := 32) ha hb]
  by_cases h : a ≤ b <;> simp [h, Scalar.select]

theorem select_lt (a b : ℕ) (ha : a < 2 ^ 31) (hb : b < 2 ^ 31) (x y : EReal) :
    Scalar.select (IntOp.cmpi .slt (BitVec.ofNat 32 a) (BitVec.ofNat 32 b)) x y = if a < b then x else y := by
  rw [WordCmp.cmpi_slt_ofNat (w := 32) ha hb]
  by_cases h : a < b <;> simp [h, Scalar.select]

/-- A block's scores: the dot products of its keys with the queries. -/
theorem scores_at (kb : Vec Ideal S256x128 .bf16) (qb : Vec Ideal S512x128 .bf16) (k : Fin 256) (r : Fin 512) :
    k0_pay54 kb qb (ix3 (0 : Fin 1) k r) = ∑ d : Fin 128, kb (ix2 k d) * qb (ix2 r d) := by
  pointwise [k0_pay54]

/-- The running maximum after a block. -/
theorem top_at (t : Vec Ideal S256x512 .f32) (m : Vec Ideal S1x1x512 .f32) (r : Fin 512) :
    k0_pay76 t m (ix3 (0 : Fin 1) (0 : Fin 1) r)
      = max (m (ix3 (0 : Fin 1) (0 : Fin 1) r)) (Finset.univ.fold max ⊥ fun k : Fin 256 => t (ix2 k r)) := by
  pointwise [k0_pay76, k0_pay74, k0_pay73]
  rw [start_eq]

/-- The running accumulator after a block. -/
theorem acc_at (t : Vec Ideal S256x512 .f32) (m : Vec Ideal S1x1x512 .f32) (v : Vec Ideal S128x256 .bf16) (a : Vec Ideal S1x128x512 .f32)
    (e : Fin 128) (r : Fin 512) :
    k0_pay75 t m v a (ix3 (0 : Fin 1) e r)
      = Ideal.exp2 (m (ix3 (0 : Fin 1) (0 : Fin 1) r) - k0_pay76 t m (ix3 (0 : Fin 1) (0 : Fin 1) r)) * a (ix3 (0 : Fin 1) e r)
        + ∑ k : Fin 256, v (ix2 e k) * Ideal.exp2 (t (ix2 k r) - k0_pay76 t m (ix3 (0 : Fin 1) (0 : Fin 1) r)) := by
  have h : k0_pay73 m (ix2 (0 : Fin 1) r) = m (ix3 (0 : Fin 1) (0 : Fin 1) r) := by pointwise [k0_pay73]
  pointwise [k0_pay75, k0_pay76]
  rw [h]
  rfl

/-- A block taken in whole. -/
theorem plain_at (s : Vec Ideal S1x256x512 .f32) (k : Fin 256) (r : Fin 512) :
    k0_pay19 s (ix2 k r) = s (ix3 (0 : Fin 1) k r) := by
  pointwise [k0_pay19]

/-- The first masked block keeps the keys up to the query's row, -/
theorem cut0_at (s : Vec Ideal S1x256x512 .f32) (k : Fin 256) (r : Fin 512) :
    k0_pay72 s (ix2 k r) = if k.val ≤ r.val then s (ix3 (0 : Fin 1) k r) else ⊥ := by
  pointwise [k0_pay72]
  rw [show IntOp.addi (BitVec.ofNat 32 k.val) 0#32 = BitVec.ofNat 32 k.val from (BitVec.ofNat_add ..).symm]
  exact select_le k.val r.val (by omega) (by omega) _ _

/-- the second counts its keys on from 256. -/
theorem cut1_at (s : Vec Ideal S1x256x512 .f32) (k : Fin 256) (r : Fin 512) :
    k0_pay77 s (ix2 k r) = if k.val + 256 ≤ r.val then s (ix3 (0 : Fin 1) k r) else ⊥ := by
  pointwise [k0_pay77]
  rw [show IntOp.addi (BitVec.ofNat 32 k.val) 256#32 = BitVec.ofNat 32 (k.val + 256) from (BitVec.ofNat_add ..).symm]
  exact select_le (k.val + 256) r.val (by omega) (by omega) _ _

/-- A head's quotient: the accumulator by its row 64, turned over. -/
theorem quot_at (a : Vec Ideal S1x128x512 .f32) (r : Fin 512) (e : Fin 128) :
    k0_pay87 a (ix2 r e) = Ideal.div (a (ix3 (0 : Fin 1) e r)) (a (ix3 (0 : Fin 1) (64 : Fin 128) r)) := by
  pointwise [k0_pay87]

/-- The output's lanes: the first 64 from head 0, the rest from head 1. -/
theorem out_at (a b : Vec Ideal S512x128 .f32) (r : Fin 512) (l : Fin 128) :
    (k0_pay1 (F := Ideal) a b k0_pay89 : Vec Ideal S512x128 .bf16) (ix2 r l)
      = (if h : l.val < 64 then a (ix2 r l) else b (ix2 r ⟨l.val - 64, by omega⟩) : EReal) := by
  pointwise [k0_pay1, k0_pay89]
  refine (select_lt l.val 64 (by omega) (by omega) _ _).trans ?_
  by_cases h : l.val < 64
  · rw [if_pos h, dif_pos h]
  · rw [if_neg h, dif_neg h]
    refine congrArg b (congrArg (ix2 r) (Fin.ext ?_))
    show (l.val + 128 - 64) % 128 = l.val - 64
    omega

end Cert.Flash

end
-- ==== Proof.FlashRow.lean ====
/-
  One query of one head: its scores of all keys, masked past its own position, and the running pair of a grid point that
  stands for them block by block; so the point's output is the softmax-weighted mean of the values.
-/
module

public import proofs.«01_k».proof.Proof.FlashIdeal

@[expose] public section

set_option maxRecDepth 16384

noncomputable section

namespace Cert.Flash

open Idealize.ShloMosaic Idealize.ShloMosaic.TcCoe
open Cert.KernelIdeal Cert.KernelIdeal.Gen

/-- Column `128 h + d` of a pair of heads. -/
def col (h : Fin 2) (d : Fin 128) : Fin 256 := ⟨128 * h.val + d.val, by omega⟩

section
variable (x0 : Vec Ideal S512x256 .bf16) (x1 : Vec Ideal S4096x256 .bf16) (x2 : Vec Ideal S256x4096 .bf16) (h : Fin 2) (q : ℕ) (r : Fin 512)

/-- The product of query `r` with key `j`. -/
def rawScore (j : ℕ) : EReal := ∑ d : Fin 128, x1 (ix2 (Fin.ofNat 4096 j) (col h d)) * x0 (ix2 r (col h d))

/-- The score: the product for the keys up to the query's own position, `⊥` for those after it. -/
def score (j : ℕ) : EReal := if j ≤ 512 * q + r.val then rawScore x0 x1 h r j else ⊥

/-- Entry `e` of key `j`'s value. -/
def value (e : Fin 128) (j : ℕ) : EReal := x2 (ix2 (col h e) (Fin.ofNat 4096 j))

theorem raw_at (n : ℕ) (k : Fin 256) :
    k0_pay54 (kBlock x1 h n) (qBlock x0 h) (ix3 (0 : Fin 1) k r) = rawScore x0 x1 h r (256 * n + k.val) := by
  rw [scores_at]
  rfl

theorem value_at (n : ℕ) (e : Fin 128) (k : Fin 256) : vBlock x2 h n (ix2 e k) = value x2 h e (256 * n + k.val) := rfl

variable (fin : ∀ j, rawScore x0 x1 h r j ≠ ⊤ ∧ rawScore x0 x1 h r j ≠ ⊥)
include fin

theorem score_ne_top (j : ℕ) : score x0 x1 h q r j ≠ ⊤ := by
  unfold score
  split_ifs
  · exact (fin j).1
  · exact bot_ne_top

theorem score_zero : score x0 x1 h q r 0 ≠ ⊥ := by
  unfold score
  rw [if_pos (Nat.zero_le _)]
  exact (fin 0).2

/-- One block taken in. -/
theorem stands_block (n : ℕ) (t : Vec Ideal S256x512 .f32) (m : Vec Ideal S1x1x512 .f32) (a : Vec Ideal S1x128x512 .f32)
    (ht : ∀ k : Fin 256, t (ix2 k r) = score x0 x1 h q r (256 * n + k.val))
    (H : Stands (score x0 x1 h q r) (value x2 h) (256 * n) (m (ix3 (0 : Fin 1) (0 : Fin 1) r)) (fun e => a (ix3 (0 : Fin 1) e r))) :
    Stands (score x0 x1 h q r) (value x2 h) (256 * n + 256) (k0_pay76 t m (ix3 (0 : Fin 1) (0 : Fin 1) r))
      (fun e => k0_pay75 t m (vBlock x2 h n) a (ix3 (0 : Fin 1) e r)) := by
  refine H.step (b := 256) (score_ne_top x0 x1 h q r fin) (fun h0 => ⟨0, ?_⟩) ?_ fun e => ?_
  · rw [h0]
    exact score_zero x0 x1 h q r fin
  · rw [top_at]
    simp only [ht]
  · rw [acc_at]
    simp only [ht, value_at]

/-- What a head carries after `n` trips, the loop making `q`. -/
theorem stands_carried (n : ℕ) (hn : n ≤ q) :
    (∀ k : Fin 256, (carried x0 x1 x2 h n).ahead (ix3 (0 : Fin 1) k r) = rawScore x0 x1 h r (256 * (2 * n) + k.val))
      ∧ Stands (score x0 x1 h q r) (value x2 h) (256 * (2 * n)) ((carried x0 x1 x2 h n).top (ix3 (0 : Fin 1) (0 : Fin 1) r))
          (fun e => (carried x0 x1 x2 h n).acc (ix3 (0 : Fin 1) e r)) := by
  induction n with
  | zero =>
    refine ⟨fun k => raw_at x0 x1 h r 0 k, Or.inl ⟨rfl, mask_eq, fun e => ?_⟩⟩
    exact zero_eq
  | succ n ih =>
    obtain ⟨ha, hs⟩ := ih (by omega)
    refine ⟨fun k => raw_at x0 x1 h r (2 * n + 2) k, ?_⟩
    have h1 := stands_block x0 x1 x2 h q r fin (2 * n) (k0_pay19 (carried x0 x1 x2 h n).ahead) _ _ (fun k => by
      rw [plain_at, ha k]
      unfold score
      rw [if_pos (by have := k.isLt; omega)]) hs
    have h2 := stands_block x0 x1 x2 h q r fin (2 * n + 1) (k0_pay19 (k0_pay54 (kBlock x1 h (2 * n + 1)) (qBlock x0 h))) _ _ (fun k => by
      rw [plain_at, raw_at]
      unfold score
      rw [if_pos (by have := k.isLt; omega)]) h1
    exact h2

/-- After the two masked blocks the pair stands for every key that the query may see. -/
theorem stands_last :
    ∃ m, Stands (score x0 x1 h q r) (value x2 h) (512 * q + 512) m (fun e => lastAcc x0 x1 x2 h q (ix3 (0 : Fin 1) e r)) := by
  obtain ⟨ha, hs⟩ := stands_carried x0 x1 x2 h q r fin q le_rfl
  have h1 := stands_block x0 x1 x2 h q r fin (2 * q) (k0_pay72 (carried x0 x1 x2 h q).ahead) _ _ (fun k => by
    rw [cut0_at, ha k]
    unfold score
    have e : (k.val ≤ r.val) = (256 * (2 * q) + k.val ≤ 512 * q + r.val) := by apply propext; omega
    simp only [e]) hs
  have h2 := stands_block x0 x1 x2 h q r fin (2 * q + 1) (k0_pay77 (k0_pay54 (kBlock x1 h (2 * q + 1)) (qBlock x0 h))) _ _ (fun k => by
    rw [cut1_at, raw_at]
    unfold score
    have e : (k.val + 256 ≤ r.val) = (256 * (2 * q + 1) + k.val ≤ 512 * q + r.val) := by apply propext; omega
    simp only [e]) h1
  have e : 256 * (2 * q + 1) + 256 = 512 * q + 512 := by omega
  rw [e] at h2
  exact ⟨_, h2⟩

/-- The head's quotient at query `r`: the softmax-weighted mean of the values, whatever real shift `x` the softmax takes. -/
theorem head_out (hq : q < 8) (ones : ∀ j, value x2 h 64 j = 1) (e : Fin 128) {x : EReal} {M : ℝ} (hx : x = (M : EReal)) :
    k0_pay87 (lastAcc x0 x1 x2 h q) (ix2 r e)
      = ∑ j : Fin 4096, value x2 h e j.val * Ideal.div (Ideal.exp (score x0 x1 h q r j.val * ((Real.log 2 : ℝ) : EReal) - x))
          (∑ k : Fin 4096, Ideal.exp (score x0 x1 h q r k.val * ((Real.log 2 : ℝ) : EReal) - x)) := by
  obtain ⟨m, H⟩ := stands_last x0 x1 x2 h q r fin
  rw [quot_at]
  refine H.quotient (score_ne_top x0 x1 h q r fin) (by omega) (N := 4096) (by omega) (score_zero x0 x1 h q r fin) (fun j hj => ?_) 64
    (fun j _ => ones j) hx e
  unfold score
  rw [if_neg (by have := r.isLt; omega)]

end

end Cert.Flash

end
-- ==== Proof.FlashReference.lean ====
/-
  The reference attention, read at an index: its masked and scaled scores, the row maximum they are lowered by, their
  exponentials, and the result as the ratio-weighted sum of the values.
-/
module

public import proofs.«01_k».proof.Proof.Gen.ReferenceIdeal.Run
public import proofs.«01_k».proof.Proof.Online
public import Idealize.ShloMosaic.Lib.Pointwise
public import Idealize.ShloMosaic.Lib.WordCmp

@[expose] public section

noncomputable section

namespace Cert.Flash.Ref

open Cert.ReferenceIdeal Cert.ReferenceIdeal.Gen Idealize.ShloMosaic Idealize.ShloMosaic.TcCoe

/-- The scores of all heads, in powers of e, the keys after a query at `−∞`. -/
def logits (q k : FVec Ideal S32768x1024 .bf16) : FVec Ideal S8x8x4096x4096 .f32 :=
  select (broadcastInDim S8x8x4096x4096 ![2, 3] bcast_S4096x4096_S8x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (mulf (Host.dotGeneral dot_S8x4096x8x128_S8x4096x8x128_S8x8x4096x4096_3_3_1_1_02_02 none (shapeCast _ (extf .f32 q bitsLt_bf16_f32) shapeCasts_S32768x1024_S8x4096x8x128) (shapeCast _ (extf .f32 k bitsLt_bf16_f32) shapeCasts_S32768x1024_S8x4096x8x128)) (broadcastInDim S8x8x4096x4096 ![] bcast_S_S8x8x4096x4096 (Host.log (constant S_ .f32 0x40000000#32)))) (broadcastInDim S8x8x4096x4096 ![] bcast_S_S8x8x4096x4096 (id (constant S_ .f32 0xFF800000#32)))

/-- The maximum of each row of scores. -/
def tops (s : FVec Ideal S8x8x4096x4096 .f32) : FVec Ideal S8x8x4096 .f32 :=
  maximumf (broadcastInDim S8x8x4096 ![] bcast_S_S8x8x4096 (constant S_ .f32 0xFF800000#32)) (Host.reduce FloatOps.maximumf s (constant S_ .f32 0xFF800000#32) reducesTo_S8x8x4096x4096_S8x8x4096_d3 h_S_)

/-- The exponentials of the scores less their row's number. -/
def exps (s : FVec Ideal S8x8x4096x4096 .f32) (t : FVec Ideal S8x8x4096 .f32) : FVec Ideal S8x8x4096x4096 .f32 :=
  Host.exp (subf s (broadcastInDim S8x8x4096x4096 ![0, 1, 2, 3] bcast_S8x8x4096x1_S8x8x4096x4096_0_1_2_3 (broadcastInDim S8x8x4096x1 ![0, 1, 2] bcast_S8x8x4096_S8x8x4096x1_0_1_2 t)))

/-- The exponentials over their row's sum. -/
def weights (e : FVec Ideal S8x8x4096x4096 .f32) : FVec Ideal S8x8x4096x4096 .f32 :=
  Host.divf e (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd e (constant S_ .f32 0x00000000#32) reducesTo_S8x8x4096x4096_S8x8x4096_d3 h_S_)))

/-- The values of all heads. -/
def vals (v : FVec Ideal S1024x32768 .bf16) : FVec Ideal S8x4096x8x64 .f32 :=
  extractStridedSlice S8x4096x8x64 ![0, 0, 0, 0] (shapeCast _ (transpose S32768x1024 [1, 0] (extf .f32 v bitsLt_bf16_f32) transposes_S1024x32768_S32768x1024_1_0) shapeCasts_S32768x1024_S8x4096x8x128) slices_S8x4096x8x128_S8x4096x8x64_0_0_0_0

/-- The weighted values of all heads. -/
def mixed (v : FVec Ideal S8x4096x8x64 .f32) (p : FVec Ideal S8x8x4096x4096 .f32) : FVec Ideal S8x8x64x4096 .f32 :=
  Host.dotGeneral dot_S8x4096x8x64_S8x8x4096x4096_S8x8x64x4096_1_3_3_2_02_01 none v p

/-- The heads side by side. -/
def joined (o : FVec Ideal S8x8x64x4096 .f32) : FVec Ideal S32768x512 .bf16 :=
  truncf .bf16 (shapeCast _ (transpose S8x4096x8x64 [0, 3, 1, 2] o transposes_S8x8x64x4096_S8x4096x8x64_0_3_1_2) shapeCasts_S8x4096x8x64_S32768x512) bitsLt_bf16_f32

/-- The reference attention, from its queries, keys and transposed values. -/
def attention (q k : FVec Ideal S32768x1024 .bf16) (v : FVec Ideal S1024x32768 .bf16) : FVec Ideal S32768x512 .bf16 :=
  joined (mixed (vals v) (weights (exps (logits q k) (tops (logits q k)))))

/-- The reference's result is `attention` of its arguments. -/
theorem result_eq (m : (ℓ : Loc nD τ sig) → Buf (Elt Ideal) ℓ) (c : Dev nD) :
    Value.res_main_v33 m c = attention (m ((c.tc : Thread nD τ).loc main_arg0)) (m ((c.tc : Thread nD τ).loc main_arg1))
      (m ((c.tc : Thread nD τ).loc main_arg2)) := rfl

theorem joined_at (o : FVec Ideal S8x8x64x4096 .f32) (r : Fin 32768) (l : Fin 512) :
    joined o (ix2 r l) = o (ix4 ⟨r.val / 4096, by omega⟩ ⟨l.val / 64, by omega⟩ ⟨l.val % 64, by omega⟩ ⟨r.val % 4096, by omega⟩) := by
  pointwise [joined]

theorem vals_at (v : FVec Ideal S1024x32768 .bf16) (b : Fin 8) (j : Fin 4096) (h : Fin 8) (e : Fin 64) :
    vals v (ix4 b j h e) = v (ix2 ⟨h.val * 128 + e.val, by omega⟩ ⟨b.val * 4096 + j.val, by omega⟩) := by
  pointwise [vals]

theorem mixed_at (v : FVec Ideal S8x4096x8x64 .f32) (p : FVec Ideal S8x8x4096x4096 .f32) (b h : Fin 8) (e : Fin 64) (r : Fin 4096) :
    mixed v p (ix4 b h e r) = ∑ j : Fin 4096, v (ix4 b j h e) * p (ix4 b h r j) := by
  pointwise [mixed]

theorem weights_at (x : FVec Ideal S8x8x4096x4096 .f32) (b h : Fin 8) (r j : Fin 4096) :
    weights x (ix4 b h r j) = Ideal.div (x (ix4 b h r j)) (∑ k : Fin 4096, x (ix4 b h r k)) := by
  pointwise [weights]

theorem exps_at (s : FVec Ideal S8x8x4096x4096 .f32) (t : FVec Ideal S8x8x4096 .f32) (b h : Fin 8) (r j : Fin 4096) :
    exps s t (ix4 b h r j) = Ideal.exp (s (ix4 b h r j) - t (ix3 b h r)) := by
  pointwise [exps]

/-- The pattern of `−∞` is `⊥`. -/
theorem low_eq : Ideal.ofBits .f32 0xFF800000#32 = ⊥ := by
  simp [Ideal.ofBits, Ideal.ieee]

/-- The logarithm of the pattern of two. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h]
  show (if (2 : ℝ) ≤ 0 then (⊥ : EReal) else (Real.log 2 : EReal)) = _
  rw [if_neg (by norm_num)]

/-- A maximum folded over a list stays below `⊤` if all its entries do, and is at least each of them. -/
theorem foldl_max {ι : Type} (f : ι → EReal) : ∀ (l : List ι) (x : EReal), x ≠ ⊤ → (∀ n ∈ l, f n ≠ ⊤) →
    l.foldl (fun r n => max r (f n)) x ≠ ⊤ ∧ x ≤ l.foldl (fun r n => max r (f n)) x
      ∧ ∀ n ∈ l, f n ≤ l.foldl (fun r n => max r (f n)) x
  | [], x, hx, _ => ⟨hx, le_refl _, fun _ h => nomatch h⟩
  | a :: l, x, hx, hf => by
    obtain ⟨h1, h2, h3⟩ := foldl_max f l (max x (f a)) (by
      rcases max_choice x (f a) with h | h <;> rw [h]
      exacts [hx, hf a (List.mem_cons_self ..)]) fun n hn => hf n (List.mem_cons_of_mem _ hn)
    refine ⟨h1, (le_max_left _ _).trans h2, fun n hn => ?_⟩
    rcases List.mem_cons.1 hn with rfl | hn
    exacts [(le_max_right _ _).trans h2, h3 n hn]

/-- A maximum over an axis, from `−∞`, is a real number if no entry is `⊤` and one entry that reduces there is not `⊥`. -/
theorem reduce_max_real {s t u : Shape} {axes : List (Fin s.rank)} (x : s.Idx → EReal) (init : u.Idx → EReal)
    (h : s.ReducesTo axes t) (hu : 0 < u.numel) (j : t.Idx) (hinit : ∀ i, init i ≠ ⊤) (hx : ∀ i, x i ≠ ⊤)
    (i : s.Idx) (hi : h.drop i = j) (hlow : x i ≠ ⊥) :
    ∃ M : ℝ, Host.reduce (FloatOps.maximumf (F := Ideal) (φ := .f32)) x init h hu j = (M : EReal) := by
  rw [Host.reduce_eq_foldl]
  simp only [Ideal.maximumf_def]
  obtain ⟨h1, _, h3⟩ := foldl_max x ((((List.finRange s.numel).map s.rowMajor.symm)).filter fun i => h.drop i = j)
    (init (Shape.Idx.first hu)) (hinit _) fun n _ => hx n
  have h4 := h3 i (by
    rw [List.mem_filter]
    exact ⟨List.mem_map.2 ⟨s.rowMajor i, List.mem_finRange _, Equiv.symm_apply_apply _ _⟩, by simp [hi]⟩)
  refine ⟨EReal.toReal _, (EReal.coe_toReal h1 fun hb => hlow ?_).symm⟩
  rw [hb] at h4
  exact le_bot_iff.1 h4

/-- The row maximum is a real number if no score is `⊤` and one score of the row is not `⊥`. -/
theorem tops_real (s : FVec Ideal S8x8x4096x4096 .f32) (b h : Fin 8) (r : Fin 4096) (hs : ∀ i, s i ≠ (⊤ : EReal))
    (j : Fin 4096) (hj : s (ix4 b h r j) ≠ (⊥ : EReal)) : ∃ M : ℝ, tops s (ix3 b h r) = (M : EReal) := by
  obtain ⟨M, hM⟩ := reduce_max_real s (constant (F := Ideal) S_ .f32 0xFF800000#32) reducesTo_S8x8x4096x4096_S8x8x4096_d3 h_S_
    (ix3 b h r) (fun _ => by rw [show (constant (F := Ideal) S_ .f32 0xFF800000#32 _ : EReal) = Ideal.ofBits .f32 0xFF800000#32 from rfl, low_eq]; exact bot_ne_top)
    hs (ix4 b h r j) ((Shape.ReducesTo.fiber_r4_a3 reducesTo_S8x8x4096x4096_S8x8x4096_d3 (ix3 b h r) _).2 ⟨j, rfl⟩) hj
  refine ⟨M, ?_⟩
  unfold tops
  rw [maximumf_apply, hM]
  show max (Ideal.ofBits .f32 0xFF800000#32) (M : EReal) = M
  rw [low_eq, max_eq_right bot_le]

/-- The score of key `j` for query `r`. -/
def logit (q k : FVec Ideal S32768x1024 .bf16) (b h : Fin 8) (r j : Fin 4096) : EReal :=
  if j.val ≤ r.val then (∑ d : Fin 128, q (ix2 ⟨b.val * 4096 + r.val, by omega⟩ ⟨h.val * 128 + d.val, by omega⟩)
      * k (ix2 ⟨b.val * 4096 + j.val, by omega⟩ ⟨h.val * 128 + d.val, by omega⟩)) * ((Real.log 2 : ℝ) : EReal) else ⊥

/-- A select on a comparison of small numbers. -/
theorem select_le (a b : ℕ) (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat (w := 32) ha hb]
  by_cases h : a ≤ b <;> simp [h, Scalar.select]

theorem logits_at (q k : FVec Ideal S32768x1024 .bf16) (b h : Fin 8) (r j : Fin 4096) :
    logits q k (ix4 b h r j) = logit q k b h r j := by
  pointwise [logits]
  refine (select_le j.val r.val (by omega) (by omega) _ _).trans ?_
  unfold logit
  rw [log_two, show (id (constant (F := Ideal) S_ .f32 0xFF800000#32) ix0 : EReal) = Ideal.ofBits .f32 0xFF800000#32 from rfl, low_eq]

/-- The reference at a row and a column, from finite scores: the values of the column's head and lane, weighted by the
    softmax of the scores at some real shift. -/
theorem attention_at (q k : FVec Ideal S32768x1024 .bf16) (v : FVec Ideal S1024x32768 .bf16)
    (fin : ∀ b h r j, logit q k b h r j ≠ ⊤) (diag : ∀ b h r, logit q k b h r r ≠ ⊥)
    (b h : Fin 8) (e : Fin 64) (r : Fin 4096) (R : Fin 32768) (C : Fin 512) (hR : R.val = b.val * 4096 + r.val) (hC : C.val = h.val * 64 + e.val) :
    ∃ M : ℝ, attention q k v (ix2 R C) = ∑ j : Fin 4096, v (ix2 ⟨h.val * 128 + e.val, by omega⟩ ⟨b.val * 4096 + j.val, by omega⟩)
      * Ideal.div (Ideal.exp (logit q k b h r j - (M : EReal))) (∑ i : Fin 4096, Ideal.exp (logit q k b h r i - (M : EReal))) := by
  obtain ⟨M, hM⟩ := tops_real (logits q k) b h r (fun i => by
    idx_vars i; rw [logits_at]; exact fin _ _ _ _) r (by rw [logits_at]; exact diag _ _ _)
  refine ⟨M, ?_⟩
  have h1 : (⟨R.val / 4096, by omega⟩ : Fin 8) = b := Fin.ext (by show R.val / 4096 = b.val; omega)
  have h2 : (⟨C.val / 64, by omega⟩ : Fin 8) = h := Fin.ext (by show C.val / 64 = h.val; omega)
  have h3 : (⟨C.val % 64, by omega⟩ : Fin 64) = e := Fin.ext (by show C.val % 64 = e.val; omega)
  have h4 : (⟨R.val % 4096, by omega⟩ : Fin 4096) = r := Fin.ext (by show R.val % 4096 = r.val; omega)
  unfold attention
  rw [joined_at, h1, h2, h3, h4, mixed_at]
  refine Finset.sum_congr rfl fun j _ => ?_
  rw [vals_at, weights_at, exps_at, hM, logits_at]
  simp only [exps_at, hM, logits_at]

end Cert.Flash.Ref

end
-- ==== Proof.FlashBlock.lean ====
/-
  One grid point against the reference: the block a point writes is the reference attention at the rows and columns the
  block is placed at, if the queries and keys are finite and the row of ones under each head's values is there.
-/
module

public import proofs.«01_k».proof.Proof.FlashRow
public import proofs.«01_k».proof.Proof.FlashReference

@[expose] public section

set_option maxRecDepth 16384

noncomputable section

namespace Cert.Flash

open Idealize.ShloMosaic Idealize.ShloMosaic.TcCoe
open Cert.KernelIdeal Cert.KernelIdeal.Gen

/-- What the kernel's arguments are asked to be: finite queries and keys, and a row of ones under each head's values. -/
structure Fit (Q K : FVec Ideal S32768x1024 .bf16) (V : FVec Ideal S1024x32768 .bf16) : Prop where
  queries : ∀ i, ∃ a : ℝ, Q i = (a : EReal)
  keys : ∀ i, ∃ a : ℝ, K i = (a : EReal)
  ones : ∀ (h : Fin 8) (n : Fin 32768), V (ix2 ⟨h.val * 128 + 64, by omega⟩ n) = (1 : EReal)

/-- A dot product of real numbers is a real number. -/
theorem dot_real {κ : Type} [Fintype κ] (f g : κ → EReal) (hf : ∀ d, ∃ a : ℝ, f d = (a : EReal)) (hg : ∀ d, ∃ a : ℝ, g d = (a : EReal)) :
    ∃ a : ℝ, ∑ d, f d * g d = (a : EReal) := by
  choose a ha using hf
  choose b hb using hg
  refine ⟨∑ d, a d * b d, ?_⟩
  rw [coe_sum]
  refine Finset.sum_congr rfl fun d _ => ?_
  rw [ha, hb, EReal.coe_mul]

/-- Under `Fit` a score is a real number or masked. -/
theorem logit_cases {Q K : FVec Ideal S32768x1024 .bf16} {V : FVec Ideal S1024x32768 .bf16} (fit : Fit Q K V) (b h : Fin 8) (r j : Fin 4096) :
    ∃ a : ℝ, Ref.logit Q K b h r j = if j.val ≤ r.val then (a : EReal) else ⊥ := by
  obtain ⟨a, ha⟩ := dot_real (fun d : Fin 128 => Q (ix2 ⟨b.val * 4096 + r.val, by omega⟩ ⟨h.val * 128 + d.val, by omega⟩))
    (fun d : Fin 128 => K (ix2 ⟨b.val * 4096 + j.val, by omega⟩ ⟨h.val * 128 + d.val, by omega⟩)) (fun _ => fit.queries _) (fun _ => fit.keys _)
  refine ⟨a * Real.log 2, ?_⟩
  unfold Ref.logit
  rw [EReal.coe_mul, ← ha]

variable {Q K : FVec Ideal S32768x1024 .bf16} {V : FVec Ideal S1024x32768 .bf16} (fit : Fit Q K V)
variable (x0 : Vec Ideal S512x256 .bf16) (x1 : Vec Ideal S4096x256 .bf16) (x2 : Vec Ideal S256x4096 .bf16)
variable (b : Fin 8) (p : Fin 4) (i : Fin 8)
variable (r0 : ∀ (r : Fin 512) (c : Fin 256) (R : Fin 32768) (C : Fin 1024), R.val = (b.val * 8 + i.val) * 512 + r.val →
  C.val = p.val * 256 + c.val → x0 (ix2 r c) = Q (ix2 R C))
variable (r1 : ∀ (j : Fin 4096) (c : Fin 256) (R : Fin 32768) (C : Fin 1024), R.val = b.val * 4096 + j.val →
  C.val = p.val * 256 + c.val → x1 (ix2 j c) = K (ix2 R C))
variable (r2 : ∀ (c : Fin 256) (j : Fin 4096) (R : Fin 1024) (C : Fin 32768), R.val = p.val * 256 + c.val →
  C.val = b.val * 4096 + j.val → x2 (ix2 c j) = V (ix2 R C))

include fit r0 r1 in
/-- A block's scores are real numbers. -/
theorem raw_real (h : Fin 2) (r : Fin 512) (j : ℕ) : ∃ a : ℝ, rawScore x0 x1 h r j = (a : EReal) :=
  dot_real _ _ (fun d => by
    rw [r1 _ _ ⟨b.val * 4096 + (Fin.ofNat 4096 j).val, by omega⟩ ⟨p.val * 256 + (col h d).val, by omega⟩ rfl rfl]; exact fit.keys _)
    (fun d => by
    rw [r0 _ _ ⟨(b.val * 8 + i.val) * 512 + r.val, by omega⟩ ⟨p.val * 256 + (col h d).val, by omega⟩ rfl rfl]; exact fit.queries _)

include r0 r1 in
/-- A block's scores, in powers of e, are the reference's. -/
theorem score_logit (h : Fin 2) (r : Fin 512) (j : Fin 4096) :
    score x0 x1 h i.val r j.val * ((Real.log 2 : ℝ) : EReal)
      = Ref.logit Q K b ⟨p.val * 2 + h.val, by omega⟩ ⟨i.val * 512 + r.val, by omega⟩ j := by
  unfold score Ref.logit
  by_cases hj : j.val ≤ 512 * i.val + r.val
  · rw [if_pos hj, if_pos (by show j.val ≤ i.val * 512 + r.val; omega)]
    congr 1
    unfold rawScore
    refine Finset.sum_congr rfl fun d _ => ?_
    rw [r1 _ _ ⟨b.val * 4096 + j.val, by omega⟩ ⟨(p.val * 2 + h.val) * 128 + d.val, by omega⟩
        (by simp only [Fin.ofNat]; omega) (by simp only [col]; omega),
      r0 _ _ ⟨b.val * 4096 + (i.val * 512 + r.val), by omega⟩ ⟨(p.val * 2 + h.val) * 128 + d.val, by omega⟩
        (by show b.val * 4096 + (i.val * 512 + r.val) = _; omega) (by simp only [col]; omega), mul_comm]
  · rw [if_neg hj, if_neg (by show ¬ j.val ≤ i.val * 512 + r.val; omega)]
    exact EReal.bot_mul_coe_of_pos (Real.log_pos (by norm_num))

include r2 in
/-- A block's values are the reference's. -/
theorem value_read (h : Fin 2) (e : Fin 128) (j : ℕ) (hj : j < 4096) (R : Fin 1024) (C : Fin 32768)
    (hR : R.val = (p.val * 2 + h.val) * 128 + e.val) (hC : C.val = b.val * 4096 + j) : value x2 h e j = V (ix2 R C) :=
  r2 _ _ _ _ (by simp only [col]; omega) (by simp only [Fin.ofNat]; omega)

include fit r2 in
theorem value_one (h : Fin 2) (j : ℕ) : value x2 h 64 j = 1 :=
  (r2 _ _ ⟨(p.val * 2 + h.val) * 128 + 64, by omega⟩ ⟨b.val * 4096 + (Fin.ofNat 4096 j).val, by omega⟩
    (by simp only [col]; show (p.val * 2 + h.val) * 128 + 64 = p.val * 256 + (128 * h.val + 64); omega) rfl).trans
    (fit.ones ⟨p.val * 2 + h.val, by omega⟩ _)

include fit r0 r1 r2 in
/-- One head's lanes of the block. -/
theorem head_block (h : Fin 2) (r : Fin 512) (e : Fin 64) (R : Fin 32768) (C : Fin 512)
    (hR : R.val = (b.val * 8 + i.val) * 512 + r.val) (hC : C.val = p.val * 128 + h.val * 64 + e.val) :
    k0_pay87 (lastAcc x0 x1 x2 h i.val) (ix2 r (⟨e.val, by omega⟩ : Fin 128)) = Ref.attention Q K V (ix2 R C) := by
  obtain ⟨M, hM⟩ := Ref.attention_at Q K V
    (fun b h r j => by obtain ⟨a, ha⟩ := logit_cases fit b h r j; rw [ha]; split_ifs; exacts [EReal.coe_ne_top a, bot_ne_top])
    (fun b h r => by obtain ⟨a, ha⟩ := logit_cases fit b h r r; rw [ha, if_pos le_rfl]; exact EReal.coe_ne_bot a)
    b ⟨p.val * 2 + h.val, by omega⟩ e ⟨i.val * 512 + r.val, by omega⟩ R C (by show R.val = b.val * 4096 + (i.val * 512 + r.val); omega)
    (by show C.val = (p.val * 2 + h.val) * 64 + e.val; omega)
  rw [hM, head_out x0 x1 x2 h i.val r
    (fun j => by obtain ⟨a, ha⟩ := raw_real fit x0 x1 b p i r0 r1 h r j; rw [ha]; exact ⟨EReal.coe_ne_top a, EReal.coe_ne_bot a⟩)
    i.isLt (value_one fit x2 b p r2 h) ⟨e.val, by omega⟩ (M := M) rfl]
  refine Finset.sum_congr rfl fun j _ => ?_
  rw [value_read x2 b p r2 h _ j.val j.isLt ⟨(p.val * 2 + h.val) * 128 + e.val, by omega⟩ ⟨b.val * 4096 + j.val, by omega⟩ rfl rfl, score_logit x0 x1 b p i r0 r1]
  simp only [score_logit x0 x1 b p i r0 r1]

include fit r0 r1 r2 in
/-- The block a point writes is the reference attention where it is placed. -/
theorem block_out (r : Fin 512) (l : Fin 128) (R : Fin 32768) (C : Fin 512)
    (hR : R.val = (b.val * 8 + i.val) * 512 + r.val) (hC : C.val = p.val * 128 + l.val) :
    outBlock x0 x1 x2 i.val (ix2 r l) = Ref.attention Q K V (ix2 R C) := by
  unfold outBlock
  rw [out_at]
  by_cases hl : l.val < 64
  · rw [dif_pos hl]
    exact head_block fit x0 x1 x2 b p i r0 r1 r2 0 r ⟨l.val, hl⟩ R C hR (by show C.val = p.val * 128 + 0 * 64 + l.val; omega)
  · rw [dif_neg hl]
    exact head_block fit x0 x1 x2 b p i r0 r1 r2 1 r ⟨l.val - 64, by omega⟩ R C hR
      (by show C.val = p.val * 128 + 1 * 64 + (l.val - 64); omega)

end Cert.Flash

end
-- ==== Proof.FlashArray.lean ====
/-
  The array the kernel leaves is the reference attention of its arguments: the blocks written back tile it, and each is
  the reference where it is placed.
-/
module

public import proofs.«01_k».proof.Proof.FlashFrame
public import proofs.«01_k».proof.Proof.FlashBlock
public import Idealize.ShloMosaic.Lib.Pipeline.ValueKit

@[expose] public section

set_option maxRecDepth 16384

noncomputable section

namespace Cert.Flash

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where each window's block is at a grid point. -/
theorem places : ∀ t : Fin cfg0.N,
    win0_0.index t = ![(grid0.coords t 0).val * 8 + (grid0.coords t 2).val, (grid0.coords t 1).val]
    ∧ win0_1.index t = ![(grid0.coords t 0).val, (grid0.coords t 1).val]
    ∧ win0_2.index t = ![(grid0.coords t 1).val, (grid0.coords t 0).val]
    ∧ win0_3.index t = ![(grid0.coords t 0).val * 8 + (grid0.coords t 2).val, (grid0.coords t 1).val]
    ∧ (grid0.coords t 0).val < 8 ∧ (grid0.coords t 1).val < 4 ∧ (grid0.coords t 2).val < 8 :=
  (by decide +kernel : ∀ t : Fin grid0.N, _)

/-- The queries' block. -/
theorem queries_at (c : Dev nD) (t : Fin cfg0.N) (r : Fin 512) (l : Fin 256) (R : Fin 32768) (C : Fin 1024)
    (hR : R.val = ((grid0.coords t 0).val * 8 + (grid0.coords t 2).val) * 512 + r.val) (hC : C.val = (grid0.coords t 1).val * 256 + l.val) :
    (show Vec Ideal S512x256 .bf16 from iblk m c 0 t) (ix2 r l) = (m ((c : Thread nD τ).loc main_arg0) : FVec Ideal S32768x1024 .bf16) (ix2 R C) := by
  blk_ext [iblk, V, places t]

/-- The keys' block. -/
theorem keys_at (c : Dev nD) (t : Fin cfg0.N) (r : Fin 4096) (l : Fin 256) (R : Fin 32768) (C : Fin 1024)
    (hR : R.val = (grid0.coords t 0).val * 4096 + r.val) (hC : C.val = (grid0.coords t 1).val * 256 + l.val) :
    (show Vec Ideal S4096x256 .bf16 from iblk m c 1 t) (ix2 r l) = (m ((c : Thread nD τ).loc main_arg1) : FVec Ideal S32768x1024 .bf16) (ix2 R C) := by
  blk_ext [iblk, V, places t]

/-- The values' block. -/
theorem values_at (c : Dev nD) (t : Fin cfg0.N) (r : Fin 256) (l : Fin 4096) (R : Fin 1024) (C : Fin 32768)
    (hR : R.val = (grid0.coords t 1).val * 256 + r.val) (hC : C.val = (grid0.coords t 0).val * 4096 + l.val) :
    (show Vec Ideal S256x4096 .bf16 from iblk m c 2 t) (ix2 r l) = (m ((c : Thread nD τ).loc main_arg2) : FVec Ideal S1024x32768 .bf16) (ix2 R C) := by
  blk_ext [iblk, V, places t]

/-- The output array after the run. -/
theorem array_eq (c : Dev nD)
    (fit : Fit (m ((c : Thread nD τ).loc main_arg0)) (m ((c : Thread nD τ).loc main_arg1)) (m ((c : Thread nD τ).loc main_arg2))) :
    (dats m 0 c).arrAt 3 cfg0.N
      = Ref.attention (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨_, _, _, p3, l0, l1, l2⟩ := places t
  blk_simp
  rw [after0_3]
  obtain ⟨r, l, rfl⟩ : ∃ (r : Fin 512) (l : Fin 128), y = ix2 r l := ⟨y 0, y 1, eq_ix2 y⟩
  refine Eq.trans (block_out fit (iblk m c 0 t) (iblk m c 1 t) (iblk m c 2 t)
    ⟨(grid0.coords t 0).val, l0⟩ ⟨(grid0.coords t 1).val, l1⟩ ⟨(grid0.coords t 2).val, l2⟩
    (fun r c' => queries_at m c t r c') (fun r c' => keys_at m c t r c')
    (fun r c' => values_at m c t r c') r l
    ⟨((grid0.coords t 0).val * 8 + (grid0.coords t 2).val) * 512 + r.val, by omega⟩ ⟨(grid0.coords t 1).val * 128 + l.val, by omega⟩ rfl rfl) ?_
  blk_ext [p3]

end Cert.Flash

end
-- ==== Proof.FlashPre.lean ====
/-
  What the precondition says: finite queries and keys, and ones in the row under each head's values.
-/
module

public import proofs.«01_k».proof.Pre_finite_and_ones
public import proofs.«01_k».proof.Proof.FlashBlock
public import Idealize.ShloMosaic.Lib.ReduceAll

@[expose] public section

noncomputable section

namespace Cert.Flash

open Idealize.ShloMosaic Idealize.ShloMosaic.TcCoe
open Cert.Pre_finite_and_ones

/-- The side conditions of the precondition's operations. -/
theorem preFacts : Cert.Pre_finite_and_ones.Facts where
  bitsLt_bf16_f32 := by decide
  shapeCasts_S1024x32768_S8x128x32768 := by decide
  slices_S8x128x32768_S8x1x32768_0_64_0 := by decide
  shapeCasts_S8x1x32768_S8x32768 := by decide
  bcast_S_S8x32768 := by decide
  bcast_S_S32768x1024 := by decide
  reducesTo_S32768x1024_S_d0_1 := by decide
  h_S_ := by decide
  reducesTo_S8x32768_S_d0_1 := by decide

instance : Subsingleton S_.Idx := ⟨fun a b => funext fun k => k.elim0⟩

/-- A number whose magnitude compares below the pattern of `∞` is a real number. -/
theorem real_of_lt (x : EReal) (h : BitVec.ofBool (decide (max x (-x) < Ideal.ofBits .f32 0x7F800000#32)) = 1#1) : ∃ a : ℝ, x = (a : EReal) := by
  have top : Ideal.ofBits .f32 0x7F800000#32 = ⊤ := by simp [Ideal.ofBits, Ideal.ieee]
  rw [top] at h
  have lt : max x (-x) < ⊤ := by
    by_contra hn
    rw [decide_eq_false hn] at h
    exact absurd h (by decide)
  rw [max_lt_iff] at lt
  refine ⟨x.toReal, (EReal.coe_toReal lt.1.ne fun hb => ?_).symm⟩
  rw [hb] at lt
  exact absurd lt.2 (by simp)

/-- The precondition gives `Fit`. -/
theorem fit_of_pre [hF : Cert.Pre_finite_and_ones.Facts] (Q K : FVec Ideal S32768x1024 .bf16) (V : FVec Ideal S1024x32768 .bf16)
    (h : Cert.Pre_finite_and_ones.fn (F := Ideal) Q K V = fun _ => 1#1) : Fit Q K V := by
  have h0 := congrFun h ix0
  unfold Cert.Pre_finite_and_ones.fn Cert.Pre_finite_and_ones.fn_part1 at h0
  obtain ⟨h1, hones⟩ := IntOp.andi_eq_one.1 h0
  obtain ⟨hq, hk⟩ := IntOp.andi_eq_one.1 h1
  refine ⟨fun i => ?_, fun i => ?_, fun hd n => ?_⟩
  · exact real_of_lt _ (Host.reduce_andi_all _ _ _ _ _ hq i)
  · exact real_of_lt _ (Host.reduce_andi_all _ _ _ _ _ hk i)
  · have := Host.reduce_andi_all _ _ _ _ _ hones (ix2 hd n)
    revert this
    pointwise
    intro this
    by_contra hn
    rw [decide_eq_false hn] at this
    exact absurd this (by decide)

end Cert.Flash

end
-- ==== Proof.RmsNorm.lean ====
/-
  The normalised row both projections start from: a row over the root of its mean square, times a gain.
-/
module

public import Idealize.ShloMosaic.PureOps.Ideal

@[expose] public section

noncomputable section

namespace Cert

open Idealize.ShloMosaic

/-- Entry `k` of the row `x` of 1024 numbers, normalised and multiplied by `g`. -/
def rmsRow (x : Fin 1024 → EReal) (g : EReal) (k : Fin 1024) : EReal :=
  x k * Ideal.rsqrt (Ideal.div (∑ l : Fin 1024, x l * x l) (Ideal.ofBits .f32 0x44800000#32) + Ideal.ofBits .f32 0x358637BD#32) * g

end Cert

end
-- ==== Proof.FeedBlock.lean ====
/-
  The feed-forward kernel's blocks, read at an index: what its body computes of the blocks it is called with.
-/
module

public import proofs.«01_k».proof.Proof.Gen.FeedIdeal.Skeleton
public import proofs.«01_k».proof.Proof.RmsNorm
public import Idealize.ShloMosaic.Lib.Pointwise

@[expose] public section

noncomputable section

namespace Cert.Feed

open Cert.FeedIdeal Cert.FeedIdeal.Gen Idealize.ShloMosaic Idealize.ShloMosaic.TcCoe

theorem normed_at (x : Vec Ideal S1024x1024 .f32) (g : Vec Ideal S1x1024 .f32) (r k : Fin 1024) :
    k0_pay1 x g (ix2 r k) = rmsRow (fun l => x (ix2 r l)) (g (ix2 0 k)) k := by
  pointwise [k0_pay1, rmsRow]

theorem kept_at (x : Vec Ideal S1024x1024 .f32) (r k : Fin 1024) : k0_pay2 x (ix2 r k) = x (ix2 r k) := by
  pointwise [k0_pay2]

/-- One block of hidden units: `max (h · wu) 0`, squared, through the block of the second weight. -/
theorem added_at (h wu : Vec Ideal S1024x1024 .bf16) (acc : Vec Ideal S1024x1024 .f32) (wd : Vec Ideal S1024x1024 .bf16) (r d : Fin 1024) :
    k0_pay3 h wu acc wd (ix2 r d) = acc (ix2 r d)
      + ∑ f : Fin 1024, max (∑ k : Fin 1024, h (ix2 r k) * wu (ix2 k f)) (Ideal.ofBits .f32 0x00000000#32)
        * max (∑ k : Fin 1024, h (ix2 r k) * wu (ix2 k f)) (Ideal.ofBits .f32 0x00000000#32) * wd (ix2 f d) := by
  pointwise [k0_pay3]

end Cert.Feed

end
-- ==== Proof.FeedReference.lean ====
/-
  The reference feed-forward part, read at an index: the normalised rows, the hidden units, and the sum over them.
-/
module

public import proofs.«01_k».proof.Proof.Gen.FeedReferenceIdeal.Run
public import proofs.«01_k».proof.Proof.RmsNorm
public import Idealize.ShloMosaic.Lib.Pointwise

@[expose] public section

noncomputable section

namespace Cert.Feed.Ref

open Cert.FeedReferenceIdeal Cert.FeedReferenceIdeal.Gen Idealize.ShloMosaic Idealize.ShloMosaic.TcCoe

/-- The normalised rows. -/
def normed (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)

/-- The hidden units before they are squared. -/
def hidden (h : FVec Ideal S32768x1024 .f32) (wu : FVec Ideal S1024x4096 .bf16) : FVec Ideal S32768x4096 .f32 :=
  maximumf (Host.dotGeneral dot_S32768x1024_S1024x4096_S32768x4096_1_0_0_1_n_n none h (extf .f32 wu bitsLt_bf16_f32)) (broadcastInDim S32768x4096 ![] bcast_S_S32768x4096 (constant S_ .f32 0x00000000#32))

/-- The rows with the squared hidden units' contribution. -/
def added (x : FVec Ideal S32768x1024 .f32) (a : FVec Ideal S32768x4096 .f32) (wd : FVec Ideal S4096x1024 .bf16) : FVec Ideal S32768x1024 .f32 :=
  addf x (Host.dotGeneral dot_S32768x4096_S4096x1024_S32768x1024_1_0_0_1_n_n none (mulf a a) (extf .f32 wd bitsLt_bf16_f32))

/-- The reference's feed-forward part, from the rows, the gain and the two weights. -/
def feed (x : FVec Ideal S32768x1024 .f32) (g : FVec Ideal S1x1024 .f32) (wu : FVec Ideal S1024x4096 .bf16) (wd : FVec Ideal S4096x1024 .bf16) :
    FVec Ideal S32768x1024 .f32 :=
  added x (hidden (normed x g) wu) wd

theorem normed_at (x : FVec Ideal S32768x1024 .f32) (g : FVec Ideal S1x1024 .f32) (r : Fin 32768) (k : Fin 1024) :
    normed x g (ix2 r k) = rmsRow (fun l => x (ix2 r l)) (g (ix2 0 k)) k := by
  pointwise [normed, rmsRow]

theorem hidden_at (h : FVec Ideal S32768x1024 .f32) (wu : FVec Ideal S1024x4096 .bf16) (r : Fin 32768) (f : Fin 4096) :
    hidden h wu (ix2 r f) = max (∑ k : Fin 1024, h (ix2 r k) * wu (ix2 k f)) (Ideal.ofBits .f32 0x00000000#32) := by
  pointwise [hidden]

theorem added_at (x : FVec Ideal S32768x1024 .f32) (a : FVec Ideal S32768x4096 .f32) (wd : FVec Ideal S4096x1024 .bf16) (r : Fin 32768) (d : Fin 1024) :
    added x a wd (ix2 r d) = x (ix2 r d) + ∑ f : Fin 4096, a (ix2 r f) * a (ix2 r f) * wd (ix2 f d) := by
  pointwise [added]

end Cert.Feed.Ref

end
-- ==== Proof.FeedArray.lean ====
/-
  The array the feed-forward kernel leaves is the reference of its arguments: four blocks of hidden units are added to
  each block of rows, and together they are all the hidden units.
-/
module

public import proofs.«01_k».proof.Proof.Gen.FeedIdeal.Value
public import proofs.«01_k».proof.Proof.FeedBlock
public import proofs.«01_k».proof.Proof.FeedReference
public import Idealize.ShloMosaic.Lib.Pipeline.ValueKit

@[expose] public section

set_option maxRecDepth 16384

noncomputable section

namespace Cert.Feed

open Idealize.ShloMosaic Idealize.ShloMosaic.TcCoe Idealize.SL.Sem
open Idealize.ShloMosaic.Pipeline (Dat)
open Cert.FeedIdeal Cert.FeedIdeal.Gen

variable (m : (ℓ : Loc nD τ sig) → Buf (Elt Ideal) ℓ)

/-! ## What the points of one block of rows leave -/

/-- At the first point the rows are normalised and kept, and the first hidden units added to them. -/
theorem first_left (c : Dev nD) (t : Fin cfg0.N) (h0 : t.val % 4 = 0) (h1 : ¬t.val % 4 = 3) :
    (outsAt0 m c t.val t.isLt).2 = (k0_pay1 (iblk m c 0 t) (iblk m c 1 t),
      k0_pay3 (k0_pay1 (iblk m c 0 t) (iblk m c 1 t)) (iblk m c 2 t) (k0_pay2 (iblk m c 0 t)) (iblk m c 3 t)) := by
  rw [outsAt0_A m c t h0 h1]
  refine Prod.ext ?_ ?_ <;> frame_out

/-- At a point between, further hidden units are added. -/
theorem between_left (c : Dev nD) (t : Fin cfg0.N) (h0 : ¬t.val % 4 = 0) (h1 : ¬t.val % 4 = 3) (p : ℕ) (hp : p < cfg0.N) (e : t.val - 1 = p) :
    (outsAt0 m c t.val t.isLt).2 = ((outsAt0 m c p hp).2.1,
      k0_pay3 (outsAt0 m c p hp).2.1 (iblk m c 2 t) (outsAt0 m c p hp).2.2 (iblk m c 3 t)) := by
  subst e
  rw [outsAt0_B m c t h0 h1]
  refine Prod.ext rfl ?_
  frame_out
  exact congrArg₂ (fun h a => k0_pay3 h (iblk m c 2 t) a (iblk m c 3 t)) ((Memref.isWhole_whole cc0_scratch0).read_unread _)
    ((Memref.isWhole_whole cc0_scratch1).read_unread _)

/-- At the last point the sum is copied out. -/
theorem last_left (c : Dev nD) (t : Fin cfg0.N) (h0 : ¬t.val % 4 = 0) (h1 : t.val % 4 = 3) (p : ℕ) (hp : p < cfg0.N) (e : t.val - 1 = p) :
    (outsAt0 m c t.val t.isLt).1 = k0_pay3 (outsAt0 m c p hp).2.1 (iblk m c 2 t) (outsAt0 m c p hp).2.2 (iblk m c 3 t) := by
  subst e
  rw [outsAt0_C m c t h0 h1]
  frame_out
  exact congrArg₂ (fun h a => k0_pay3 h (iblk m c 2 t) a (iblk m c 3 t)) ((Memref.isWhole_whole cc0_scratch0).read_unread _)
    ((Memref.isWhole_whole cc0_scratch1).read_unread _)

/-! ## Where the blocks are -/

theorem places : ∀ t : Fin cfg0.N,
    win0_0.index t = ![t.val / 4, 0] ∧ win0_1.index t = ![0, 0] ∧ win0_2.index t = ![0, t.val % 4]
    ∧ win0_3.index t = ![t.val % 4, 0] ∧ win0_4.index t = ![t.val / 4, 0] :=
  (by decide +kernel : ∀ t : Fin grid0.N, _)

theorem rows_at (c : Dev nD) (t : Fin cfg0.N) (r k : Fin 1024) (R : Fin 32768) (hR : R.val = t.val / 4 * 1024 + r.val) :
    (show Vec Ideal S1024x1024 .f32 from iblk m c 0 t) (ix2 r k) = (m ((c : Thread nD τ).loc main_arg0) : FVec Ideal S32768x1024 .f32) (ix2 R k) := by
  blk_ext [iblk, V, places t]

theorem gain_at (c : Dev nD) (t : Fin cfg0.N) (k : Fin 1024) :
    (show Vec Ideal S1x1024 .f32 from iblk m c 1 t) (ix2 0 k) = (m ((c : Thread nD τ).loc main_arg1) : FVec Ideal S1x1024 .f32) (ix2 0 k) := by
  blk_ext [iblk, V, places t]

theorem up_at (c : Dev nD) (t : Fin cfg0.N) (k f : Fin 1024) (C : Fin 4096) (hC : C.val = t.val % 4 * 1024 + f.val) :
    (show Vec Ideal S1024x1024 .bf16 from iblk m c 2 t) (ix2 k f) = (m ((c : Thread nD τ).loc main_arg2) : FVec Ideal S1024x4096 .bf16) (ix2 k C) := by
  blk_ext [iblk, V, places t]

theorem down_at (c : Dev nD) (t : Fin cfg0.N) (f d : Fin 1024) (R : Fin 4096) (hR : R.val = t.val % 4 * 1024 + f.val) :
    (show Vec Ideal S1024x1024 .bf16 from iblk m c 3 t) (ix2 f d) = (m ((c : Thread nD τ).loc main_arg3) : FVec Ideal S4096x1024 .bf16) (ix2 R d) := by
  blk_ext [iblk, V, places t]

/-! ## The array -/

/-- One hidden unit's contribution to an entry of the result. -/
abbrev part (c : Dev nD) (R : Fin 32768) (d : Fin 1024) (f : Fin 4096) : EReal :=
  let h := Ref.hidden (Ref.normed (m ((c : Thread nD τ).loc main_arg0)) (m ((c : Thread nD τ).loc main_arg1))) (m ((c : Thread nD τ).loc main_arg2))
  h (ix2 R f) * h (ix2 R f) * (m ((c : Thread nD τ).loc main_arg3) : FVec Ideal S4096x1024 .bf16) (ix2 f d)

/-- What a point adds, once the kept rows are the reference's normalised ones. -/
theorem point_adds (c : Dev nD) (t : Fin cfg0.N) (h : Vec Ideal S1024x1024 .bf16) (acc : Vec Ideal S1024x1024 .f32) (r d : Fin 1024) (R : Fin 32768)
    (hh : ∀ k : Fin 1024, h (ix2 r k) = Ref.normed (m ((c : Thread nD τ).loc main_arg0)) (m ((c : Thread nD τ).loc main_arg1)) (ix2 R k))
    (s : Fin 4) (hs : t.val % 4 = s.val) :
    k0_pay3 h (iblk m c 2 t) acc (iblk m c 3 t) (ix2 r d) = acc (ix2 r d)
      + ∑ f : Fin 1024, part m c R d ⟨s.val * 1024 + f.val, by omega⟩ := by
  refine (added_at h (iblk m c 2 t) acc (iblk m c 3 t) r d).trans (congrArg (acc (ix2 r d) + ·) (Fin.sum_fin_congr fun f => ?_))
  have eu : (∑ k : Fin 1024, h (ix2 r k) * (show Vec Ideal S1024x1024 .bf16 from iblk m c 2 t) (ix2 k f))
      = ∑ k : Fin 1024, Ref.normed (m ((c : Thread nD τ).loc main_arg0)) (m ((c : Thread nD τ).loc main_arg1)) (ix2 R k)
        * (m ((c : Thread nD τ).loc main_arg2) : FVec Ideal S1024x4096 .bf16) (ix2 k ⟨s.val * 1024 + f.val, by omega⟩) :=
    Fin.sum_fin_congr fun k => by rw [hh k, up_at m c t k f ⟨s.val * 1024 + f.val, by omega⟩ (by rw [hs])]
  have ed := down_at m c t f d ⟨s.val * 1024 + f.val, by omega⟩ (by rw [hs])
  dsimp only [part]
  rw [Ref.hidden_at, ← eu, ← ed]

/-- The output array after the run. -/
theorem array_eq (c : Dev nD) :
    (dats m 0 c).arrAt 4 cfg0.N = Ref.feed (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have p4 := (places t).2.2.2.2
  have ht : t.val % 4 = 3 := (flush0_4 t).mp hf
  have hN : t.val < 128 := lt_of_lt_of_eq t.isLt N_0
  have N0 : cfg0.N = 128 := N_0
  blk_simp
  rw [after0_4]
  obtain ⟨r, d, rfl⟩ : ∃ (r d : Fin 1024), y = ix2 r d := ⟨y 0, y 1, eq_ix2 y⟩
  let t0 : Fin cfg0.N := ⟨t.val - 3, by omega⟩
  let t1 : Fin cfg0.N := ⟨t.val - 2, by omega⟩
  let t2 : Fin cfg0.N := ⟨t.val - 1, by omega⟩
  let R : Fin 32768 := ⟨t.val / 4 * 1024 + r.val, by omega⟩
  have e0 := first_left m c t0 (show (t.val - 3) % 4 = 0 by omega) (show ¬(t.val - 3) % 4 = 3 by omega)
  have e1 := between_left m c t1 (show ¬(t.val - 2) % 4 = 0 by omega) (show ¬(t.val - 2) % 4 = 3 by omega) t0.val t0.isLt (show t.val - 2 - 1 = t.val - 3 by omega)
  have e2 := between_left m c t2 (show ¬(t.val - 1) % 4 = 0 by omega) (show ¬(t.val - 1) % 4 = 3 by omega) t1.val t1.isLt (show t.val - 1 - 1 = t.val - 2 by omega)
  have e3 := last_left m c t (by omega) ht t2.val t2.isLt rfl
  rw [e0] at e1
  rw [e1] at e2
  rw [e2] at e3
  dsimp only at e3
  have hh : ∀ k : Fin 1024, k0_pay1 (iblk m c 0 t0) (iblk m c 1 t0) (ix2 r k)
      = Ref.normed (m ((c : Thread nD τ).loc main_arg0)) (m ((c : Thread nD τ).loc main_arg1)) (ix2 R k) := fun k => by
    refine (normed_at (iblk m c 0 t0) (iblk m c 1 t0) r k).trans ?_
    refine Eq.trans ?_ (Ref.normed_at _ _ R k).symm
    exact congrArg₂ (fun x g => rmsRow x g k) (funext fun l => rows_at m c t0 r l R
      (show t.val / 4 * 1024 + r.val = (t.val - 3) / 4 * 1024 + r.val by omega)) (gain_at m c t0 k)
  have kept : k0_pay2 (iblk m c 0 t0) (ix2 r d) = (m ((c : Thread nD τ).loc main_arg0) : FVec Ideal S32768x1024 .f32) (ix2 R d) :=
    (kept_at (iblk m c 0 t0) r d).trans (rows_at m c t0 r d R (show t.val / 4 * 1024 + r.val = (t.val - 3) / 4 * 1024 + r.val by omega))
  refine (congrFun e3 (ix2 r d)).trans ?_
  refine (point_adds m c t _ _ r d R hh 3 ht).trans ?_
  rw [point_adds m c t2 _ _ r d R hh 2 (show (t.val - 1) % 4 = 2 by omega), point_adds m c t1 _ _ r d R hh 1 (show (t.val - 2) % 4 = 1 by omega),
    point_adds m c t0 _ _ r d R hh 0 (show (t.val - 3) % 4 = 0 by omega), kept]
  have sum : (∑ s : Fin 4, ∑ f : Fin 1024, part m c R d ⟨s.val * 1024 + f.val, by omega⟩) = ∑ f : Fin 4096, part m c R d f :=
    Fin.sum_mul_add_congr fun s f hl => rfl
  rw [Fin.sum_univ_four] at sum
  have goal : Ref.feed (m ((c : Thread nD τ).loc main_arg0)) (m ((c : Thread nD τ).loc main_arg1))
      (m ((c : Thread nD τ).loc main_arg2)) (m ((c : Thread nD τ).loc main_arg3)) (ix2 R d)
      = (show FVec Ideal S32768x1024 .f32 from m ((c : Thread nD τ).loc main_arg0)) (ix2 R d) + ∑ f : Fin 4096, part m c R d f := Ref.added_at _ _ _ R d
  refine Eq.trans ?_ (goal.symm.trans ?_)
  · rw [← sum, add_assoc, add_assoc, add_assoc]
    simp only [add_assoc]
  · blk_ext [p4]
    rfl

end Cert.Feed

end
-- ==== Proof.ProjPoint.lean ====
/-
  One grid point of the input projection's kernel. At the first of the three points of a block of rows the rows are
  normalised and kept, and projected transposed; at every point the kept rows are projected.
-/
module

public import proofs.«01_k».proof.Proof.Gen.ProjIdeal.Frame
public import proofs.«01_k».proof.Proof.Gen.ProjIdeal.Skeleton
public import Idealize.ShloMosaic.Lib.Claim
public import Idealize.ShloMosaic.Lib.Pipeline.Value
public import Idealize.ShloMosaic.Lib.Pipeline.ReadBack
public import Idealize.ShloMosaic.Lib.VecWindow

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ProjIdeal Cert.ProjIdeal.Gen

variable {F : FTy → Type} [FloatOps F]

local notation "𝕄" => MT nD τ sig Unit (Elt F) ℕ (UR sig nD τ) ℕ

/-- The body's condition holds at the points ≡ 0 (mod 3). -/
theorem starts_iff : ∀ t : Fin cfg0.N, k0_cond1 (grid0.coords t) = 1#1 ↔ t.val % 3 = 0 :=
  (by decide +kernel : ∀ t : Fin grid0.N, k0_cond1 (grid0.coords t) = 1#1 ↔ t.val % 3 = 0)

/-- A load of all of a buffer that holds `X` reads `X`. -/
theorem load_all {s : Shape} {e : EltTy} {mr : Memref sig .tc .vmem s e} (h : mr.IsWhole) (X : Vec F s e) {off : Fin s.rank → ℕ}
    (inb : ∀ a, off a + s.size a ≤ s.size a) : mr.view.readAt (Elt F) (Rect.unit off s.size inb).toLoadRect (h.unread X) = X :=
  (View.readAt_full _ _ inb).trans (h.read_unread X)

variable (c : Dev nD) (i : grid0.Coords) (arg2 : Memref sig .tc .vmem S1024x1024 .f32) (harg2 : arg2.IsWhole) (arg3 : Memref sig .tc .vmem S1x1024 .f32) (harg3 : arg3.IsWhole)
  (arg4 : Memref sig .tc .vmem S1024x2304 .bf16) (harg4 : arg4.IsWhole) (arg5 : Memref sig .tc .vmem S256x1024 .bf16) (harg5 : arg5.IsWhole)
  (arg6 : Memref sig .tc .vmem S1024x2304 .f32) (harg6 : arg6.IsWhole) (arg7 : Memref sig .tc .vmem S256x1024 .f32) (harg7 : arg7.IsWhole)
  (arg8 : Memref sig .tc .vmem S1024x1024 .bf16) (harg8 : arg8.IsWhole)
  (x0 : Vec F S1024x1024 .f32) (x1 : Vec F S1x1024 .f32) (x2 : Vec F S1024x2304 .bf16) (x3 : Vec F S256x1024 .bf16)

set_option maxHeartbeats 1000000 in
/-- A point that starts a block of rows. -/
theorem starting (hc : k0_cond1 i = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (k0_pay4 (k0_pay2 x0 x1) x2) ∗ owns (c : Thread nD τ) arg7 fullShare (k0_pay3 x0 x1 x3)
          ∗ owns (c : Thread nD τ) arg8 fullShare (k0_pay2 x0 x1)) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ inb_S1024x2304_S1024x2304_0_0 _ []).trans (congrArg₂ k0_pay4 ?_ (load_all harg4 x2 _))
    exact (View.readCov_cons_toLoadRect _ _ _ []).trans (congrArg₂ k0_pay2 (load_all harg2 x0 _) (load_all harg3 x1 _))
  isplitl [H5]
  · iexists _; isplitr; swap; · iexact H5
    ipureintro
    refine (View.read_writes_full _ _ inb_S256x1024_S256x1024_0_0 _ []).trans ?_
    rw [load_all harg2, load_all harg3, load_all harg5]
  iexists _; isplitr; swap; · iexact HS
  ipureintro
  exact (View.read_writes_full _ _ inb_S1024x1024_S1024x1024_0_0 _ []).trans (congrArg₂ k0_pay2 (load_all harg2 x0 _) (load_all harg3 x1 _))

set_option maxHeartbeats 1000000 in
/-- Any other point: the kept rows `h` are projected, the transposed projection's buffer left as it is. -/
theorem going_on (hc : ¬k0_cond1 i = 1#1) (h : Vec F S1024x1024 .bf16) (x5 : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare x5 ∗ owns (c : Thread nD τ) arg8 fullShare h
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (k0_pay4 h x2) ∗ owns (c : Thread nD τ) arg7 fullShare x5
          ∗ owns (c : Thread nD τ) arg8 fullShare h) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ inb_S1024x2304_S1024x2304_0_0 _ []).trans (congrArg₂ k0_pay4 (load_all harg8 h _) (load_all harg4 x2 _))
  isplitl [H5]
  · iexists _; isplitr; · ipureintro; exact harg7.read_unread _
    iexact H5
  iexists _; isplitr; · ipureintro; exact harg8.read_unread _
  iexact HS

end Cert.InProj

end
-- ==== Proof.ProjFrame.lean ====
/-
  The launch of the input projection's kernel. Before a point the kept rows are those of the point before it; the
  transposed projection's buffer, written at the first point of a block of rows, is written back after the third.
  The launch's set-up follows the frame certificate's.
-/
module

public import proofs.«01_k».proof.Proof.ProjPoint
public import Idealize.ShloMosaic.Lib.Pipeline.TableIdle

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The first point of the block of rows of point `n`. -/
def first (n : ℕ) (hn : n < cfg0.N) : Fin cfg0.N := ⟨3 * (n / 3), by omega⟩

theorem first_of_start (t : Fin cfg0.N) (h : t.val % 3 = 0) : first t.val t.isLt = t := Fin.ext (by show 3 * (t.val / 3) = t.val; omega)

theorem first_prev (n : ℕ) (hn : n < cfg0.N) (h : ¬n % 3 = 0) : first (n - 1) (by omega) = first n hn :=
  Fin.ext (by show 3 * ((n - 1) / 3) = 3 * (n / 3); omega)

/-- The transposed projection is stored at the points ≡ 0 (mod 3) only. -/
theorem idle_iff : ∀ t : Fin cfg0.N, cfg0.idle 5 (grid0.coords t) = !decide (t.val % 3 = 0) :=
  (by decide +kernel : ∀ t : Fin grid0.N, cfg0.idle 5 (grid0.coords t) = !decide (t.val % 3 = 0))

theorem flush_eq (t : Fin cfg0.N) : (cfg0.win 5).flush t = decide (t.val % 3 = 2) :=
  Bool.eq_iff_iff.mpr ((flush0_5 t).trans decide_eq_true_iff.symm)

/-- Its buffer holds nothing stored since the last write-back before those points. -/
theorem fresh_eq (n : ℕ) (hn : n ≤ cfg0.N) : cfg0.fresh 5 n = decide (n % 3 = 0) := by
  refine cfg0.fresh_tab 5 (fun n => decide (n % 3 = 0)) rfl (fun t => ?_) n hn
  rw [flush_eq]
  refine Eq.trans ?_ (congrArg (fun b => decide (t.val % 3 = 2) || (b && decide (t.val % 3 = 0))) (idle_iff t)).symm
  have : t.val % 3 = 0 ∨ t.val % 3 = 1 ∨ t.val % 3 = 2 := by omega
  rcases this with h | h | h
  · have h' : (t.val + 1) % 3 = 1 := by omega
    simp [h, h']
  · have h' : (t.val + 1) % 3 = 2 := by omega
    simp [h, h']
  · have h' : (t.val + 1) % 3 = 0 := by omega
    simp [h, h']

/-! ## The buffers a point is given -/

abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1024x2304 .bf16 := win0_2.stage (cfg0.slots t 2)
abbrev ms3 (t : Fin cfg0.N) : Memref sig .tc .vmem S256x1024 .bf16 := win0_3.stage (cfg0.slots t 3)
abbrev ms4 (t : Fin cfg0.N) : Memref sig .tc .vmem S1024x2304 .f32 := win0_4.stage (cfg0.slots t 4)
abbrev ms5 (t : Fin cfg0.N) : Memref sig .tc .vmem S256x1024 .f32 := win0_5.stage (cfg0.slots t 5)
/-- The buffer of the kept rows. -/
abbrev kept : Memref sig .tc .vmem S1024x1024 .bf16 := Memref.whole cc0_scratch0

theorem PhiA_eq (c : Dev nD) :
    (Pipeline.ΦA spec0 c : sProp 𝕄) = iprop((∃ d, owns (c : Thread nD τ) kept fullShare d) ∗ (∃ r, prngReg c r)) := by
  unfold Pipeline.ΦA; rw [scopedRest0_eq]; simp only [kept, owns_whole]; try rfl

/-! ## The pipeline's proof data -/

/-- The rows kept after point `n`: the block of rows it belongs to, normalised. -/
def rows (c : Dev nD) (n : ℕ) (hn : n < cfg0.N) : Vec F S1024x1024 .bf16 :=
  k0_pay2 (iblk m c 0 (first n hn)) (iblk m c 1 (first n hn))

/-- Their transposed projection. -/
def keys (c : Dev nD) (n : ℕ) (hn : n < cfg0.N) : Vec F S256x1024 .f32 :=
  k0_pay3 (iblk m c 0 (first n hn)) (iblk m c 1 (first n hn)) (iblk m c 3 (first n hn))

/-- The invariant between the points: after a point the rows it kept. -/
def Inv (c : Dev nD) : (n : ℕ) → n ≤ cfg0.N → sProp 𝕄
  | 0, _ => Pipeline.ΦA spec0 c
  | n + 1, hn => iprop(owns (c : Thread nD τ) kept fullShare (rows m c n hn) ∗ (∃ r, prngReg c r))

theorem Inv_pos (c : Dev nD) (n : ℕ) (h : n ≤ cfg0.N) (hz : n ≠ 0) :
    Inv m c n h = iprop(owns (c : Thread nD τ) kept fullShare (rows m c (n - 1) (by omega)) ∗ (∃ r, prngReg c r)) := by
  cases n with
  | zero => exact absurd rfl hz
  | succ n => rfl

/-- Whatever was kept, the invariant has the buffer at some contents. -/
theorem Inv_forget (c : Dev nD) (n : ℕ) (h : n ≤ cfg0.N) :
    Inv m c n h ⊢ iprop((∃ d, owns (c : Thread nD τ) kept fullShare d) ∗ (∃ r, prngReg c r)) := by
  cases n with
  | zero => exact Entails.of_eq (PhiA_eq c)
  | succ n =>
    show iprop(owns (c : Thread nD τ) kept fullShare (rows m c n h) ∗ (∃ r, prngReg c r)) ⊢ _
    iintro ⟨HS, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (rows m c t.val t.isLt) (iblk m c 2 t)
    | ⟨5, _⟩ => keys m c t.val t.isLt
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (rows m c t.val t.isLt) (iblk m c 2 t) := by dsimp only [dats]
theorem after5 (c : Dev nD) (t : Fin cfg0.N) : (dats m 0 c).after 5 t = keys m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem rows_prev (c : Dev nD) (n : ℕ) (hn : n < cfg0.N) (h : ¬n % 3 = 0) : rows m c (n - 1) (by omega) = rows m c n hn := by
  unfold rows; rw [first_prev n hn h]

theorem keys_prev (c : Dev nD) (n : ℕ) (hn : n < cfg0.N) (h : ¬n % 3 = 0) : keys m c (n - 1) (by omega) = keys m c n hn := by
  unfold keys; rw [first_prev n hn h]

/-- At the second and third points the transposed projection's buffer still holds it. -/
theorem before5 (c : Dev nD) (t : Fin cfg0.N) (h : ¬t.val % 3 = 0) (d) : (dats m 0 c).before 5 t d = keys m c t.val t.isLt := by
  have hcarry : ∀ (t : Fin cfg0.N) (_ : t.val ≠ 0), cfg0.idle 5 (cfg0.grid.coords t) = true → cfg0.fresh 5 t.val = false →
      (dats m 0 c).after 5 t = (dats m 0 c).after 5 ⟨t.val - 1, by omega⟩ := fun t _ _ hf => by
    rw [after5, after5]
    exact (keys_prev m c t.val t.isLt fun h0 => by
      rw [fresh_eq _ (Nat.le_of_lt t.isLt), decide_eq_true h0] at hf; exact Bool.noConfusion hf).symm
  rw [(dats m 0 c).before_out_traj 5 rfl (fun _ _ => rfl) hcarry t.val t rfl d, fresh_eq _ (Nat.le_of_lt t.isLt), decide_eq_false h,
    if_neg Bool.false_ne_true, after5]
  exact keys_prev m c t.val t.isLt h

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) :
    (dats m 0 c).leavesExact 4 t = owns (c : Thread nD τ) (ms4 t) fullShare (k0_pay4 (rows m c t.val t.isLt) (iblk m c 2 t)) := by
  unfold Dat.leavesExact; rw [show cfg0.idle 4 (cfg0.grid.coords t) = false from rfl, after4]

/-- The transposed projection's buffer holds it after every point of the block of rows, so it may be left so. -/
theorem leaves5 (c : Dev nD) (t : Fin cfg0.N) : owns (c : Thread nD τ) (ms5 t) fullShare (keys m c t.val t.isLt) ⊢ (dats m 0 c).leavesExact 5 t := by
  by_cases h : t.val % 3 = 0
  · refine Entails.of_eq ?_
    unfold Dat.leavesExact
    rw [show cfg0.idle 5 (cfg0.grid.coords t) = false from (idle_iff t).trans (by rw [decide_eq_true h]; rfl), after5]
  · have hi : cfg0.idle 5 (cfg0.grid.coords t) = true := (idle_iff t).trans (by rw [decide_eq_false h]; rfl)
    by_cases h2 : t.val % 3 = 2
    · refine Entails.of_eq ?_
      unfold Dat.leavesExact
      rw [hi, flush_eq, decide_eq_true h2, after5]
    · rw [Dat.leavesExact_idle (dats m 0 c) 5 t hi ((flush_eq t).trans (decide_eq_false h2))]
      simp only [before5 m c t h]
      iintro H
      iexists (keys m c t.val t.isLt)
      iexact H

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, leaves0, leaves1, leaves2, leaves3, leaves4,
    show (dats m 0 c).Φ t.succ = iprop(owns (c : Thread nD τ) kept fullShare (rows m c t.val t.isLt) ∗ (∃ r, prngReg c r)) from rfl,
    show (dats m 0 c).Φ t.castSucc = Inv m c t.val (Nat.le_of_lt t.isLt) from rfl]
  by_cases h : t.val % 3 = 0
  · have er : rows m c t.val t.isLt = k0_pay2 (iblk m c 0 t) (iblk m c 1 t) := by unfold rows; rw [first_of_start t h]
    have ek : keys m c t.val t.isLt = k0_pay3 (iblk m c 0 t) (iblk m c 1 t) (iblk m c 3 t) := by unfold keys; rw [first_of_start t h]
    iintro ⟨HI, Ho, ⟨%d0, H0⟩, ⟨%d1, H1⟩, ⟨%d2, H2⟩, ⟨%d3, H3⟩, ⟨%d4, H4⟩, ⟨%d5, H5⟩⟩
    ihave ⟨HS, Hg⟩ := (Inv_forget m c t.val (Nat.le_of_lt t.isLt)) $$ HI
    iapply (starting c (grid0.coords t) _ _ _ _ _ _ _ _ _ _ _ _ _ _ (iblk m c 0 t) (iblk m c 1 t) (iblk m c 2 t) (iblk m c 3 t) ((starts_iff t).mpr h) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · rw [er]; iexact HS
      iexact Hg
    isplitl [Ho]; · iexact Ho
    isplitl [H0]; · iexact H0
    isplitl [H1]; · iexact H1
    isplitl [H2]; · iexact H2
    isplitl [H3]; · iexact H3
    isplitl [H4]; · rw [er]; iexact H4
    iapply (leaves5 m c t)
    rw [ek]; iexact H5
  · rw [Inv_pos m c t.val _ (fun hz => h (by rw [hz])), rows_prev m c t.val t.isLt h]
    simp only [before5 m c t h]
    iintro ⟨⟨HS, Hg⟩, Ho, ⟨%d0, H0⟩, ⟨%d1, H1⟩, ⟨%d2, H2⟩, ⟨%d3, H3⟩, ⟨%d4, H4⟩, ⟨%d5, H5⟩⟩
    iapply (going_on c (grid0.coords t) _ _ _ _ _ _ _ _ _ _ _ _ _ _ (iblk m c 0 t) (iblk m c 1 t) (iblk m c 2 t) (iblk m c 3 t) (fun e => h ((starts_iff t).mp e)) (rows m c t.val t.isLt) (keys m c t.val t.isLt) _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Entails.of_eq rfl

theorem hout (c : Dev nD) : (dats m 0 c).Φ (Fin.last cfg0.N) ⊢ Pipeline.ΦA spec0 c :=
  (Inv_forget m c cfg0.N le_rfl).trans (Entails.of_eq (PhiA_eq c).symm)

/-! ## The run and the frame -/

-- the implicit arguments are found by unifying the conclusions, which takes unfolding plain definitions in a
-- metavariable's type
set_option backward.isDefEq.respectTransparency.types false in
/-- The launch, every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-! ## The output arrays -/

/-- The run, the two output arrays named and the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.InProj

end
-- ==== Proof.ProjBits.lean ====
/-
  The input projection's kernel as compiled, on bits: no constant of it is read by name, so it is the idealized program
  itself, and the frame carries over.
-/
module

public import proofs.«01_k».proof.Defs
public import proofs.«01_k».proof.Proof.Gen.Proj
public import proofs.«01_k».proof.Proof.ProjFrame

@[expose] public section

set_option maxRecDepth 16384

noncomputable section

namespace Cert.InProj

open Idealize.ShloMosaic Idealize.ShloMosaic.TcCoe Idealize.SL.Sem

attribute [local instance] Cert.Proj.Gen.facts Cert.ProjIdeal.Gen.facts

/-- The two tables of bodies are one, -/
theorem bodies_eq : @Cert.Proj.defs₀ Bits _ _ = @Cert.ProjIdeal.defs₀ Bits _ _ :=
  funext fun p => funext fun l => funext fun a => by
    rcases p with _ | _ | _
    · obtain ⟨l, hl⟩ := l
      obtain rfl : l = 0 := Nat.lt_one_iff.mp hl
      obtain ⟨t, s⟩ := a
      rfl
    · rfl
    · rfl

/-- and the two pipelines over them. -/
theorem defs_eq : @Cert.Proj.defs Bits _ _ = @Cert.ProjIdeal.defs Bits _ _ :=
  congrArg (Idealize.ShloMosaic.Pipeline.defs (Cert.Proj.pcfgs (F := Bits))) bodies_eq

/-- The compiled kernel runs, leaves its arguments as they were and every semaphore counter at zero. -/
theorem compiled_frame : Cert.quiescent_Proj (hProj := Cert.Proj.Gen.facts) := fun m g _ => by
  rw [defs_eq]
  exact frame (F := Bits) m g

end Cert.InProj

end
-- ==== Proof.ProjBlock.lean ====
/-
  The input projection kernel's blocks, read at an index: what its body computes of the blocks it is called with.
-/
module

public import proofs.«01_k».proof.Proof.Gen.ProjIdeal.Skeleton
public import proofs.«01_k».proof.Proof.RmsNorm
public import Idealize.ShloMosaic.Lib.Pointwise

@[expose] public section

noncomputable section

namespace Cert.InProj

open Cert.ProjIdeal Cert.ProjIdeal.Gen Idealize.ShloMosaic Idealize.ShloMosaic.TcCoe

/-- The kept rows: a block of rows, normalised. -/
theorem kept_at (x : Vec Ideal S1024x1024 .f32) (g : Vec Ideal S1x1024 .f32) (r k : Fin 1024) :
    k0_pay2 x g (ix2 r k) = rmsRow (fun l => x (ix2 r l)) (g (ix2 0 k)) k := by
  pointwise [k0_pay2, k0_pay1, rmsRow]

/-- One block of columns of the projection. -/
theorem columns_at (h : Vec Ideal S1024x1024 .bf16) (w : Vec Ideal S1024x2304 .bf16) (r : Fin 1024) (j : Fin 2304) :
    k0_pay4 h w (ix2 r j) = ∑ k : Fin 1024, h (ix2 r k) * w (ix2 k j) := by
  pointwise [k0_pay4]

/-- The retention keys of a block of rows, the weight's row first in each product. -/
theorem transposed_at (x : Vec Ideal S1024x1024 .f32) (g : Vec Ideal S1x1024 .f32) (wrk : Vec Ideal S256x1024 .bf16) (j : Fin 256) (r : Fin 1024) :
    k0_pay3 x g wrk (ix2 j r) = ∑ k : Fin 1024, wrk (ix2 j k) * rmsRow (fun l => x (ix2 r l)) (g (ix2 0 k)) k := by
  pointwise [k0_pay3, k0_pay1, rmsRow]

end Cert.InProj

end
-- ==== Proof.ProjReference.lean ====
/-
  The reference input projection, read at an index: the normalised rows through the two weights, the second product
  transposed.
-/
module

public import proofs.«01_k».proof.Proof.Gen.ProjReferenceIdeal.Run
public import proofs.«01_k».proof.Proof.RmsNorm
public import Idealize.ShloMosaic.Lib.Pointwise

@[expose] public section

noncomputable section

namespace Cert.InProj.Ref

open Cert.ProjReferenceIdeal Cert.ProjReferenceIdeal.Gen Idealize.ShloMosaic Idealize.ShloMosaic.TcCoe

/-- The normalised rows. -/
def normed (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)

/-- The rows projected. -/
def projected (h : FVec Ideal S32768x1024 .f32) (w : FVec Ideal S1024x6912 .bf16) : FVec Ideal S32768x6912 .f32 :=
  Host.dotGeneral dot_S32768x1024_S1024x6912_S32768x6912_1_0_0_1_n_n none h (extf .f32 w bitsLt_bf16_f32)

/-- The retention keys, one row for each key feature. -/
def keysOf (h : FVec Ideal S32768x1024 .f32) (wrk : FVec Ideal S256x1024 .bf16) : FVec Ideal S256x32768 .f32 :=
  transpose S256x32768 [1, 0] (Host.dotGeneral dot_S32768x1024_S1024x256_S32768x256_1_0_0_1_n_n none h (transpose S1024x256 [1, 0] (extf .f32 wrk bitsLt_bf16_f32) transposes_S256x1024_S1024x256_1_0)) transposes_S32768x256_S256x32768_1_0

theorem normed_at (x : FVec Ideal S32768x1024 .f32) (g : FVec Ideal S1x1024 .f32) (r : Fin 32768) (k : Fin 1024) :
    normed x g (ix2 r k) = rmsRow (fun l => x (ix2 r l)) (g (ix2 0 k)) k := by
  pointwise [normed, rmsRow]

theorem projected_at (h : FVec Ideal S32768x1024 .f32) (w : FVec Ideal S1024x6912 .bf16) (r : Fin 32768) (j : Fin 6912) :
    projected h w (ix2 r j) = ∑ k : Fin 1024, h (ix2 r k) * w (ix2 k j) := by
  pointwise [projected]

theorem keys_at (h : FVec Ideal S32768x1024 .f32) (wrk : FVec Ideal S256x1024 .bf16) (j : Fin 256) (r : Fin 32768) :
    keysOf h wrk (ix2 j r) = ∑ k : Fin 1024, h (ix2 r k) * wrk (ix2 j k) := by
  pointwise [keysOf]

end Cert.InProj.Ref

end
-- ==== Proof.ProjArray.lean ====
/-
  The two arrays the input projection's kernel leaves are the reference's of its arguments.
-/
module

public import proofs.«01_k».proof.Proof.ProjFrame
public import proofs.«01_k».proof.Proof.ProjBlock
public import proofs.«01_k».proof.Proof.ProjReference
public import Idealize.ShloMosaic.Lib.Pipeline.ValueKit

@[expose] public section

set_option maxRecDepth 16384

noncomputable section

namespace Cert.InProj

open Idealize.ShloMosaic Idealize.ShloMosaic.TcCoe Idealize.SL.Sem
open Idealize.ShloMosaic.Pipeline (Dat)
open Cert.ProjIdeal Cert.ProjIdeal.Gen

variable (m : (ℓ : Loc nD τ sig) → Buf (Elt Ideal) ℓ)

/-! ## Where the blocks are -/

theorem places : ∀ t : Fin cfg0.N,
    win0_0.index t = ![t.val / 3, 0] ∧ win0_1.index t = ![0, 0] ∧ win0_2.index t = ![0, t.val % 3]
    ∧ win0_3.index t = ![0, 0] ∧ win0_4.index t = ![t.val / 3, t.val % 3] ∧ win0_5.index t = ![0, t.val / 3] :=
  (by decide +kernel : ∀ t : Fin grid0.N, _)

theorem rows_at (c : Dev nD) (t : Fin cfg0.N) (r k : Fin 1024) (R : Fin 32768) (hR : R.val = t.val / 3 * 1024 + r.val) :
    (show Vec Ideal S1024x1024 .f32 from iblk m c 0 t) (ix2 r k) = (m ((c : Thread nD τ).loc main_arg0) : FVec Ideal S32768x1024 .f32) (ix2 R k) := by
  blk_ext [iblk, V, places t]

theorem gain_at (c : Dev nD) (t : Fin cfg0.N) (k : Fin 1024) :
    (show Vec Ideal S1x1024 .f32 from iblk m c 1 t) (ix2 0 k) = (m ((c : Thread nD τ).loc main_arg1) : FVec Ideal S1x1024 .f32) (ix2 0 k) := by
  blk_ext [iblk, V, places t]

theorem weight_at (c : Dev nD) (t : Fin cfg0.N) (k : Fin 1024) (j : Fin 2304) (C : Fin 6912) (hC : C.val = t.val % 3 * 2304 + j.val) :
    (show Vec Ideal S1024x2304 .bf16 from iblk m c 2 t) (ix2 k j) = (m ((c : Thread nD τ).loc main_arg2) : FVec Ideal S1024x6912 .bf16) (ix2 k C) := by
  blk_ext [iblk, V, places t]

theorem keyWeight_at (c : Dev nD) (t : Fin cfg0.N) (j : Fin 256) (k : Fin 1024) :
    (show Vec Ideal S256x1024 .bf16 from iblk m c 3 t) (ix2 j k) = (m ((c : Thread nD τ).loc main_arg3) : FVec Ideal S256x1024 .bf16) (ix2 j k) := by
  blk_ext [iblk, V, places t]

/-! ## The arrays -/

/-- The normalised row of a block at the first point of its block of rows is the reference's. -/
theorem normed_eq (c : Dev nD) (n : ℕ) (hn : n < cfg0.N) (r : Fin 1024) (R : Fin 32768) (hR : R.val = n / 3 * 1024 + r.val) (k : Fin 1024) :
    rmsRow (fun l => (show Vec Ideal S1024x1024 .f32 from iblk m c 0 (first n hn)) (ix2 r l)) ((show Vec Ideal S1x1024 .f32 from iblk m c 1 (first n hn)) (ix2 0 k)) k
      = Ref.normed (m ((c : Thread nD τ).loc main_arg0)) (m ((c : Thread nD τ).loc main_arg1)) (ix2 R k) := by
  refine Eq.trans ?_ (Ref.normed_at _ _ R k).symm
  exact congrArg₂ (fun x g => rmsRow x g k) (funext fun l => rows_at m c (first n hn) r l R
    (show R.val = 3 * (n / 3) / 3 * 1024 + r.val by omega)) (gain_at m c (first n hn) k)

/-- The projection after the run. -/
theorem array_eq (c : Dev nD) :
    (dats m 0 c).arrAt 4 cfg0.N = Ref.projected (Ref.normed (m ((c : Thread nD τ).loc main_arg0)) (m ((c : Thread nD τ).loc main_arg1)))
      (m ((c : Thread nD τ).loc main_arg2)) := by
  refine (dats m 0 c).arrAt_eq_of_covers 4 _ (by decide +kernel) fun t hf y => ?_
  have p := (places t).2.2.2.2.1
  have hN : t.val < 96 := lt_of_lt_of_eq t.isLt N_0
  blk_simp
  rw [after4]
  obtain ⟨r, j, rfl⟩ : ∃ (r : Fin 1024) (j : Fin 2304), y = ix2 r j := ⟨y 0, y 1, eq_ix2 y⟩
  let R : Fin 32768 := ⟨t.val / 3 * 1024 + r.val, by omega⟩
  let C : Fin 6912 := ⟨t.val % 3 * 2304 + j.val, by omega⟩
  refine (columns_at (rows m c t.val t.isLt) (iblk m c 2 t) r j).trans (Eq.trans ?_ ((Ref.projected_at (Ref.normed
    (m ((c : Thread nD τ).loc main_arg0)) (m ((c : Thread nD τ).loc main_arg1))) (m ((c : Thread nD τ).loc main_arg2)) R C).symm.trans ?_))
  · exact Fin.sum_fin_congr fun k => congrArg₂ (fun a b : EReal => a * b)
      ((kept_at _ _ r k).trans (normed_eq m c t.val t.isLt r R rfl k)) (weight_at m c t k j C rfl)
  · blk_ext [p] <;> rfl

/-- The retention keys after the run. -/
theorem keys_eq (c : Dev nD) :
    (dats m 0 c).arrAt 5 cfg0.N = Ref.keysOf (Ref.normed (m ((c : Thread nD τ).loc main_arg0)) (m ((c : Thread nD τ).loc main_arg1)))
      (m ((c : Thread nD τ).loc main_arg3)) := by
  refine (dats m 0 c).arrAt_eq_of_covers 5 _ (by decide +kernel) fun t hf y => ?_
  have p := (places t).2.2.2.2.2
  have hN : t.val < 96 := lt_of_lt_of_eq t.isLt N_0
  blk_simp
  rw [after5]
  obtain ⟨j, r, rfl⟩ : ∃ (j : Fin 256) (r : Fin 1024), y = ix2 j r := ⟨y 0, y 1, eq_ix2 y⟩
  let R : Fin 32768 := ⟨t.val / 3 * 1024 + r.val, by omega⟩
  refine (transposed_at (iblk m c 0 (first t.val t.isLt)) (iblk m c 1 (first t.val t.isLt)) (iblk m c 3 (first t.val t.isLt)) j r).trans
    (Eq.trans ?_ ((Ref.keys_at (Ref.normed (m ((c : Thread nD τ).loc main_arg0)) (m ((c : Thread nD τ).loc main_arg1)))
      (m ((c : Thread nD τ).loc main_arg3)) j R).symm.trans ?_))
  · exact Fin.sum_fin_congr fun k => (mul_comm _ _).trans (congrArg₂ (fun a b : EReal => a * b)
      (normed_eq m c t.val t.isLt r R rfl k) (keyWeight_at m c (first t.val t.isLt) j k))
  · blk_ext [p]
    rfl

end Cert.InProj

end
-- ==== Proof.MergeBlock.lean ====
/-
  The merge kernel's blocks, read at an index: what its body computes of the blocks it is called with.
-/
module

public import proofs.«01_k».proof.Proof.Gen.MergeIdeal.Skeleton
public import Idealize.ShloMosaic.Lib.Pointwise

@[expose] public section

noncomputable section

namespace Cert.Merge

open Cert.MergeIdeal Cert.MergeIdeal.Gen Idealize.ShloMosaic Idealize.ShloMosaic.TcCoe

theorem input_at (c h : Vec Ideal S512x512 .f32) (r k : Fin 512) : k0_pay5 c h (ix2 r k) = c (ix2 r k) * h (ix2 r k) := by
  pointwise [k0_pay5, k0_pay4]

theorem state_at (s : Vec Ideal S1x8x512 .f32) (r : Fin 8) (k : Fin 512) : k0_pay3 s (ix2 r k) = s (ix3 0 r k) := by
  pointwise [k0_pay3]

theorem tail_at (e : Vec Ideal S8x512 .f32) (r : Fin 8) (k : Fin 512) : k0_pay1 e (ix3 0 r k) = e (ix2 r k) := by
  pointwise [k0_pay1]

theorem carry_at (e : Vec Ideal S8x512 .f32) (r : Fin 8) (k : Fin 512) : k0_pay7 e (ix2 r k) = e (ix2 r k) := by
  pointwise [k0_pay7]

theorem conv_at (c h e0 : Vec Ideal S512x512 .f32) (w0 : Vec Ideal S1x512 .f32) (e1 : Vec Ideal S512x512 .f32) (w1 w2 : Vec Ideal S1x512 .f32)
    (r k : Fin 512) : k0_pay6 c h e0 w0 e1 w1 w2 (ix2 r k) = e0 (ix2 r k) * w0 (ix2 0 k) + e1 (ix2 r k) * w1 (ix2 0 k)
      + c (ix2 r k) * h (ix2 r k) * w2 (ix2 0 k) := by
  pointwise [k0_pay6, k0_pay4]

theorem merged_at (cb v : Vec Ideal S512x512 .f32) (wa : Vec Ideal S512x1024 .bf16) (b : Vec Ideal S512x512 .bf16) (wb : Vec Ideal S512x1024 .bf16)
    (d : Vec Ideal S512x512 .bf16) (wd : Vec Ideal S512x1024 .bf16) (g0 g1 g2 x : Vec Ideal S512x1024 .f32) (wo : Vec Ideal S1024x1024 .bf16)
    (r : Fin 512) (e : Fin 1024) :
    k0_pay2 cb v wa b wb d wd g0 g1 g2 x wo (ix2 r e) = x (ix2 r e) + ∑ j : Fin 1024,
      (Ideal.logistic (g0 (ix2 r j)) * (∑ k : Fin 512, cb (ix2 r k) * v (ix2 r k) * wa (ix2 k j))
        + Ideal.logistic (g1 (ix2 r j)) * (∑ k : Fin 512, b (ix2 r k) * wb (ix2 k j))
        + Ideal.logistic (g2 (ix2 r j)) * (∑ k : Fin 512, d (ix2 r k) * wd (ix2 k j))) * wo (ix2 j e) := by
  pointwise [k0_pay2]

end Cert.Merge

end
-- ==== Proof.MergeRows.lean ====
/-
  The rows the merge kernel convolves, read at an index: eight rows of what came before, and the block's rows under them.
-/
module

public import proofs.«01_k».proof.Proof.Gen.MergeIdeal
public import Idealize.ShloMosaic.Lib.Writes
public import Idealize.ShloMosaic.Lib.Pipeline.Value
public import Idealize.ShloMosaic.Lib.Pipeline.ValueKit
public import Idealize.ShloMosaic.Lib.ValueIdxCore

@[expose] public section

noncomputable section

namespace Cert.Merge

open Idealize.ShloMosaic Idealize.ShloMosaic.TcCoe Idealize.SL.Sem
open Cert.MergeIdeal Cert.MergeIdeal.Gen

variable {sig' : RefSig} {κ : Kind} {sp : Space} (v : View sig' κ sp S520x512 .f32) (f : v.ty.Contents (Elt Ideal))

/-- The block's rows from the eighth row on. -/
abbrev under (u : Vec Ideal S512x512 .f32) : View.Piece (Elt Ideal) S520x512 .f32 := ⟨Rect.unit ![8, 0] ![512, 512] inb_S520x512_S512x512_8_0, u⟩

/-- Eight rows at the top. -/
abbrev top (s : Vec Ideal S8x512 .f32) : View.Piece (Elt Ideal) S520x512 .f32 := ⟨Rect.unit ![0, 0] ![8, 512] inb_S520x512_S8x512_0_0, s⟩

theorem under_hit (u : Vec Ideal S512x512 .f32) (L : List (View.Piece (Elt Ideal) S520x512 .f32)) (p : Fin 520) (r k : Fin 512) (h : p.val = 8 + r.val) :
    v.read (Elt Ideal) (v.writes (Elt Ideal) f (under u :: L)) (ix2 p k) = u (ix2 r k) := by
  refine View.read_writes_cons_hit_of_coords v f (Rect.unit (s := S520x512) ![8, 0] ![512, 512] inb_S520x512_S512x512_8_0) u L (ix2 r k) (ix2 p k) fun a => ?_
  fin_cases a
  · show p.val = 8 + 1 * r.val
    omega
  · show k.val = 0 + 1 * k.val
    omega

theorem under_miss (u : Vec Ideal S512x512 .f32) (L : List (View.Piece (Elt Ideal) S520x512 .f32)) (p : Fin 520) (k : Fin 512) (h : p.val < 8) :
    v.read (Elt Ideal) (v.writes (Elt Ideal) f (under u :: L)) (ix2 p k) = v.read (Elt Ideal) (v.writes (Elt Ideal) f L) (ix2 p k) :=
  View.read_writes_cons_miss_of_axis v f (under u) L (ix2 p k) 0 8 512 rfl rfl rfl (.inl h)

theorem top_hit (s : Vec Ideal S8x512 .f32) (L : List (View.Piece (Elt Ideal) S520x512 .f32)) (p : Fin 520) (r : Fin 8) (k : Fin 512) (h : p.val = r.val) :
    v.read (Elt Ideal) (v.writes (Elt Ideal) f (top s :: L)) (ix2 p k) = s (ix2 r k) := by
  refine View.read_writes_cons_hit_of_coords v f (Rect.unit (s := S520x512) ![0, 0] ![8, 512] inb_S520x512_S8x512_0_0) s L (ix2 r k) (ix2 p k) fun a => ?_
  fin_cases a
  · show p.val = 0 + 1 * r.val
    omega
  · show k.val = 0 + 1 * k.val
    omega

/-- The contents written over nothing in particular, at a row of the top eight. -/
theorem canon_top (s : Vec Ideal S8x512 .f32) (L : List (View.Piece (Elt Ideal) S520x512 .f32)) (p : Fin 520) (r : Fin 8) (k : Fin 512) (h : p.val = r.val) :
    View.canon (top s :: L) (ix2 p k) = s (ix2 r k) := by
  rw [← View.read_writes_junk_apply_eq_canon (View.whole (sig := sig) cc0_scratch0)]
  exact top_hit _ _ s L p r k h

/-- A load of 512 rows from row `o` of what was written. -/
theorem rows_load (L : List (View.Piece (Elt Ideal) S520x512 .f32)) (o : ℕ) (inb : ∀ a, (![o, 0] : Fin 2 → ℕ) a + (![512, 512] : Fin 2 → ℕ) a ≤ S520x512.size a)
    (r k : Fin 512) (p : Fin 520) (h : p.val = o + r.val) :
    v.readCov L (Rect.unit (s := S520x512) ![o, 0] ![512, 512] inb).toLoadRect (ix2 r k) = v.read (Elt Ideal) (v.writes (Elt Ideal) v.junk L) (ix2 p k) := by
  rw [View.readCov_eq_canon', View.read_writes_junk_apply_eq_canon]
  refine congrArg (View.canon L) (funext fun a => Fin.ext ?_)
  fin_cases a
  · show o + 1 * r.val = p.val
    omega
  · show 0 + 1 * k.val = k.val
    omega

/-- The load of the last eight rows. -/
theorem tail_load (L : List (View.Piece (Elt Ideal) S520x512 .f32)) (r : Fin 8) (k : Fin 512) (p : Fin 520) (h : p.val = 512 + r.val) :
    v.readCov L (Rect.unit (s := S520x512) ![512, 0] ![8, 512] inb_S520x512_S8x512_512_0).toLoadRect (ix2 r k)
      = v.read (Elt Ideal) (v.writes (Elt Ideal) v.junk L) (ix2 p k) := by
  rw [View.readCov_eq_canon', View.read_writes_junk_apply_eq_canon]
  refine congrArg (View.canon L) (funext fun a => Fin.ext ?_)
  fin_cases a
  · show 512 + 1 * r.val = p.val
    omega
  · show 0 + 1 * k.val = k.val
    omega

/-- A load of 512 rows of known contents. -/
theorem rows_ld (x : Vec Ideal S520x512 .f32) (o : ℕ) (inb : ∀ a, (![o, 0] : Fin 2 → ℕ) a + (![512, 512] : Fin 2 → ℕ) a ≤ S520x512.size a)
    (r k : Fin 512) (p : Fin 520) (h : p.val = o + r.val) :
    View.ld x (Rect.unit (s := S520x512) ![o, 0] ![512, 512] inb) (ix2 r k) = x (ix2 p k) := by
  refine View.ld_unit_apply_of x _ _ inb (ix2 r k) (ix2 p k) fun a => ?_
  fin_cases a
  · exact h
  · exact (Nat.zero_add _).symm

end Cert.Merge

end
-- ==== Proof.MergeReference.lean ====
/-
  The reference merge of the three branches, read at an index: the gated inputs behind the state's two rows, their short
  convolution, the gates, the gated sum of the branches, and the stream with its projection added.
-/
module

public import proofs.«01_k».proof.Proof.Gen.MergeReferenceIdeal.Run
public import Idealize.ShloMosaic.Lib.Pointwise

@[expose] public section

set_option maxRecDepth 8192

noncomputable section

namespace Cert.Merge.Ref

open Cert.MergeReferenceIdeal Cert.MergeReferenceIdeal.Gen Idealize.ShloMosaic Idealize.ShloMosaic.TcCoe

/-- The gated inputs of every sequence, behind the two rows it starts from. -/
def behind (z : FVec Ideal S32768x6912 .f32) (st : FVec Ideal S8x8x512 .f32) : FVec Ideal S8x4098x512 .f32 :=
  concatenate S8x4098x512 1 [⟨S8x2x512, (extractStridedSlice S8x2x512 ![0, 6, 0] st slices_S8x8x512_S8x2x512_0_6_0)⟩, ⟨S8x4096x512, (shapeCast _ (mulf (extractStridedSlice S32768x512 ![0, 512] z slices_S32768x6912_S32768x512_0_512) (extractStridedSlice S32768x512 ![0, 1024] z slices_S32768x6912_S32768x512_0_1024)) shapeCasts_S32768x512_S8x4096x512)⟩] concatenates_S8x2x512_S8x4096x512_S8x4098x512_d1

/-- The rows a sequence leaves behind. -/
def tails (e : FVec Ideal S8x4098x512 .f32) : FVec Ideal S8x8x512 .f32 :=
  extractStridedSlice S8x8x512 ![0, 4090, 0] e slices_S8x4098x512_S8x8x512_0_4090_0

/-- The convolution of width three. -/
def conv (e : FVec Ideal S8x4098x512 .f32) (wc : FVec Ideal S8x512 .f32) : FVec Ideal S8x4096x512 .f32 :=
  addf (addf (addf (broadcastInDim S8x4096x512 ![] bcast_S_S8x4096x512 (constant S_ .f32 0x00000000#32)) (mulf (extractStridedSlice S8x4096x512 ![0, 0, 0] e slices_S8x4098x512_S8x4096x512_0_0_0) (broadcastInDim S8x4096x512 ![0, 1, 2] bcast_S1x1x512_S8x4096x512_0_1_2 (broadcastInDim S1x1x512 ![2] bcast_S512_S1x1x512_2 (shapeCast _ (extractStridedSlice S1x512 ![0, 0] wc slices_S8x512_S1x512_0_0) shapeCasts_S1x512_S512))))) (mulf (extractStridedSlice S8x4096x512 ![0, 1, 0] e slices_S8x4098x512_S8x4096x512_0_1_0) (broadcastInDim S8x4096x512 ![0, 1, 2] bcast_S1x1x512_S8x4096x512_0_1_2 (broadcastInDim S1x1x512 ![2] bcast_S512_S1x1x512_2 (shapeCast _ (extractStridedSlice S1x512 ![1, 0] wc slices_S8x512_S1x512_1_0) shapeCasts_S1x512_S512))))) (mulf (extractStridedSlice S8x4096x512 ![0, 2, 0] e slices_S8x4098x512_S8x4096x512_0_2_0) (broadcastInDim S8x4096x512 ![0, 1, 2] bcast_S1x1x512_S8x4096x512_0_1_2 (broadcastInDim S1x1x512 ![2] bcast_S512_S1x1x512_2 (shapeCast _ (extractStridedSlice S1x512 ![2, 0] wc slices_S8x512_S1x512_2_0) shapeCasts_S1x512_S512))))

/-- The gates of the three branches. -/
def gates (z : FVec Ideal S32768x6912 .f32) : FVec Ideal S32768x3072 .f32 :=
  Host.divf (broadcastInDim S32768x3072 ![] bcast_S_S32768x3072 (constant S_ .f32 0x3F800000#32)) (addf (broadcastInDim S32768x3072 ![] bcast_S_S32768x3072 (constant S_ .f32 0x3F800000#32)) (Host.exp (Host.negf (extractStridedSlice S32768x3072 ![0, 3072] z slices_S32768x6912_S32768x3072_0_3072))))

/-- The convolution's branch before its projection. -/
def branch (z : FVec Ideal S32768x6912 .f32) (v : FVec Ideal S8x4096x512 .f32) : FVec Ideal S32768x512 .f32 :=
  mulf (extractStridedSlice S32768x512 ![0, 0] z slices_S32768x6912_S32768x512_0_0) (shapeCast _ v shapeCasts_S8x4096x512_S32768x512)

/-- The gated sum of the three branches, each through its projection. -/
def gated (g : FVec Ideal S32768x3072 .f32) (a : FVec Ideal S32768x512 .f32) (b d : FVec Ideal S32768x512 .bf16)
    (wa wb wd : FVec Ideal S512x1024 .bf16) : FVec Ideal S32768x1024 .f32 :=
  addf (addf (mulf (extractStridedSlice S32768x1024 ![0, 0] g slices_S32768x3072_S32768x1024_0_0) (Host.dotGeneral dot_S32768x512_S512x1024_S32768x1024_1_0_0_1_n_n none a (extf .f32 wa bitsLt_bf16_f32))) (mulf (extractStridedSlice S32768x1024 ![0, 1024] g slices_S32768x3072_S32768x1024_0_1024) (Host.dotGeneral dot_S32768x512_S512x1024_S32768x1024_1_0_0_1_n_n none (extf .f32 b bitsLt_bf16_f32) (extf .f32 wb bitsLt_bf16_f32)))) (mulf (extractStridedSlice S32768x1024 ![0, 2048] g slices_S32768x3072_S32768x1024_0_2048) (Host.dotGeneral dot_S32768x512_S512x1024_S32768x1024_1_0_0_1_n_n none (extf .f32 d bitsLt_bf16_f32) (extf .f32 wd bitsLt_bf16_f32)))

/-- The stream with the branches' sum projected and added. -/
def added (x s : FVec Ideal S32768x1024 .f32) (wo : FVec Ideal S1024x1024 .bf16) : FVec Ideal S32768x1024 .f32 :=
  addf x (Host.dotGeneral dot_S32768x1024_S1024x1024_S32768x1024_1_0_0_1_n_n none s (extf .f32 wo bitsLt_bf16_f32))

/-- The reference's merged stream, from all its arguments. -/
def merged (z : FVec Ideal S32768x6912 .f32) (b d : FVec Ideal S32768x512 .bf16) (x : FVec Ideal S32768x1024 .f32) (st : FVec Ideal S8x8x512 .f32)
    (wc : FVec Ideal S8x512 .f32) (wa wb wd : FVec Ideal S512x1024 .bf16) (wo : FVec Ideal S1024x1024 .bf16) : FVec Ideal S32768x1024 .f32 :=
  added x (gated (gates z) (branch z (conv (behind z st) wc)) b d wa wb wd) wo

/-- The reference's first result is `merged` of its arguments. -/
theorem result_eq (m : (ℓ : Loc nD τ sig) → Buf (Elt Ideal) ℓ) (c : Dev nD) :
    Value.res_main_v56 m c = merged (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl

/-- An entry of the gated inputs. -/
abbrev input (z : FVec Ideal S32768x6912 .f32) (R : Fin 32768) (k : Fin 512) : EReal :=
  z (ix2 R ⟨512 + k.val, by omega⟩) * z (ix2 R ⟨1024 + k.val, by omega⟩)

/-- The first two rows are the last two of the state's eight. -/
theorem behind_state (z : FVec Ideal S32768x6912 .f32) (st : FVec Ideal S8x8x512 .f32) (b : Fin 8) (p : Fin 4098) (k : Fin 512)
    (P : Fin 8) (hP : P.val = 6 + p.val) : behind z st (ix3 b p k) = st (ix3 b P k) := by
  have hp : p.val < 2 := by omega
  have at_rows : behind z st (ix3 b p k) = st (ix3 b ⟨6 + p.val, by omega⟩ k) := by pointwise [behind, hp]
  rw [at_rows, show (⟨6 + p.val, by omega⟩ : Fin 8) = P from Fin.ext hP.symm]

/-- The rows after them are the sequence's. -/
theorem behind_input (z : FVec Ideal S32768x6912 .f32) (st : FVec Ideal S8x8x512 .f32) (b : Fin 8) (p : Fin 4098) (k : Fin 512)
    (R : Fin 32768) (hR : R.val + 2 = b.val * 4096 + p.val) (hp : 2 ≤ p.val) : behind z st (ix3 b p k) = input z R k := by
  have hp' : ¬p.val < 2 := by omega
  have at_rows : behind z st (ix3 b p k) = input z ⟨b.val * 4096 + (p.val - 2), by omega⟩ k := by pointwise [behind, hp']
  rw [at_rows, show (⟨b.val * 4096 + (p.val - 2), by omega⟩ : Fin 32768) = R from Fin.ext (by dsimp only; omega)]

theorem tails_at (e : FVec Ideal S8x4098x512 .f32) (b r : Fin 8) (k : Fin 512) :
    tails e (ix3 b r k) = e (ix3 b ⟨4090 + r.val, by omega⟩ k) := by
  pointwise [tails]

theorem conv_at (e : FVec Ideal S8x4098x512 .f32) (wc : FVec Ideal S8x512 .f32) (b : Fin 8) (p : Fin 4096) (k : Fin 512) :
    conv e wc (ix3 b p k) = e (ix3 b ⟨p.val, by omega⟩ k) * wc (ix2 0 k) + e (ix3 b ⟨1 + p.val, by omega⟩ k) * wc (ix2 1 k)
      + e (ix3 b ⟨2 + p.val, by omega⟩ k) * wc (ix2 2 k) := by
  pointwise [conv]

theorem gates_at (z : FVec Ideal S32768x6912 .f32) (R : Fin 32768) (j : Fin 3072) :
    gates z (ix2 R j) = Ideal.logistic (z (ix2 R ⟨3072 + j.val, by omega⟩)) := by
  pointwise [gates]
  rfl

theorem branch_at (z : FVec Ideal S32768x6912 .f32) (v : FVec Ideal S8x4096x512 .f32) (R : Fin 32768) (k : Fin 512) :
    branch z v (ix2 R k) = z (ix2 R ⟨k.val, by omega⟩) * v (ix3 ⟨R.val / 4096, by omega⟩ ⟨R.val % 4096, by omega⟩ k) := by
  pointwise [branch]

theorem gated_at (g : FVec Ideal S32768x3072 .f32) (a : FVec Ideal S32768x512 .f32) (b d : FVec Ideal S32768x512 .bf16)
    (wa wb wd : FVec Ideal S512x1024 .bf16) (R : Fin 32768) (j : Fin 1024) :
    gated g a b d wa wb wd (ix2 R j) = g (ix2 R ⟨j.val, by omega⟩) * (∑ k : Fin 512, a (ix2 R k) * wa (ix2 k j))
      + g (ix2 R ⟨1024 + j.val, by omega⟩) * (∑ k : Fin 512, b (ix2 R k) * wb (ix2 k j))
      + g (ix2 R ⟨2048 + j.val, by omega⟩) * (∑ k : Fin 512, d (ix2 R k) * wd (ix2 k j)) := by
  pointwise [gated]

theorem added_at (x s : FVec Ideal S32768x1024 .f32) (wo : FVec Ideal S1024x1024 .bf16) (R : Fin 32768) (e : Fin 1024) :
    added x s wo (ix2 R e) = x (ix2 R e) + ∑ j : Fin 1024, s (ix2 R j) * wo (ix2 j e) := by
  pointwise [added]

end Cert.Merge.Ref

end
-- ==== Proof.MergeArray.lean ====
/-
  The two arrays the merge kernel leaves are the reference's of its arguments. Every point keeps the last eight rows of its
  gated inputs for the next point of its sequence, so the rows a point convolves are the sequence's own.
-/
module

public import proofs.«01_k».proof.Proof.Gen.MergeIdeal.Value
public import proofs.«01_k».proof.Proof.MergeBlock
public import proofs.«01_k».proof.Proof.MergeRows
public import proofs.«01_k».proof.Proof.MergeReference
public import Idealize.ShloMosaic.Lib.Pipeline.ValueKit

@[expose] public section

set_option maxRecDepth 16384

noncomputable section

namespace Cert.Merge

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

/-! ## Where the blocks are -/

theorem places : ∀ t : Fin cfg0.N,
    win0_0.index t = ![t.val, 0] ∧ win0_1.index t = ![t.val, 1] ∧ win0_2.index t = ![t.val, 0] ∧ win0_3.index t = ![t.val, 0]
    ∧ win0_4.index t = ![t.val, 0] ∧ win0_5.index t = ![t.val / 8, 0, 0] ∧ win0_6.index t = ![0, 0] ∧ win0_7.index t = ![0, 0]
    ∧ win0_8.index t = ![0, 0] ∧ win0_9.index t = ![0, 0] ∧ win0_10.index t = ![0, 0] ∧ win0_11.index t = ![t.val, 0]
    ∧ win0_12.index t = ![t.val / 8, 0, 0] :=
  (by decide +kernel : ∀ t : Fin grid0.N, _)

/-- The projected stream. -/
abbrev zOf (c : Dev nD) : FVec Ideal S32768x6912 .f32 := m ((c : Thread nD τ).loc main_arg0)

/-- The state. -/
abbrev stOf (c : Dev nD) : FVec Ideal S8x8x512 .f32 := m ((c : Thread nD τ).loc main_arg4)

theorem conv_block (c : Dev nD) (t : Fin cfg0.N) (r : Fin 512) (j : Fin 1536) (R : Fin 32768) (J : Fin 6912)
    (hR : R.val = t.val * 512 + r.val) (hJ : J.val = j.val) :
    (show Vec Ideal S512x1536 .f32 from X0_0 m c t) (ix2 r j) = zOf m c (ix2 R J) := by
  show X0_0 m c t (ix2 r j) = _
  unfold X0_0 Pipeline.Window.fill
  rw [dif_pos (moved0_0 t _)]
  blk_ext [iblk, V, places t]

theorem gate_block (c : Dev nD) (t : Fin cfg0.N) (r : Fin 512) (j : Fin 3072) (R : Fin 32768) (J : Fin 6912)
    (hR : R.val = t.val * 512 + r.val) (hJ : J.val = 3072 + j.val) :
    (show Vec Ideal S512x3072 .f32 from X0_1 m c t) (ix2 r j) = zOf m c (ix2 R J) := by
  show X0_1 m c t (ix2 r j) = _
  unfold X0_1 Pipeline.Window.fill
  rw [dif_pos (moved0_1 t _)]
  blk_ext [iblk, V, places t]

theorem latent_block (c : Dev nD) (t : Fin cfg0.N) (r k : Fin 512) (R : Fin 32768) (hR : R.val = t.val * 512 + r.val) :
    (show Vec Ideal S512x512 .bf16 from iblk m c 2 t) (ix2 r k) = (m ((c : Thread nD τ).loc main_arg1) : FVec Ideal S32768x512 .bf16) (ix2 R k) := by
  blk_ext [iblk, V, places t]

theorem retention_block (c : Dev nD) (t : Fin cfg0.N) (r k : Fin 512) (R : Fin 32768) (hR : R.val = t.val * 512 + r.val) :
    (show Vec Ideal S512x512 .bf16 from iblk m c 3 t) (ix2 r k) = (m ((c : Thread nD τ).loc main_arg2) : FVec Ideal S32768x512 .bf16) (ix2 R k) := by
  blk_ext [iblk, V, places t]

theorem stream_block (c : Dev nD) (t : Fin cfg0.N) (r : Fin 512) (e : Fin 1024) (R : Fin 32768) (hR : R.val = t.val * 512 + r.val) :
    (show Vec Ideal S512x1024 .f32 from iblk m c 4 t) (ix2 r e) = (m ((c : Thread nD τ).loc main_arg3) : FVec Ideal S32768x1024 .f32) (ix2 R e) := by
  blk_ext [iblk, V, places t]

theorem state_block (c : Dev nD) (t : Fin cfg0.N) (r : Fin 8) (k : Fin 512) (b : Fin 8) (hb : b.val = t.val / 8) :
    (show Vec Ideal S1x8x512 .f32 from iblk m c 5 t) (ix3 0 r k) = stOf m c (ix3 b r k) := by
  blk_ext [iblk, V, places t]

theorem taps_block (c : Dev nD) (t : Fin cfg0.N) (r : Fin 8) (k : Fin 512) :
    (show Vec Ideal S8x512 .f32 from iblk m c 6 t) (ix2 r k) = (m ((c : Thread nD τ).loc main_arg5) : FVec Ideal S8x512 .f32) (ix2 r k) := by
  blk_ext [iblk, V, places t]

theorem convWeight_block (c : Dev nD) (t : Fin cfg0.N) (k : Fin 512) (j : Fin 1024) :
    (show Vec Ideal S512x1024 .bf16 from iblk m c 7 t) (ix2 k j) = (m ((c : Thread nD τ).loc main_arg6) : FVec Ideal S512x1024 .bf16) (ix2 k j) := by
  blk_ext [iblk, V, places t]

theorem latentWeight_block (c : Dev nD) (t : Fin cfg0.N) (k : Fin 512) (j : Fin 1024) :
    (show Vec Ideal S512x1024 .bf16 from iblk m c 8 t) (ix2 k j) = (m ((c : Thread nD τ).loc main_arg7) : FVec Ideal S512x1024 .bf16) (ix2 k j) := by
  blk_ext [iblk, V, places t]

theorem retentionWeight_block (c : Dev nD) (t : Fin cfg0.N) (k : Fin 512) (j : Fin 1024) :
    (show Vec Ideal S512x1024 .bf16 from iblk m c 9 t) (ix2 k j) = (m ((c : Thread nD τ).loc main_arg8) : FVec Ideal S512x1024 .bf16) (ix2 k j) := by
  blk_ext [iblk, V, places t]

theorem outWeight_block (c : Dev nD) (t : Fin cfg0.N) (j e : Fin 1024) :
    (show Vec Ideal S1024x1024 .bf16 from iblk m c 10 t) (ix2 j e) = (m ((c : Thread nD τ).loc main_arg9) : FVec Ideal S1024x1024 .bf16) (ix2 j e) := by
  blk_ext [iblk, V, places t]

/-! ## The rows a point convolves -/

/-- The gated inputs of a point's block. -/
abbrev ins (c : Dev nD) (t : Fin cfg0.N) : Vec Ideal S512x512 .f32 :=
  k0_pay5 (View.ld (X0_0 m c t) (Rect.unit ![0, 512] ![512, 512] inb_S512x1536_S512x512_0_512))
    (View.ld (X0_0 m c t) (Rect.unit ![0, 1024] ![512, 512] inb_S512x1536_S512x512_0_1024))

/-- A third of the convolution's columns of the block. -/
theorem third_at (c : Dev nD) (t : Fin cfg0.N) (o : ℕ) (inb : ∀ a, (![0, o] : Fin 2 → ℕ) a + (![512, 512] : Fin 2 → ℕ) a ≤ S512x1536.size a)
    (r k : Fin 512) (R : Fin 32768) (J : Fin 6912) (hR : R.val = t.val * 512 + r.val) (hJ : J.val = o + k.val) (ho : o ≤ 1024) :
    View.ld (show Vec Ideal S512x1536 .f32 from X0_0 m c t) (Rect.unit (s := S512x1536) ![0, o] ![512, 512] inb) (ix2 r k) = zOf m c (ix2 R J) := by
  refine (View.ld_unit_apply_of (show Vec Ideal S512x1536 .f32 from X0_0 m c t) _ _ inb (ix2 r k) (ix2 r (⟨o + k.val, by omega⟩ : Fin 1536)) fun a => ?_).trans
    (conv_block m c t r ⟨o + k.val, by omega⟩ R J hR hJ)
  fin_cases a
  · exact (Nat.zero_add _).symm
  · rfl

/-- A third of the gates of the block. -/
theorem gate_at (c : Dev nD) (t : Fin cfg0.N) (o : ℕ) (inb : ∀ a, (![0, o] : Fin 2 → ℕ) a + (![512, 1024] : Fin 2 → ℕ) a ≤ S512x3072.size a)
    (r : Fin 512) (j : Fin 1024) (R : Fin 32768) (J : Fin 6912) (hR : R.val = t.val * 512 + r.val) (hJ : J.val = 3072 + (o + j.val)) (ho : o ≤ 2048) :
    View.ld (show Vec Ideal S512x3072 .f32 from X0_1 m c t) (Rect.unit (s := S512x3072) ![0, o] ![512, 1024] inb) (ix2 r j) = zOf m c (ix2 R J) := by
  refine (View.ld_unit_apply_of (show Vec Ideal S512x3072 .f32 from X0_1 m c t) _ _ inb (ix2 r j) (ix2 r (⟨o + j.val, by omega⟩ : Fin 3072)) fun a => ?_).trans
    (gate_block m c t r ⟨o + j.val, by omega⟩ R J hR hJ)
  fin_cases a
  · exact (Nat.zero_add _).symm
  · rfl

/-- A row of the convolution's weights. -/
theorem tap_at (c : Dev nD) (t : Fin cfg0.N) (o : Fin 8) (inb : ∀ a, (![o.val, 0] : Fin 2 → ℕ) a + (![1, 512] : Fin 2 → ℕ) a ≤ S8x512.size a) (k : Fin 512) :
    View.ld (show Vec Ideal S8x512 .f32 from iblk m c 6 t) (Rect.unit (s := S8x512) ![o.val, 0] ![1, 512] inb) (ix2 0 k)
      = (m ((c : Thread nD τ).loc main_arg5) : FVec Ideal S8x512 .f32) (ix2 o k) := by
  refine (View.ld_unit_apply_of (show Vec Ideal S8x512 .f32 from iblk m c 6 t) _ _ inb (ix2 0 k) (ix2 o k) fun a => ?_).trans (taps_block m c t o k)
  fin_cases a
  · rfl
  · exact (Nat.zero_add _).symm

theorem ins_at (c : Dev nD) (t : Fin cfg0.N) (r k : Fin 512) (R : Fin 32768) (hR : R.val = t.val * 512 + r.val) :
    ins m c t (ix2 r k) = Ref.input (zOf m c) R k :=
  (input_at _ _ r k).trans (congrArg₂ (fun a b : EReal => a * b)
    (third_at m c t 512 _ r k R ⟨512 + k.val, by omega⟩ hR rfl (by omega))
    (third_at m c t 1024 _ r k R ⟨1024 + k.val, by omega⟩ hR rfl (by omega)))

/-- The last eight rows of a point's gated inputs. -/
theorem last_at (c : Dev nD) (t : Fin cfg0.N) (L : List (View.Piece (Elt Ideal) S520x512 .f32)) (r : Fin 8) (k : Fin 512)
    (R : Fin 32768) (hR : R.val = t.val * 512 + 504 + r.val) :
    (View.whole cc0_scratch0).readCov (under (ins m c t) :: L) (Rect.unit (s := S520x512) ![512, 0] ![8, 512] inb_S520x512_S8x512_512_0).toLoadRect (ix2 r k)
      = Ref.input (zOf m c) R k :=
  (tail_load _ _ r k ⟨512 + r.val, by omega⟩ rfl).trans ((under_hit _ _ _ L _ ⟨504 + r.val, by omega⟩ k (by show 512 + r.val = 8 + (504 + r.val); omega)).trans
    (ins_at m c t ⟨504 + r.val, by omega⟩ k R (by show R.val = t.val * 512 + (504 + r.val); omega)))

/-- What a point keeps for the next. -/
theorem kept_at (c : Dev nD) (t : Fin cfg0.N) (r : Fin 8) (k : Fin 512) (p : Fin 520) (hp : p.val = r.val)
    (R : Fin 32768) (hR : R.val = t.val * 512 + 504 + r.val) :
    (outsAt0 m c t.val t.isLt).2.2 (ix2 p k) = Ref.input (zOf m c) R k := by
  by_cases h0 : t.val % 8 = 0
  · rw [outsAt0_A m c t h0]
    dsimp only
    frame_out
    exact (canon_top _ _ p r k hp).trans ((carry_at _ r k).trans (last_at m c t _ r k R hR))
  · rw [outsAt0_B m c t h0]
    dsimp only
    frame_out
    exact (canon_top _ _ p r k hp).trans ((carry_at _ r k).trans (last_at m c t _ r k R hR))

/-- The rows a point leaves as its sequence's last. -/
theorem tail_left (c : Dev nD) (t : Fin cfg0.N) (r : Fin 8) (k : Fin 512) (R : Fin 32768) (hR : R.val = t.val * 512 + 504 + r.val) :
    (outsAt0 m c t.val t.isLt).2.1 (ix3 0 r k) = Ref.input (zOf m c) R k := by
  by_cases h0 : t.val % 8 = 0
  · rw [outsAt0_A m c t h0]
    dsimp only
    frame_out
    exact (tail_at _ r k).trans (last_at m c t _ r k R hR)
  · rw [outsAt0_B m c t h0]
    dsimp only
    frame_out
    exact (tail_at _ r k).trans (last_at m c t _ r k R hR)

/-- A row of a point's block is the sequence's, two rows further behind. -/
theorem row_of_block (c : Dev nD) (t : Fin cfg0.N) (r k : Fin 512) (b : Fin 8) (hb : b.val = t.val / 8) (q : Fin 4098)
    (hq : q.val = t.val % 8 * 512 + 2 + r.val) : ins m c t (ix2 r k) = Ref.behind (zOf m c) (stOf m c) (ix3 b q k) := by
  have hN : t.val < 64 := lt_of_lt_of_eq t.isLt N_0
  exact (ins_at m c t r k ⟨t.val * 512 + r.val, by omega⟩ rfl).trans
    (Ref.behind_input (zOf m c) (stOf m c) b q k ⟨t.val * 512 + r.val, by omega⟩ (by dsimp only; omega) (by omega)).symm

/-- At a sequence's first point the two rows before the block are the state's. -/
theorem rows_first (c : Dev nD) (t : Fin cfg0.N) (h0 : t.val % 8 = 0) (p : Fin 520) (k : Fin 512) (hp : 6 ≤ p.val)
    (b : Fin 8) (hb : b.val = t.val / 8) (q : Fin 4098) (hq : q.val + 6 = t.val % 8 * 512 + p.val) :
    (View.whole cc0_scratch0).read (Elt Ideal) ((View.whole cc0_scratch0).writes (Elt Ideal) (View.whole cc0_scratch0).junk
      [under (ins m c t), top (k0_pay3 (iblk m c 5 t))]) (ix2 p k) = Ref.behind (zOf m c) (stOf m c) (ix3 b q k) := by
  by_cases h : p.val < 8
  · exact (under_miss _ _ _ _ p k h).trans ((top_hit _ _ _ [] p ⟨p.val, h⟩ k rfl).trans ((state_at _ _ k).trans
      ((state_block m c t ⟨p.val, h⟩ k b hb).trans (Ref.behind_state _ _ b q k ⟨p.val, h⟩ (by dsimp only; omega)).symm)))
  · exact (under_hit _ _ _ _ p ⟨p.val - 8, by omega⟩ k (by dsimp only; omega)).trans
      (row_of_block m c t ⟨p.val - 8, by omega⟩ k b hb q (by dsimp only; omega))

/-- At a later point they are the last two of the point before. -/
theorem rows_next (c : Dev nD) (t : Fin cfg0.N) (h0 : ¬t.val % 8 = 0) (hl : t.val - 1 < cfg0.N) (p : Fin 520) (k : Fin 512) (hp : 6 ≤ p.val)
    (b : Fin 8) (hb : b.val = t.val / 8) (q : Fin 4098) (hq : q.val + 6 = t.val % 8 * 512 + p.val) :
    (View.whole cc0_scratch0).read (Elt Ideal) ((View.whole cc0_scratch0).writes (Elt Ideal)
      ((Memref.isWhole_whole (sig := sig) cc0_scratch0).unread (outsAt0 m c (t.val - 1) hl).2.2)
      [under (ins m c t)]) (ix2 p k) = Ref.behind (zOf m c) (stOf m c) (ix3 b q k) := by
  have hN : t.val < 64 := lt_of_lt_of_eq t.isLt N_0
  by_cases h : p.val < 8
  · refine (under_miss _ _ _ _ p k h).trans ?_
    rw [View.writes_nil, (Memref.isWhole_whole cc0_scratch0).read_unread]
    exact (kept_at m c ⟨t.val - 1, hl⟩ ⟨p.val, h⟩ k p rfl ⟨(t.val - 1) * 512 + 504 + p.val, by omega⟩ rfl).trans
      (Ref.behind_input (zOf m c) (stOf m c) b q k ⟨(t.val - 1) * 512 + 504 + p.val, by omega⟩ (by dsimp only; omega) (by omega)).symm
  · exact (under_hit _ _ _ _ p ⟨p.val - 8, by omega⟩ k (by dsimp only; omega)).trans
      (row_of_block m c t ⟨p.val - 8, by omega⟩ k b hb q (by dsimp only; omega))

/-! ## The two arrays -/

/-- A point's merged rows, when the two rows of the convolution before its block's are the sequence's. -/
theorem merged_rows (c : Dev nD) (t : Fin cfg0.N) (e0 e1 : Vec Ideal S512x512 .f32) (r : Fin 512) (e : Fin 1024) (R : Fin 32768)
    (hR : R.val = t.val * 512 + r.val)
    (h0 : ∀ k (b : Fin 8) (q : Fin 4098), b.val = t.val / 8 → q.val = t.val % 8 * 512 + r.val →
      e0 (ix2 r k) = Ref.behind (zOf m c) (stOf m c) (ix3 b q k))
    (h1 : ∀ k (b : Fin 8) (q : Fin 4098), b.val = t.val / 8 → q.val = t.val % 8 * 512 + 1 + r.val →
      e1 (ix2 r k) = Ref.behind (zOf m c) (stOf m c) (ix3 b q k)) :
    k0_pay2 (View.ld (X0_0 m c t) (Rect.unit ![0, 0] ![512, 512] inb_S512x1536_S512x512_0_0))
      (k0_pay6 (View.ld (X0_0 m c t) (Rect.unit ![0, 512] ![512, 512] inb_S512x1536_S512x512_0_512))
        (View.ld (X0_0 m c t) (Rect.unit ![0, 1024] ![512, 512] inb_S512x1536_S512x512_0_1024))
        e0 (View.ld (iblk m c 6 t) (Rect.unit ![0, 0] ![1, 512] inb_S8x512_S1x512_0_0))
        e1 (View.ld (iblk m c 6 t) (Rect.unit ![1, 0] ![1, 512] inb_S8x512_S1x512_1_0))
        (View.ld (iblk m c 6 t) (Rect.unit ![2, 0] ![1, 512] inb_S8x512_S1x512_2_0)))
      (iblk m c 7 t) (iblk m c 2 t) (iblk m c 8 t) (iblk m c 3 t) (iblk m c 9 t)
      (View.ld (X0_1 m c t) (Rect.unit ![0, 0] ![512, 1024] inb_S512x3072_S512x1024_0_0))
      (View.ld (X0_1 m c t) (Rect.unit ![0, 1024] ![512, 1024] inb_S512x3072_S512x1024_0_1024))
      (View.ld (X0_1 m c t) (Rect.unit ![0, 2048] ![512, 1024] inb_S512x3072_S512x1024_0_2048))
      (iblk m c 4 t) (iblk m c 10 t) (ix2 r e)
    = Ref.merged (zOf m c) (m ((c : Thread nD τ).loc main_arg1)) (m ((c : Thread nD τ).loc main_arg2)) (m ((c : Thread nD τ).loc main_arg3))
      (stOf m c) (m ((c : Thread nD τ).loc main_arg5)) (m ((c : Thread nD τ).loc main_arg6)) (m ((c : Thread nD τ).loc main_arg7))
      (m ((c : Thread nD τ).loc main_arg8)) (m ((c : Thread nD τ).loc main_arg9)) (ix2 R e) := by
  have hN : t.val < 64 := lt_of_lt_of_eq t.isLt N_0
  refine (merged_at _ _ _ _ _ _ _ _ _ _ _ _ r e).trans (Eq.trans ?_ (Ref.added_at _ _ _ R e).symm)
  refine congrArg₂ (fun a b : EReal => a + b) (stream_block m c t r e R hR) (Fin.sum_fin_congr fun j =>
    congrArg₂ (fun a b : EReal => a * b) (Eq.trans ?_ (Ref.gated_at _ _ _ _ _ _ _ R j).symm) (outWeight_block m c t j e))
  refine congrArg₂ (fun a b : EReal => a + b) (congrArg₂ (fun a b : EReal => a + b)
    (congrArg₂ (fun a b : EReal => a * b) ?_ (Fin.sum_fin_congr fun k => congrArg₂ (fun a b : EReal => a * b) ?_ (convWeight_block m c t k j)))
    (congrArg₂ (fun a b : EReal => a * b) ?_ (Fin.sum_fin_congr fun k => congrArg₂ (fun a b : EReal => a * b) (latent_block m c t r k R hR) (latentWeight_block m c t k j))))
    (congrArg₂ (fun a b : EReal => a * b) ?_ (Fin.sum_fin_congr fun k => congrArg₂ (fun a b : EReal => a * b) (retention_block m c t r k R hR) (retentionWeight_block m c t k j)))
  · refine Eq.trans (congrArg Ideal.logistic ?_) (Ref.gates_at _ R _).symm
    exact gate_at m c t 0 _ r j R _ hR (by dsimp only; omega) (by omega)
  · refine Eq.trans ?_ (Ref.branch_at _ _ R k).symm
    refine congrArg₂ (fun a b : EReal => a * b) (third_at m c t 0 _ r k R _ hR (by dsimp only; omega) (by omega)) ?_
    refine (conv_at _ _ _ _ _ _ _ r k).trans (Eq.trans ?_ (Ref.conv_at _ _ _ _ k).symm)
    refine congrArg₂ (fun a b : EReal => a + b) (congrArg₂ (fun a b : EReal => a + b)
      (congrArg₂ (fun a b : EReal => a * b) (h0 k _ _ (by dsimp only; omega) (by dsimp only; omega)) (tap_at m c t 0 _ k))
      (congrArg₂ (fun a b : EReal => a * b) (h1 k _ _ (by dsimp only; omega) (by dsimp only; omega)) (tap_at m c t 1 _ k)))
      (congrArg₂ (fun a b : EReal => a * b) ?_ (tap_at m c t 2 _ k))
    exact (input_at _ _ r k).symm.trans (row_of_block m c t r k _ (by dsimp only; omega) _ (by dsimp only; omega))
  · refine Eq.trans (congrArg Ideal.logistic ?_) (Ref.gates_at _ R _).symm
    exact gate_at m c t 1024 _ r j R _ hR (by dsimp only) (by omega)
  · refine Eq.trans (congrArg Ideal.logistic ?_) (Ref.gates_at _ R _).symm
    exact gate_at m c t 2048 _ r j R _ hR (by dsimp only) (by omega)

/-- The merged rows a point leaves. -/
theorem merged_left (c : Dev nD) (t : Fin cfg0.N) (r : Fin 512) (e : Fin 1024) (R : Fin 32768) (hR : R.val = t.val * 512 + r.val) :
    (outsAt0 m c t.val t.isLt).1 (ix2 r e)
      = Ref.merged (zOf m c) (m ((c : Thread nD τ).loc main_arg1)) (m ((c : Thread nD τ).loc main_arg2)) (m ((c : Thread nD τ).loc main_arg3))
        (stOf m c) (m ((c : Thread nD τ).loc main_arg5)) (m ((c : Thread nD τ).loc main_arg6)) (m ((c : Thread nD τ).loc main_arg7))
        (m ((c : Thread nD τ).loc main_arg8)) (m ((c : Thread nD τ).loc main_arg9)) (ix2 R e) := by
  by_cases h0 : t.val % 8 = 0
  · rw [outsAt0_A m c t h0]
    dsimp only
    frame_out
    refine merged_rows m c t _ _ r e R hR (fun k b q hb hq => ?_) fun k b q hb hq => ?_
    · exact (rows_load _ _ 6 _ r k ⟨6 + r.val, by omega⟩ rfl).trans
        (rows_first m c t h0 _ k (by dsimp only; omega) b hb q (by dsimp only; omega))
    · exact (rows_load _ _ 7 _ r k ⟨7 + r.val, by omega⟩ rfl).trans
        (rows_first m c t h0 _ k (by dsimp only; omega) b hb q (by dsimp only; omega))
  · rw [outsAt0_B m c t h0]
    dsimp only
    frame_out
    refine merged_rows m c t _ _ r e R hR (fun k b q hb hq => ?_) fun k b q hb hq => ?_
    · exact (rows_ld _ 6 _ r k ⟨6 + r.val, by omega⟩ rfl).trans
        (rows_next m c t h0 _ _ k (by dsimp only; omega) b hb q (by dsimp only; omega))
    · exact (rows_ld _ 7 _ r k ⟨7 + r.val, by omega⟩ rfl).trans
        (rows_next m c t h0 _ _ k (by dsimp only; omega) b hb q (by dsimp only; omega))

/-- The merged stream after the run. -/
theorem array_eq (c : Dev nD) :
    (dats m 0 c).arrAt 11 cfg0.N
      = Ref.merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 11 _ (by decide +kernel) fun t hf y => ?_
  obtain ⟨-, -, -, -, -, -, -, -, -, -, -, p, -⟩ := places t
  have hN : t.val < 64 := lt_of_lt_of_eq t.isLt N_0
  blk_simp
  rw [after0_11]
  obtain ⟨r, e, rfl⟩ : ∃ (r : Fin 512) (e : Fin 1024), y = ix2 r e := ⟨y 0, y 1, eq_ix2 y⟩
  refine (merged_left m c t r e ⟨t.val * 512 + r.val, by omega⟩ rfl).trans ?_
  blk_ext [p] <;> rfl

/-- The sequences' last rows after the run. -/
theorem tails_eq (c : Dev nD) :
    (dats m 0 c).arrAt 12 cfg0.N = Ref.tails (Ref.behind (m ((c : Thread nD τ).loc main_arg0)) (m ((c : Thread nD τ).loc main_arg4))) := by
  refine (dats m 0 c).arrAt_eq_of_covers 12 _ (by decide +kernel) fun t hf y => ?_
  obtain ⟨-, -, -, -, -, -, -, -, -, -, -, -, p⟩ := places t
  have hN : t.val < 64 := lt_of_lt_of_eq t.isLt N_0
  have h7 : t.val % 8 = 7 := (flush0_12 t).mp hf
  blk_simp
  rw [after0_12]
  obtain ⟨r, k, rfl⟩ : ∃ (r : Fin 8) (k : Fin 512), y = ix3 0 r k := ⟨y 1, y 2, by
    refine (eq_ix3 y).trans ?_
    congr 1
    exact Subsingleton.elim _ _⟩
  let b : Fin 8 := ⟨t.val / 8, by omega⟩
  refine (tail_left m c t r k ⟨t.val * 512 + 504 + r.val, by omega⟩ rfl).trans ((Ref.behind_input (zOf m c) (stOf m c) b ⟨4090 + r.val, by omega⟩ k
    ⟨t.val * 512 + 504 + r.val, by omega⟩ (by dsimp only [b]; omega) (by dsimp only; omega)).symm.trans
    ((Ref.tails_at (Ref.behind (zOf m c) (stOf m c)) b r k).symm.trans ?_))
  blk_ext [p] <;> rfl

end Cert.Merge

end
-- ==== Proof.LatentRows.lean ====
/-
  The rows the latent preparation is made of: a row over the root of its mean square, a row turned by three tables, and a
  head's row over the root of its 96 features' mean square.
-/
module

public import Idealize.ShloMosaic.PureOps.Ideal

@[expose] public section

noncomputable section

namespace Cert.Latents

open Idealize.ShloMosaic

/-- Entry `k` of the row `x` of `n` numbers, `bits` being `n`, normalised and multiplied by `g`. -/
def rms {n : ℕ} (bits : BitVec 32) (x : Fin n → EReal) (g : EReal) (k : Fin n) : EReal :=
  x k * Ideal.rsqrt (Ideal.div (∑ l : Fin n, x l * x l) (Ideal.ofBits .f32 bits) + Ideal.ofBits .f32 0x358637BD#32) * g

/-- Entry `j` of a row of 128 numbers turned: itself, the number 16 after it and the number 16 before it, by the tables. -/
def turn (x a b d : Fin 128 → EReal) (j : Fin 128) : EReal :=
  x j * a j + x ⟨(j.val + 128 - 112) % 128, by omega⟩ * b j + x ⟨(j.val + 128 - 16) % 128, by omega⟩ * d j

/-- Entry `j` of a head's row, normalised by its 96 features and multiplied by `g`. -/
def headRow (x : Fin 128 → EReal) (g : EReal) (j : Fin 128) : EReal :=
  x j * Ideal.rsqrt ((∑ l : Fin 128, x l * x l) * Ideal.ofBits .f32 0x3C2AAAAB#32 + Ideal.ofBits .f32 0x358637BD#32) * g

end Cert.Latents

end
-- ==== Proof.LatentBlock.lean ====
/-
  What the latent preparation stores at a point, read at an index.
-/
module

public import proofs.«01_k».proof.Proof.Gen.LatentIdeal.Skeleton
public import proofs.«01_k».proof.Proof.LatentRows
public import Idealize.ShloMosaic.Lib.Pointwise

@[expose] public section

set_option maxRecDepth 8192

noncomputable section

namespace Cert.Latents

open Idealize.ShloMosaic Idealize.ShloMosaic.TcCoe Idealize.SL.Sem
open Cert.LatentIdeal Cert.LatentIdeal.Gen

/-- The queries before they are turned. -/
theorem queries_at (x : Vec Ideal S512x384 .f32) (g : Vec Ideal S1x384 .f32) (w : Vec Ideal S384x1024 .bf16) (r : Fin 512) (J : Fin 1024) :
    k0_pay3 x g w (ix2 r J) = ∑ k : Fin 384, rms 0x43C00000#32 (fun l => x (ix2 r l)) (g (ix2 0 k)) k * w (ix2 k J) := by
  pointwise [k0_pay3, rms]

theorem latents_at (x : Vec Ideal S512x256 .f32) (g : Vec Ideal S1x256 .f32) (r : Fin 512) (k : Fin 256) :
    k0_pay1 x (k0_pay23 x) g (ix2 r k) = rms 0x43800000#32 (fun l => x (ix2 r l)) (g (ix2 0 k)) k := by
  pointwise [k0_pay1, k0_pay23, rms]

theorem key_at (x : Vec Ideal S512x128 .f32) (a b d : Vec Ideal S1x512x128 .f32) (r : Fin 512) (j : Fin 32) :
    k0_pay2 x a b d (ix2 r j) = turn (fun l => x (ix2 r l)) (fun l => a (ix3 0 r l)) (fun l => b (ix3 0 r l)) (fun l => d (ix3 0 r l)) ⟨j.val, by omega⟩ := by
  pointwise [k0_pay2, turn]

/-- Head `a` of row `r`: turned and normalised. -/
def headOf (qf : Vec Ideal S512x1024 .f32) (a b d : Vec Ideal S1x512x128 .f32) (g : Vec Ideal S1x128 .f32) (r : Fin 512) (h : Fin 8) (j : Fin 128) : EReal :=
  headRow (turn (fun l => qf (ix2 r ⟨h.val * 128 + l.val, by omega⟩)) (fun l => a (ix3 0 r l)) (fun l => b (ix3 0 r l)) (fun l => d (ix3 0 r l))) (g (ix2 0 j)) j

theorem head0_at (x : Vec Ideal S512x384 .f32) (gq : Vec Ideal S1x384 .f32) (w : Vec Ideal S384x1024 .bf16) (a b d : Vec Ideal S1x512x128 .f32) (g : Vec Ideal S1x128 .f32) (r : Fin 512) (j : Fin 128) :
    k0_pay6 (k0_pay4 x gq w a b d) (k0_pay5 x gq w a b d) g (ix2 r j) = headOf (k0_pay3 x gq w) a b d g r 0 j := by
  pointwise [k0_pay6, k0_pay4, k0_pay5, headOf, headRow, turn]

theorem head1_at (qf : Vec Ideal S512x1024 .f32) (a b d : Vec Ideal S1x512x128 .f32) (g : Vec Ideal S1x128 .f32) (r : Fin 512) (j : Fin 128) :
    k0_pay8 (k0_pay7 qf a b d) g (ix2 r j) = headOf (qf) a b d g r 1 j := by
  pointwise [k0_pay8, k0_pay7, headOf, headRow, turn]

theorem head2_at (qf : Vec Ideal S512x1024 .f32) (a b d : Vec Ideal S1x512x128 .f32) (g : Vec Ideal S1x128 .f32) (r : Fin 512) (j : Fin 128) :
    k0_pay9 qf a b d g (ix2 r j) = headOf (qf) a b d g r 2 j := by
  pointwise [k0_pay9, headOf, headRow, turn]

theorem head3_at (qf : Vec Ideal S512x1024 .f32) (a b d : Vec Ideal S1x512x128 .f32) (g : Vec Ideal S1x128 .f32) (r : Fin 512) (j : Fin 128) :
    k0_pay11 (k0_pay10 qf) a b d g (ix2 r j) = headOf (qf) a b d g r 3 j := by
  pointwise [k0_pay11, k0_pay10, headOf, headRow, turn]

theorem head4_at (qf : Vec Ideal S512x1024 .f32) (a b d : Vec Ideal S1x512x128 .f32) (g : Vec Ideal S1x128 .f32) (r : Fin 512) (j : Fin 128) :
    k0_pay16 (k0_pay12 qf) (k0_pay13 qf a) (k0_pay14 qf) (k0_pay15 b) d g (ix2 r j) = headOf (qf) a b d g r 4 j := by
  pointwise [k0_pay16, k0_pay12, k0_pay13, k0_pay14, k0_pay15, headOf, headRow, turn]

theorem head5_at (qf : Vec Ideal S512x1024 .f32) (a b d : Vec Ideal S1x512x128 .f32) (g : Vec Ideal S1x128 .f32) (r : Fin 512) (j : Fin 128) :
    k0_pay19 (k0_pay17 qf a b d) (k0_pay18 qf a b d) g (ix2 r j) = headOf (qf) a b d g r 5 j := by
  pointwise [k0_pay19, k0_pay17, k0_pay18, headOf, headRow, turn]

theorem head6_at (qf : Vec Ideal S512x1024 .f32) (a b d : Vec Ideal S1x512x128 .f32) (g : Vec Ideal S1x128 .f32) (r : Fin 512) (j : Fin 128) :
    k0_pay21 (k0_pay20 qf a b d) g (ix2 r j) = headOf (qf) a b d g r 6 j := by
  pointwise [k0_pay21, k0_pay20, headOf, headRow, turn]

theorem head7_at (qf : Vec Ideal S512x1024 .f32) (a b d : Vec Ideal S1x512x128 .f32) (g : Vec Ideal S1x128 .f32) (r : Fin 512) (j : Fin 128) :
    k0_pay22 qf a b d g (ix2 r j) = headOf (qf) a b d g r 7 j := by
  pointwise [k0_pay22, headOf, headRow, turn]

end Cert.Latents

end
-- ==== Proof.LatentReference.lean ====
/-
  The reference latent preparation, read at an index: the normalised latents, the queries' projection, the turned rows and
  the heads' normalised rows.
-/
module

public import proofs.«01_k».proof.Proof.Gen.LatentReferenceIdeal.Run
public import proofs.«01_k».proof.Proof.LatentRows
public import Idealize.ShloMosaic.Lib.Pointwise

@[expose] public section

set_option maxRecDepth 8192

noncomputable section

namespace Cert.Latents.Ref

open Cert.LatentReferenceIdeal Cert.LatentReferenceIdeal.Gen Idealize.ShloMosaic Idealize.ShloMosaic.TcCoe

/-- The queries' latents, normalised. -/
def queryLatents (z : FVec Ideal S1024x6912 .f32) (g : FVec Ideal S1x384 .f32) : FVec Ideal S1024x384 .f32 :=
  (mulf (mulf (extractStridedSlice S1024x384 ![0, 6144] z slices_S1024x6912_S1024x384_0_6144) (broadcastInDim S1024x384 ![0, 1] bcast_S1024x1_S1024x384_0_1 (Host.rsqrt (addf (Host.divf (broadcastInDim S1024x1 ![0] bcast_S1024_S1024x1_0 (Host.reduceAdd (mulf (extractStridedSlice S1024x384 ![0, 6144] z slices_S1024x6912_S1024x384_0_6144) (extractStridedSlice S1024x384 ![0, 6144] z slices_S1024x6912_S1024x384_0_6144)) (constant S_ .f32 0x00000000#32) reducesTo_S1024x384_S1024_d1 h_S_)) (broadcastInDim S1024x1 ![] bcast_S_S1024x1 (constant S_ .f32 0x43C00000#32))) (broadcastInDim S1024x1 ![] bcast_S_S1024x1 (constant S_ .f32 0x358637BD#32)))))) (broadcastInDim S1024x384 ![0, 1] bcast_S1x384_S1024x384_0_1 g))

/-- The heads' queries before they are turned. -/
def heads (h : FVec Ideal S1024x384 .f32) (w : FVec Ideal S384x1024 .bf16) : FVec Ideal S1024x8x128 .f32 :=
  (shapeCast _ (Host.dotGeneral dot_S1024x384_S384x1024_S1024x1024_1_0_0_1_n_n none h (extf .f32 w bitsLt_bf16_f32)) shapeCasts_S1024x1024_S1024x8x128)

/-- The heads' queries turned. -/
def turnedHeads (x : FVec Ideal S1024x8x128 .f32) (tab : FVec Ideal S3x1024x128 .f32) : FVec Ideal S1024x8x128 .f32 :=
  (addf (addf (mulf x (broadcastInDim S1024x8x128 ![0, 1, 2] bcast_S1024x1x128_S1024x8x128_0_1_2 (shapeCast _ (extractStridedSlice S1x1024x1x128 ![0, 0, 0, 0] (broadcastInDim S3x1024x1x128 ![0, 1, 3] bcast_S3x1024x128_S3x1024x1x128_0_1_3 tab) slices_S3x1024x1x128_S1x1024x1x128_0_0_0_0) shapeCasts_S1x1024x1x128_S1024x1x128))) (mulf (concatenate S1024x8x128 2 [⟨S1024x8x112, (extractStridedSlice S1024x8x112 ![0, 0, 16] x slices_S1024x8x128_S1024x8x112_0_0_16)⟩, ⟨S1024x8x16, (extractStridedSlice S1024x8x16 ![0, 0, 0] x slices_S1024x8x128_S1024x8x16_0_0_0)⟩] concatenates_S1024x8x112_S1024x8x16_S1024x8x128_d2) (broadcastInDim S1024x8x128 ![0, 1, 2] bcast_S1024x1x128_S1024x8x128_0_1_2 (shapeCast _ (extractStridedSlice S1x1024x1x128 ![1, 0, 0, 0] (broadcastInDim S3x1024x1x128 ![0, 1, 3] bcast_S3x1024x128_S3x1024x1x128_0_1_3 tab) slices_S3x1024x1x128_S1x1024x1x128_1_0_0_0) shapeCasts_S1x1024x1x128_S1024x1x128)))) (mulf (concatenate S1024x8x128 2 [⟨S1024x8x16, (extractStridedSlice S1024x8x16 ![0, 0, 112] x slices_S1024x8x128_S1024x8x16_0_0_112)⟩, ⟨S1024x8x112, (extractStridedSlice S1024x8x112 ![0, 0, 0] x slices_S1024x8x128_S1024x8x112_0_0_0)⟩] concatenates_S1024x8x16_S1024x8x112_S1024x8x128_d2) (broadcastInDim S1024x8x128 ![0, 1, 2] bcast_S1024x1x128_S1024x8x128_0_1_2 (shapeCast _ (extractStridedSlice S1x1024x1x128 ![2, 0, 0, 0] (broadcastInDim S3x1024x1x128 ![0, 1, 3] bcast_S3x1024x128_S3x1024x1x128_0_1_3 tab) slices_S3x1024x1x128_S1x1024x1x128_2_0_0_0) shapeCasts_S1x1024x1x128_S1024x1x128))))

/-- The heads' queries normalised, one row for each position. -/
def finished (x : FVec Ideal S1024x8x128 .f32) (g : FVec Ideal S1x128 .f32) : FVec Ideal S1024x1024 .bf16 :=
  truncf .bf16 (shapeCast _ (mulf (mulf x (broadcastInDim S1024x8x128 ![0, 1, 2] bcast_S1024x8x1_S1024x8x128_0_1_2 (Host.rsqrt (addf (mulf (broadcastInDim S1024x8x1 ![0, 1] bcast_S1024x8_S1024x8x1_0_1 (Host.reduceAdd (mulf x x) (constant S_ .f32 0x00000000#32) reducesTo_S1024x8x128_S1024x8_d2 h_S_)) (broadcastInDim S1024x8x1 ![] bcast_S_S1024x8x1 (constant S_ .f32 0x3C2AAAAB#32))) (broadcastInDim S1024x8x1 ![] bcast_S_S1024x8x1 (constant S_ .f32 0x358637BD#32)))))) (broadcastInDim S1024x8x128 ![0, 1, 2] bcast_S1x1x128_S1024x8x128_0_1_2 (broadcastInDim S1x1x128 ![1, 2] bcast_S1x128_S1x1x128_1_2 g))) shapeCasts_S1024x8x128_S1024x1024) bitsLt_bf16_f32

/-- The key and value latents, normalised. -/
def latents (z : FVec Ideal S1024x6912 .f32) (g : FVec Ideal S1x256 .f32) : FVec Ideal S1024x256 .f32 :=
  mulf (mulf (extractStridedSlice S1024x256 ![0, 6528] z slices_S1024x6912_S1024x256_0_6528) (broadcastInDim S1024x256 ![0, 1] bcast_S1024x1_S1024x256_0_1 (Host.rsqrt (addf (Host.divf (broadcastInDim S1024x1 ![0] bcast_S1024_S1024x1_0 (Host.reduceAdd (mulf (extractStridedSlice S1024x256 ![0, 6528] z slices_S1024x6912_S1024x256_0_6528) (extractStridedSlice S1024x256 ![0, 6528] z slices_S1024x6912_S1024x256_0_6528)) (constant S_ .f32 0x00000000#32) reducesTo_S1024x256_S1024_d1 h_S_)) (broadcastInDim S1024x1 ![] bcast_S_S1024x1 (constant S_ .f32 0x43800000#32))) (broadcastInDim S1024x1 ![] bcast_S_S1024x1 (constant S_ .f32 0x358637BD#32)))))) (broadcastInDim S1024x256 ![0, 1] bcast_S1x256_S1024x256_0_1 g)

/-- The columns of the rotary key. -/
def keyPart (z : FVec Ideal S1024x6912 .f32) : FVec Ideal S1024x128 .f32 :=
  extractStridedSlice S1024x128 ![0, 6784] z slices_S1024x6912_S1024x128_0_6784

/-- The rotary key turned. -/
def turnedKey (x : FVec Ideal S1024x128 .f32) (tab : FVec Ideal S3x1024x128 .f32) : FVec Ideal S1024x32 .f32 :=
  extractStridedSlice S1024x32 ![0, 0] (addf (addf (mulf x (shapeCast _ (extractStridedSlice S1x1024x128 ![0, 0, 0] tab slices_S3x1024x128_S1x1024x128_0_0_0) shapeCasts_S1x1024x128_S1024x128)) (mulf (concatenate S1024x128 1 [⟨S1024x112, (extractStridedSlice S1024x112 ![0, 16] x slices_S1024x128_S1024x112_0_16)⟩, ⟨S1024x16, (extractStridedSlice S1024x16 ![0, 0] x slices_S1024x128_S1024x16_0_0)⟩] concatenates_S1024x112_S1024x16_S1024x128_d1) (shapeCast _ (extractStridedSlice S1x1024x128 ![1, 0, 0] tab slices_S3x1024x128_S1x1024x128_1_0_0) shapeCasts_S1x1024x128_S1024x128))) (mulf (concatenate S1024x128 1 [⟨S1024x16, (extractStridedSlice S1024x16 ![0, 112] x slices_S1024x128_S1024x16_0_112)⟩, ⟨S1024x112, (extractStridedSlice S1024x112 ![0, 0] x slices_S1024x128_S1024x112_0_0)⟩] concatenates_S1024x16_S1024x112_S1024x128_d1) (shapeCast _ (extractStridedSlice S1x1024x128 ![2, 0, 0] tab slices_S3x1024x128_S1x1024x128_2_0_0) shapeCasts_S1x1024x128_S1024x128))) slices_S1024x128_S1024x32_0_0

/-- The reference's first result, from its arguments. -/
def queries (z : FVec Ideal S1024x6912 .f32) (tab : FVec Ideal S3x1024x128 .f32) (gq : FVec Ideal S1x384 .f32) (w : FVec Ideal S384x1024 .bf16)
    (g : FVec Ideal S1x128 .f32) : FVec Ideal S1024x1024 .bf16 :=
  finished (turnedHeads (heads (queryLatents z gq) w) tab) g

theorem result_eq (m : (ℓ : Loc nD τ sig) → Buf (Elt Ideal) ℓ) (c : Dev nD) :
    Value.res_main_v61 m c = queries (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg6)) := rfl

theorem queryLatents_at (z : FVec Ideal S1024x6912 .f32) (g : FVec Ideal S1x384 .f32) (R : Fin 1024) (k : Fin 384) :
    queryLatents z g (ix2 R k) = rms 0x43C00000#32 (fun l : Fin 384 => z (ix2 R ⟨6144 + l.val, by omega⟩)) (g (ix2 0 k)) k := by
  pointwise [queryLatents, rms]

theorem heads_at (h : FVec Ideal S1024x384 .f32) (w : FVec Ideal S384x1024 .bf16) (R : Fin 1024) (a : Fin 8) (j : Fin 128) :
    heads h w (ix3 R a j) = ∑ k : Fin 384, h (ix2 R k) * w (ix2 k ⟨a.val * 128 + j.val, by omega⟩) := by
  pointwise [heads]

theorem turnedHeads_at (x : FVec Ideal S1024x8x128 .f32) (tab : FVec Ideal S3x1024x128 .f32) (R : Fin 1024) (a : Fin 8) (j : Fin 128) :
    turnedHeads x tab (ix3 R a j) = turn (fun l => x (ix3 R a l)) (fun l => tab (ix3 0 R l)) (fun l => tab (ix3 1 R l)) (fun l => tab (ix3 2 R l)) j := by
  pointwise [turnedHeads, turn]
  refine congrArg₂ (fun p q : EReal => p + q) (congrArg₂ (fun p q : EReal => p + q) rfl (congrArg (fun p : EReal => p * _) ?_)) (congrArg (fun p : EReal => p * _) ?_)
    <;> split_ifs <;> exact congrArg (fun i => x (ix3 R a i)) (Fin.ext (by dsimp only; omega))

theorem finished_at (x : FVec Ideal S1024x8x128 .f32) (g : FVec Ideal S1x128 .f32) (R : Fin 1024) (a : Fin 8) (j : Fin 128) :
    finished x g (ix2 R ⟨a.val * 128 + j.val, by omega⟩) = headRow (fun l => x (ix3 R a l)) (g (ix2 0 j)) j := by
  pointwise [finished, headRow]

theorem latents_at (z : FVec Ideal S1024x6912 .f32) (g : FVec Ideal S1x256 .f32) (R : Fin 1024) (k : Fin 256) :
    latents z g (ix2 R k) = rms 0x43800000#32 (fun l : Fin 256 => z (ix2 R ⟨6528 + l.val, by omega⟩)) (g (ix2 0 k)) k := by
  pointwise [latents, rms]

theorem keyPart_at (z : FVec Ideal S1024x6912 .f32) (R : Fin 1024) (j : Fin 128) :
    keyPart z (ix2 R j) = z (ix2 R ⟨6784 + j.val, by omega⟩) := by
  pointwise [keyPart]

theorem turnedKey_at (x : FVec Ideal S1024x128 .f32) (tab : FVec Ideal S3x1024x128 .f32) (R : Fin 1024) (j : Fin 32) :
    turnedKey x tab (ix2 R j) = turn (fun l => x (ix2 R l)) (fun l => tab (ix3 0 R l)) (fun l => tab (ix3 1 R l)) (fun l => tab (ix3 2 R l)) ⟨j.val, by omega⟩ := by
  pointwise [turnedKey, turn]
  refine congrArg₂ (fun p q : EReal => p + q) (congrArg₂ (fun p q : EReal => p + q) rfl (congrArg (fun p : EReal => p * _) ?_)) (congrArg (fun p : EReal => p * _) ?_)
    <;> split_ifs <;> exact congrArg (fun i => x (ix2 R i)) (Fin.ext (by dsimp only; omega))

end Cert.Latents.Ref

end
-- ==== Proof.LatentArray.lean ====
/-
  The three arrays the latent preparation leaves are the reference's of its arguments.
-/
module

public import proofs.«01_k».proof.Proof.Gen.LatentIdeal.Value
public import proofs.«01_k».proof.Proof.LatentBlock
public import proofs.«01_k».proof.Proof.LatentReference
public import Idealize.ShloMosaic.Lib.Pipeline.ValueKit

@[expose] public section

set_option maxRecDepth 16384

noncomputable section

namespace Cert.Latents

open Idealize.ShloMosaic Idealize.ShloMosaic.TcCoe Idealize.SL.Sem
open Idealize.ShloMosaic.Pipeline (Dat)
open Cert.LatentIdeal Cert.LatentIdeal.Gen

variable (m : (ℓ : Loc nD τ sig) → Buf (Elt Ideal) ℓ)

/-! ## What a point leaves -/

/-- The queries stored, head by head. -/
theorem queries_left (z : Vec Ideal S512x768 .f32) (q k : Vec Ideal S3x512x128 .f32) (gq : Vec Ideal S1x384 .f32) (w : Vec Ideal S384x1024 .bf16)
    (gc : Vec Ideal S1x256 .f32) (gn : Vec Ideal S1x128 .f32) (r : Fin 512) (h : Fin 8) (j : Fin 128) :
    out0_7 z q k gq w gc gn (ix2 r ⟨h.val * 128 + j.val, by omega⟩)
      = headOf (k0_pay3 (View.ld z r0_0) (View.ld gq r0_3) (View.ld w r0_4)) (View.ld q r0_5) (View.ld q r0_6) (View.ld q r0_7) (View.ld gn r0_8) r h j := by
  canon_tiles x e
  · obtain ⟨r', j', rfl⟩ : ∃ (r' : Fin 512) (j' : Fin 128), x = ix2 r' j' := ⟨x 0, x 1, eq_ix2 x⟩
    have f0 : r.val = r'.val := e0
    have f1 : h.val * 128 + j.val = 896 + j'.val := e1
    obtain rfl : h = 7 := Fin.ext (by show h.val = 7; omega)
    obtain rfl : r = r' := Fin.ext f0
    obtain rfl : j = j' := Fin.ext (by have : (((7 : Fin 8)).val = 7) := rfl; omega)
    exact head7_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 768 + j'.val := e1
    obtain rfl : h = 6 := Fin.ext (by show h.val = 6; omega)
    obtain rfl : r = r' := Fin.ext f0
    obtain rfl : j = j' := Fin.ext (by have : (((6 : Fin 8)).val = 6) := rfl; omega)
    exact head6_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 640 + j'.val := e1
    obtain rfl : h = 5 := Fin.ext (by show h.val = 5; omega)
    obtain rfl : r = r' := Fin.ext f0
    obtain rfl : j = j' := Fin.ext (by have : (((5 : Fin 8)).val = 5) := rfl; omega)
    exact head5_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 512 + j'.val := e1
    obtain rfl : h = 4 := Fin.ext (by show h.val = 4; omega)
    obtain rfl : r = r' := Fin.ext f0
    obtain rfl : j = j' := Fin.ext (by have : (((4 : Fin 8)).val = 4) := rfl; omega)
    exact head4_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 384 + j'.val := e1
    obtain rfl : h = 3 := Fin.ext (by show h.val = 3; omega)
    obtain rfl : r = r' := Fin.ext f0
    obtain rfl : j = j' := Fin.ext (by have : (((3 : Fin 8)).val = 3) := rfl; omega)
    exact head3_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 256 + j'.val := e1
    obtain rfl : h = 2 := Fin.ext (by show h.val = 2; omega)
    obtain rfl : r = r' := Fin.ext f0
    obtain rfl : j = j' := Fin.ext (by have : (((2 : Fin 8)).val = 2) := rfl; omega)
    exact head2_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 128 + j'.val := e1
    obtain rfl : h = 1 := Fin.ext (by show h.val = 1; omega)
    obtain rfl : r = r' := Fin.ext f0
    obtain rfl : j = j' := Fin.ext (by have : (((1 : Fin 8)).val = 1) := rfl; omega)
    exact head1_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = j'.val := e1
    obtain rfl : h = 0 := Fin.ext (by show h.val = 0; omega)
    obtain rfl : r = r' := Fin.ext f0
    obtain rfl : j = j' := Fin.ext (by have : (((0 : Fin 8)).val = 0) := rfl; omega)
    exact head0_at _ _ _ _ _ _ _ r j

/-! ## Where the blocks are -/

theorem places : ∀ t : Fin cfg0.N,
    win0_0.index t = ![t.val, 8] ∧ win0_1.index t = ![0, t.val, 0] ∧ win0_2.index t = ![0, t.val, 0] ∧ win0_3.index t = ![0, 0]
    ∧ win0_4.index t = ![0, 0] ∧ win0_5.index t = ![0, 0] ∧ win0_6.index t = ![0, 0] ∧ win0_7.index t = ![t.val, 0]
    ∧ win0_8.index t = ![t.val, 0] ∧ win0_9.index t = ![t.val, 0] :=
  (by decide +kernel : ∀ t : Fin grid0.N, _)

/-- Some of the latents' columns of the block. -/
theorem columns_at (c : Dev nD) (t : Fin cfg0.N) (o n : ℕ) (inb : ∀ a, (![0, o] : Fin 2 → ℕ) a + (![512, n] : Fin 2 → ℕ) a ≤ S512x768.size a)
    (r : Fin 512) (j : Fin n) (R : Fin 1024) (J : Fin 6912) (hR : R.val = t.val * 512 + r.val) (hJ : J.val = 6144 + (o + j.val)) (ho : o + n ≤ 768) :
    View.ld (show Vec Ideal S512x768 .f32 from iblk m c 0 t) (Rect.unit (s := S512x768) ![0, o] ![512, n] inb) (ix2 r j)
      = (m ((c : Thread nD τ).loc main_arg0) : FVec Ideal S1024x6912 .f32) (ix2 R J) := by
  refine (View.ld_unit_apply_of (show Vec Ideal S512x768 .f32 from iblk m c 0 t) _ _ inb (ix2 r j) (ix2 r (⟨o + j.val, by omega⟩ : Fin 768)) fun a => ?_).trans ?_
  · fin_cases a
    · exact (Nat.zero_add _).symm
    · rfl
  · blk_ext [iblk, V, places t]

/-- A table of the queries' rotation. -/
theorem queryTable_at (c : Dev nD) (t : Fin cfg0.N) (a : Fin 3) (inb : ∀ b, (![a.val, 0, 0] : Fin 3 → ℕ) b + (![1, 512, 128] : Fin 3 → ℕ) b ≤ S3x512x128.size b)
    (r : Fin 512) (j : Fin 128) (R : Fin 1024) (hR : R.val = t.val * 512 + r.val) :
    View.ld (show Vec Ideal S3x512x128 .f32 from iblk m c 1 t) (Rect.unit (s := S3x512x128) ![a.val, 0, 0] ![1, 512, 128] inb) (ix3 0 r j)
      = (m ((c : Thread nD τ).loc main_arg1) : FVec Ideal S3x1024x128 .f32) (ix3 a R j) := by
  refine (View.ld_unit_apply_of (show Vec Ideal S3x512x128 .f32 from iblk m c 1 t) _ _ inb (ix3 0 r j) (ix3 a r j) fun b => ?_).trans ?_
  · fin_cases b
    · rfl
    · exact (Nat.zero_add _).symm
    · exact (Nat.zero_add _).symm
  · blk_ext [iblk, V, places t]

/-- A table of the key's rotation. -/
theorem keyTable_at (c : Dev nD) (t : Fin cfg0.N) (a : Fin 3) (inb : ∀ b, (![a.val, 0, 0] : Fin 3 → ℕ) b + (![1, 512, 128] : Fin 3 → ℕ) b ≤ S3x512x128.size b)
    (r : Fin 512) (j : Fin 128) (R : Fin 1024) (hR : R.val = t.val * 512 + r.val) :
    View.ld (show Vec Ideal S3x512x128 .f32 from iblk m c 2 t) (Rect.unit (s := S3x512x128) ![a.val, 0, 0] ![1, 512, 128] inb) (ix3 0 r j)
      = (m ((c : Thread nD τ).loc main_arg2) : FVec Ideal S3x1024x128 .f32) (ix3 a R j) := by
  refine (View.ld_unit_apply_of (show Vec Ideal S3x512x128 .f32 from iblk m c 2 t) _ _ inb (ix3 0 r j) (ix3 a r j) fun b => ?_).trans ?_
  · fin_cases b
    · rfl
    · exact (Nat.zero_add _).symm
    · exact (Nat.zero_add _).symm
  · blk_ext [iblk, V, places t]

theorem queryGain_at (c : Dev nD) (t : Fin cfg0.N) (k : Fin 384) :
    View.ld (show Vec Ideal S1x384 .f32 from iblk m c 3 t) r0_3 (ix2 0 k) = (m ((c : Thread nD τ).loc main_arg3) : FVec Ideal S1x384 .f32) (ix2 0 k) := by
  refine (View.ld_unit_apply_of (show Vec Ideal S1x384 .f32 from iblk m c 3 t) _ _ _ (ix2 0 k) (ix2 0 k) fun b => ?_).trans ?_
  · fin_cases b <;> exact (Nat.zero_add _).symm
  · blk_ext [iblk, V, places t]

theorem queryWeight_at (c : Dev nD) (t : Fin cfg0.N) (k : Fin 384) (j : Fin 1024) :
    View.ld (show Vec Ideal S384x1024 .bf16 from iblk m c 4 t) r0_4 (ix2 k j) = (m ((c : Thread nD τ).loc main_arg4) : FVec Ideal S384x1024 .bf16) (ix2 k j) := by
  refine (View.ld_unit_apply_of (show Vec Ideal S384x1024 .bf16 from iblk m c 4 t) _ _ _ (ix2 k j) (ix2 k j) fun b => ?_).trans ?_
  · fin_cases b <;> exact (Nat.zero_add _).symm
  · blk_ext [iblk, V, places t]

theorem latentGain_at (c : Dev nD) (t : Fin cfg0.N) (k : Fin 256) :
    (show Vec Ideal S1x256 .f32 from iblk m c 5 t) (ix2 0 k) = (m ((c : Thread nD τ).loc main_arg5) : FVec Ideal S1x256 .f32) (ix2 0 k) := by
  blk_ext [iblk, V, places t]

theorem headGain_at (c : Dev nD) (t : Fin cfg0.N) (j : Fin 128) :
    View.ld (show Vec Ideal S1x128 .f32 from iblk m c 6 t) r0_8 (ix2 0 j) = (m ((c : Thread nD τ).loc main_arg6) : FVec Ideal S1x128 .f32) (ix2 0 j) := by
  refine (View.ld_unit_apply_of (show Vec Ideal S1x128 .f32 from iblk m c 6 t) _ _ _ (ix2 0 j) (ix2 0 j) fun b => ?_).trans ?_
  · fin_cases b <;> exact (Nat.zero_add _).symm
  · blk_ext [iblk, V, places t]

/-! ## The three arrays -/

/-- The queries after the run. -/
theorem queries_eq (c : Dev nD) :
    (dats m 0 c).arrAt 7 cfg0.N = Ref.queries (m ((c : Thread nD τ).loc main_arg0)) (m ((c : Thread nD τ).loc main_arg1))
      (m ((c : Thread nD τ).loc main_arg3)) (m ((c : Thread nD τ).loc main_arg4)) (m ((c : Thread nD τ).loc main_arg6)) := by
  refine (dats m 0 c).arrAt_eq_of_covers 7 _ (by decide +kernel) fun t hf y => ?_
  obtain ⟨-, -, -, -, -, -, -, p, -, -⟩ := places t
  have hN : t.val < 2 := lt_of_lt_of_eq t.isLt N_0
  blk_simp
  rw [after0_7]
  obtain ⟨r, J, rfl⟩ : ∃ (r : Fin 512) (J : Fin 1024), y = ix2 r J := ⟨y 0, y 1, eq_ix2 y⟩
  obtain ⟨h, j, rfl⟩ : ∃ (h : Fin 8) (j : Fin 128), J = ⟨h.val * 128 + j.val, by omega⟩ :=
    ⟨⟨J.val / 128, by omega⟩, ⟨J.val % 128, by omega⟩, Fin.ext (by dsimp only; omega)⟩
  let R : Fin 1024 := ⟨t.val * 512 + r.val, by omega⟩
  refine (queries_left _ _ _ _ _ _ _ r h j).trans (Eq.trans ?_ ((Ref.finished_at (Ref.turnedHeads (Ref.heads (Ref.queryLatents (m ((c : Thread nD τ).loc main_arg0)) (m ((c : Thread nD τ).loc main_arg3))) (m ((c : Thread nD τ).loc main_arg4))) (m ((c : Thread nD τ).loc main_arg1)))
      (m ((c : Thread nD τ).loc main_arg6)) R h j).symm.trans ?_))
  · unfold headOf
    refine congrArg₂ (fun (x : Fin 128 → EReal) (g : EReal) => headRow x g j) (funext fun l => Eq.trans ?_ (Ref.turnedHeads_at _ _ R h l).symm) (headGain_at m c t j)
    rw [show (fun l => View.ld (show Vec Ideal S3x512x128 .f32 from iblk m c 1 t) r0_5 (ix3 0 r l)) = _ from funext fun l => queryTable_at m c t 0 _ r l R rfl,
      show (fun l => View.ld (show Vec Ideal S3x512x128 .f32 from iblk m c 1 t) r0_6 (ix3 0 r l)) = _ from funext fun l => queryTable_at m c t 1 _ r l R rfl,
      show (fun l => View.ld (show Vec Ideal S3x512x128 .f32 from iblk m c 1 t) r0_7 (ix3 0 r l)) = _ from funext fun l => queryTable_at m c t 2 _ r l R rfl]
    refine congrArg (fun x : Fin 128 → EReal => turn x _ _ _ l) (funext fun i => ?_)
    refine (queries_at _ _ _ r _).trans (Eq.trans ?_ (Ref.heads_at _ _ R h i).symm)
    refine Fin.sum_fin_congr fun k => congrArg₂ (fun a b : EReal => a * b) (Eq.trans ?_ (Ref.queryLatents_at _ _ R k).symm) (queryWeight_at m c t k _)
    exact congrArg₂ (fun (x : Fin 384 → EReal) (g : EReal) => rms 0x43C00000#32 x g k)
      (funext fun i => columns_at m c t 0 384 _ r i R _ rfl (by dsimp only; omega) (by omega)) (queryGain_at m c t k)
  · blk_ext [p] <;> rfl

/-- The key and value latents after the run. -/
theorem latents_eq (c : Dev nD) :
    (dats m 0 c).arrAt 8 cfg0.N = Ref.latents (m ((c : Thread nD τ).loc main_arg0)) (m ((c : Thread nD τ).loc main_arg5)) := by
  refine (dats m 0 c).arrAt_eq_of_covers 8 _ (by decide +kernel) fun t hf y => ?_
  obtain ⟨-, -, -, -, -, -, -, -, p, -⟩ := places t
  have hN : t.val < 2 := lt_of_lt_of_eq t.isLt N_0
  blk_simp
  rw [after0_8]
  frame_out
  obtain ⟨r, k, rfl⟩ : ∃ (r : Fin 512) (k : Fin 256), y = ix2 r k := ⟨y 0, y 1, eq_ix2 y⟩
  let R : Fin 1024 := ⟨t.val * 512 + r.val, by omega⟩
  refine (latents_at _ _ r k).trans (Eq.trans ?_ ((Ref.latents_at (m ((c : Thread nD τ).loc main_arg0)) (m ((c : Thread nD τ).loc main_arg5)) R k).symm.trans ?_))
  · exact congrArg₂ (fun (x : Fin 256 → EReal) (g : EReal) => rms 0x43800000#32 x g k)
      (funext fun i => columns_at m c t 384 256 _ r i R _ rfl (by dsimp only; omega) (by omega)) (latentGain_at m c t k)
  · blk_ext [p] <;> rfl

/-- The rotary key after the run. -/
theorem key_eq (c : Dev nD) :
    (dats m 0 c).arrAt 9 cfg0.N = Ref.turnedKey (Ref.keyPart (m ((c : Thread nD τ).loc main_arg0))) (m ((c : Thread nD τ).loc main_arg2)) := by
  refine (dats m 0 c).arrAt_eq_of_covers 9 _ (by decide +kernel) fun t hf y => ?_
  obtain ⟨-, -, -, -, -, -, -, -, -, p⟩ := places t
  have hN : t.val < 2 := lt_of_lt_of_eq t.isLt N_0
  blk_simp
  rw [after0_9]
  frame_out
  obtain ⟨r, j, rfl⟩ : ∃ (r : Fin 512) (j : Fin 32), y = ix2 r j := ⟨y 0, y 1, eq_ix2 y⟩
  let R : Fin 1024 := ⟨t.val * 512 + r.val, by omega⟩
  refine (key_at _ _ _ _ r j).trans (Eq.trans ?_ ((Ref.turnedKey_at (Ref.keyPart (m ((c : Thread nD τ).loc main_arg0))) (m ((c : Thread nD τ).loc main_arg2)) R j).symm.trans ?_))
  · rw [show (fun l => View.ld (show Vec Ideal S3x512x128 .f32 from iblk m c 2 t) r0_5 (ix3 0 r l)) = _ from funext fun l => keyTable_at m c t 0 _ r l R rfl,
      show (fun l => View.ld (show Vec Ideal S3x512x128 .f32 from iblk m c 2 t) r0_6 (ix3 0 r l)) = _ from funext fun l => keyTable_at m c t 1 _ r l R rfl,
      show (fun l => View.ld (show Vec Ideal S3x512x128 .f32 from iblk m c 2 t) r0_7 (ix3 0 r l)) = _ from funext fun l => keyTable_at m c t 2 _ r l R rfl]
    exact congrArg (fun x : Fin 128 → EReal => turn x _ _ _ _) (funext fun i =>
      (columns_at m c t 640 128 _ r i R ⟨6784 + i.val, by omega⟩ rfl (by dsimp only; omega) (by omega)).trans (Ref.keyPart_at _ R i).symm)
  · blk_ext [p] <;> rfl

end Cert.Latents

end
-- ==== Proof.ExpandBlock.lean ====
/-
  What the prompt's latent preparation stores at a point, read at an index. The rotary part enters the keys twice, rounded
  and as what the rounding left; over the reals the second is zero, where the part is a real number.
-/
module

public import proofs.«01_k».proof.Proof.Gen.ExpandIdeal.Skeleton
public import proofs.«01_k».proof.Proof.LatentBlock
public import Idealize.ShloMosaic.Lib.Pointwise

@[expose] public section

set_option maxRecDepth 8192

noncomputable section

namespace Cert.Expand

open Idealize.ShloMosaic Idealize.ShloMosaic.TcCoe Idealize.SL.Sem
open Cert.Latents Cert.ExpandIdeal Cert.ExpandIdeal.Gen

/-- The queries before they are turned. -/
theorem queries_at (x : Vec Ideal S512x384 .f32) (g : Vec Ideal S1x384 .f32) (w : Vec Ideal S384x1024 .bf16) (r : Fin 512) (J : Fin 1024) :
    k0_pay1 x g w (ix2 r J) = ∑ k : Fin 384, rms 0x43C00000#32 (fun l => x (ix2 r l)) (g (ix2 0 k)) k * w (ix2 k J) := by
  pointwise [k0_pay1, rms]

theorem latents_at (x : Vec Ideal S512x256 .f32) (g : Vec Ideal S1x256 .f32) (r : Fin 512) (k : Fin 256) :
    k0_pay22 x (k0_pay21 x) g (ix2 r k) = rms 0x43800000#32 (fun l => x (ix2 r l)) (g (ix2 0 k)) k := by
  pointwise [k0_pay22, k0_pay21, rms]

/-- The rotary part of a row. -/
theorem part_at (x : Vec Ideal S512x128 .f32) (a b d : Vec Ideal S1x512x128 .f32) (r : Fin 512) (j : Fin 128) :
    k0_pay23 x a b d (ix2 r j) = turn (fun l => x (ix2 r l)) (fun l => a (ix3 0 r l)) (fun l => b (ix3 0 r l)) (fun l => d (ix3 0 r l)) j := by
  pointwise [k0_pay23, turn]

theorem key_at (x : Vec Ideal S512x128 .f32) (a b d : Vec Ideal S1x512x128 .f32) (r : Fin 512) (j : Fin 32) :
    k0_pay24 x a b d (ix2 r j) = k0_pay23 x a b d (ix2 r ⟨j.val, by omega⟩) := by
  pointwise [k0_pay24]

theorem head0_at (x : Vec Ideal S512x384 .f32) (gq : Vec Ideal S1x384 .f32) (w : Vec Ideal S384x1024 .bf16) (a b d : Vec Ideal S1x512x128 .f32) (g : Vec Ideal S1x128 .f32) (r : Fin 512) (j : Fin 128) :
    k0_pay4 (k0_pay2 x gq w a b d) (k0_pay3 x gq w a b d) g (ix2 r j) = headOf (k0_pay1 x gq w) a b d g r 0 j := by
  pointwise [k0_pay4, k0_pay2, k0_pay3, headOf, headRow, turn]

theorem head1_at (qf : Vec Ideal S512x1024 .f32) (a b d : Vec Ideal S1x512x128 .f32) (g : Vec Ideal S1x128 .f32) (r : Fin 512) (j : Fin 128) :
    k0_pay6 (k0_pay5 qf a b d) g (ix2 r j) = headOf qf a b d g r 1 j := by
  pointwise [k0_pay6, k0_pay5, headOf, headRow, turn]

theorem head2_at (qf : Vec Ideal S512x1024 .f32) (a b d : Vec Ideal S1x512x128 .f32) (g : Vec Ideal S1x128 .f32) (r : Fin 512) (j : Fin 128) :
    k0_pay7 qf a b d g (ix2 r j) = headOf qf a b d g r 2 j := by
  pointwise [k0_pay7, headOf, headRow, turn]

theorem head3_at (qf : Vec Ideal S512x1024 .f32) (a b d : Vec Ideal S1x512x128 .f32) (g : Vec Ideal S1x128 .f32) (r : Fin 512) (j : Fin 128) :
    k0_pay9 (k0_pay8 qf) a b d g (ix2 r j) = headOf qf a b d g r 3 j := by
  pointwise [k0_pay9, k0_pay8, headOf, headRow, turn]

theorem head4_at (qf : Vec Ideal S512x1024 .f32) (a b d : Vec Ideal S1x512x128 .f32) (g : Vec Ideal S1x128 .f32) (r : Fin 512) (j : Fin 128) :
    k0_pay14 (k0_pay10 qf) (k0_pay11 qf a) (k0_pay12 qf) (k0_pay13 b) d g (ix2 r j) = headOf qf a b d g r 4 j := by
  pointwise [k0_pay14, k0_pay10, k0_pay11, k0_pay12, k0_pay13, headOf, headRow, turn]

theorem head5_at (qf : Vec Ideal S512x1024 .f32) (a b d : Vec Ideal S1x512x128 .f32) (g : Vec Ideal S1x128 .f32) (r : Fin 512) (j : Fin 128) :
    k0_pay17 (k0_pay15 qf a b d) (k0_pay16 qf a b d) g (ix2 r j) = headOf qf a b d g r 5 j := by
  pointwise [k0_pay17, k0_pay15, k0_pay16, headOf, headRow, turn]

theorem head6_at (qf : Vec Ideal S512x1024 .f32) (a b d : Vec Ideal S1x512x128 .f32) (g : Vec Ideal S1x128 .f32) (r : Fin 512) (j : Fin 128) :
    k0_pay19 (k0_pay18 qf a b d) g (ix2 r j) = headOf qf a b d g r 6 j := by
  pointwise [k0_pay19, k0_pay18, headOf, headRow, turn]

theorem head7_at (qf : Vec Ideal S512x1024 .f32) (a b d : Vec Ideal S1x512x128 .f32) (g : Vec Ideal S1x128 .f32) (r : Fin 512) (j : Fin 128) :
    k0_pay20 qf a b d g (ix2 r j) = headOf qf a b d g r 7 j := by
  pointwise [k0_pay20, headOf, headRow, turn]

/-- Head `h` of row `r` of the keys: normalised. -/
def keyHead (kf : Vec Ideal S512x1024 .f32) (g : Vec Ideal S1x128 .f32) (r : Fin 512) (h : Fin 8) (j : Fin 128) : EReal :=
  headRow (fun l => kf (ix2 r ⟨h.val * 128 + l.val, by omega⟩)) (g (ix2 0 j)) j

theorem keyHead0_at (p q : Vec Ideal S512x128 .bf16) (k : Vec Ideal S512x1024 .f32) (v w : Vec Ideal S128x1024 .bf16) (g : Vec Ideal S1x128 .f32) (r : Fin 512) (j : Fin 128) :
    k0_pay30 p q k v w g (ix2 r j) = keyHead (k0_pay29 p q k v w) g r 0 j := by
  pointwise [k0_pay30, keyHead, headRow]

theorem keyHead1_at (p q : Vec Ideal S512x128 .bf16) (k : Vec Ideal S512x1024 .f32) (v w : Vec Ideal S128x1024 .bf16) (g : Vec Ideal S1x128 .f32) (r : Fin 512) (j : Fin 128) :
    k0_pay31 p q k v w g (ix2 r j) = keyHead (k0_pay29 p q k v w) g r 1 j := by
  pointwise [k0_pay31, keyHead, headRow]

theorem keyHead2_at (p q : Vec Ideal S512x128 .bf16) (k : Vec Ideal S512x1024 .f32) (v w : Vec Ideal S128x1024 .bf16) (g : Vec Ideal S1x128 .f32) (r : Fin 512) (j : Fin 128) :
    k0_pay33 (k0_pay32 p q k v w) g (ix2 r j) = keyHead (k0_pay29 p q k v w) g r 2 j := by
  pointwise [k0_pay33, k0_pay32, keyHead, headRow]

theorem keyHead3_at (kf : Vec Ideal S512x1024 .f32) (g : Vec Ideal S1x128 .f32) (r : Fin 512) (j : Fin 128) :
    k0_pay34 kf g (ix2 r j) = keyHead kf g r 3 j := by
  pointwise [k0_pay34, keyHead, headRow]

theorem keyHead4_at (kf : Vec Ideal S512x1024 .f32) (g : Vec Ideal S1x128 .f32) (r : Fin 512) (j : Fin 128) :
    k0_pay37 (k0_pay35 kf) (k0_pay36 kf) g (ix2 r j) = keyHead kf g r 4 j := by
  pointwise [k0_pay37, k0_pay35, k0_pay36, keyHead, headRow]

theorem keyHead5_at (kf : Vec Ideal S512x1024 .f32) (g : Vec Ideal S1x128 .f32) (r : Fin 512) (j : Fin 128) :
    k0_pay38 kf g (ix2 r j) = keyHead kf g r 5 j := by
  pointwise [k0_pay38, keyHead, headRow]

theorem keyHead6_at (kf : Vec Ideal S512x1024 .f32) (g : Vec Ideal S1x128 .f32) (r : Fin 512) (j : Fin 128) :
    k0_pay39 kf g (ix2 r j) = keyHead kf g r 6 j := by
  pointwise [k0_pay39, keyHead, headRow]

theorem keyHead7_at (kf : Vec Ideal S512x1024 .f32) (g : Vec Ideal S1x128 .f32) (r : Fin 512) (j : Fin 128) :
    k0_pay41 (k0_pay40 kf) g (ix2 r j) = keyHead kf g r 7 j := by
  pointwise [k0_pay41, k0_pay40, keyHead, headRow]

/-- The keys before they are normalised: the rotary part in two pieces, its rounding and what that leaves. -/
theorem keys_at (x : Vec Ideal S512x128 .f32) (a b d : Vec Ideal S1x512x128 .f32) (y : Vec Ideal S512x256 .f32) (gc : Vec Ideal S1x256 .f32)
    (wk : Vec Ideal S256x1024 .bf16) (pm : Vec Ideal S128x1024 .bf16) (r : Fin 512) (J : Fin 1024) :
    k0_pay29 (k0_pay26 x a b d) (k0_pay27 x a b d) (k0_pay28 y (k0_pay21 y) gc wk) pm pm (ix2 r J)
      = ∑ k : Fin 256, k0_pay22 y (k0_pay21 y) gc (ix2 r k) * wk (ix2 k J) + ∑ k : Fin 128, k0_pay23 x a b d (ix2 r k) * pm (ix2 k J)
        + ∑ k : Fin 128, (k0_pay23 x a b d (ix2 r k) - k0_pay23 x a b d (ix2 r k)) * pm (ix2 k J) := by
  pointwise [k0_pay29, k0_pay28, k0_pay27, k0_pay26, k0_pay25]

/-- The kernel's test of a row of the values: whether its number over 128 leaves 64. -/
def isOnes (n : ℕ) : BitVec 1 :=
  IntOp.cmpi CmpIPredicate.eq
    (Scalar.select
      (IntOp.andi (IntOp.xori (IntOp.cmpi CmpIPredicate.slt (IntOp.remsi ArithUnit.vector (BitVec.ofNat 32 n) (Scalar.select (Scalar.cmpi CmpIPredicate.eq 128#32 0#32) 1#32 128#32)) 0#32) (Scalar.cmpi CmpIPredicate.slt (Scalar.select (Scalar.cmpi CmpIPredicate.eq 128#32 0#32) 1#32 128#32) 0#32))
        (IntOp.cmpi CmpIPredicate.ne (IntOp.remsi ArithUnit.vector (BitVec.ofNat 32 n) (Scalar.select (Scalar.cmpi CmpIPredicate.eq 128#32 0#32) 1#32 128#32)) 0#32))
      (IntOp.addi (IntOp.remsi ArithUnit.vector (BitVec.ofNat 32 n) (Scalar.select (Scalar.cmpi CmpIPredicate.eq 128#32 0#32) 1#32 128#32)) (Scalar.select (Scalar.cmpi CmpIPredicate.eq 128#32 0#32) 1#32 128#32)) (IntOp.remsi ArithUnit.vector (BitVec.ofNat 32 n) (Scalar.select (Scalar.cmpi CmpIPredicate.eq 128#32 0#32) 1#32 128#32)))
    64#32

theorem isOnes_eq : ∀ (h : Fin 8) (j : Fin 128), isOnes (h.val * 128 + j.val) = if j.val = 64 then 1#1 else 0#1 := by
  decide +kernel

/-- The values: ones in row 64 of each head. -/
theorem values_at (y : Vec Ideal S512x256 .f32) (gc : Vec Ideal S1x256 .f32) (wv : Vec Ideal S1024x256 .bf16) (h : Fin 8) (j : Fin 128) (r : Fin 512) :
    k0_pay42 (k0_pay25 y (k0_pay21 y) gc) wv (ix2 ⟨h.val * 128 + j.val, by omega⟩ r)
      = if j.val = 64 then 1 else ∑ k : Fin 256, wv (ix2 ⟨h.val * 128 + j.val, by omega⟩ k) * k0_pay22 y (k0_pay21 y) gc (ix2 r k) := by
  pointwise [k0_pay42, k0_pay25]
  show Scalar.select (isOnes (h.val * 128 + j.val)) _ _ = _
  rw [isOnes_eq]
  split_ifs <;> rfl

end Cert.Expand

end
-- ==== Proof.ExpandReference.lean ====
/-
  The reference of the prompt's latent preparation, read at an index: what the sample's has, on the prompt's rows, and
  besides the keys and the values.
-/
module

public import proofs.«01_k».proof.Proof.Gen.ExpandReferenceIdeal.Run
public import proofs.«01_k».proof.Proof.LatentRows
public import Idealize.ShloMosaic.Lib.Pointwise

@[expose] public section

set_option maxRecDepth 8192

noncomputable section

namespace Cert.Expand.Ref

open Cert.Latents Cert.ExpandReferenceIdeal Cert.ExpandReferenceIdeal.Gen Idealize.ShloMosaic Idealize.ShloMosaic.TcCoe

/-- The queries' latents, normalised. -/
def queryLatents (z : FVec Ideal S32768x6912 .f32) (g : FVec Ideal S1x384 .f32) : FVec Ideal S32768x384 .f32 :=
  (mulf (mulf (extractStridedSlice S32768x384 ![0, 6144] z slices_S32768x6912_S32768x384_0_6144) (broadcastInDim S32768x384 ![0, 1] bcast_S32768x1_S32768x384_0_1 (Host.rsqrt (addf (Host.divf (broadcastInDim S32768x1 ![0] bcast_S32768_S32768x1_0 (Host.reduceAdd (mulf (extractStridedSlice S32768x384 ![0, 6144] z slices_S32768x6912_S32768x384_0_6144) (extractStridedSlice S32768x384 ![0, 6144] z slices_S32768x6912_S32768x384_0_6144)) (constant S_ .f32 0x00000000#32) reducesTo_S32768x384_S32768_d1 h_S_)) (broadcastInDim S32768x1 ![] bcast_S_S32768x1 (constant S_ .f32 0x43C00000#32))) (broadcastInDim S32768x1 ![] bcast_S_S32768x1 (constant S_ .f32 0x358637BD#32)))))) (broadcastInDim S32768x384 ![0, 1] bcast_S1x384_S32768x384_0_1 g))

/-- The heads' queries before they are turned. -/
def heads (h : FVec Ideal S32768x384 .f32) (w : FVec Ideal S384x1024 .bf16) : FVec Ideal S32768x8x128 .f32 :=
  (shapeCast _ (Host.dotGeneral dot_S32768x384_S384x1024_S32768x1024_1_0_0_1_n_n none h (extf .f32 w bitsLt_bf16_f32)) shapeCasts_S32768x1024_S32768x8x128)

/-- The heads' queries turned. -/
def turnedHeads (x : FVec Ideal S32768x8x128 .f32) (tab : FVec Ideal S3x32768x128 .f32) : FVec Ideal S32768x8x128 .f32 :=
  (addf (addf (mulf x (broadcastInDim S32768x8x128 ![0, 1, 2] bcast_S32768x1x128_S32768x8x128_0_1_2 (shapeCast _ (extractStridedSlice S1x32768x1x128 ![0, 0, 0, 0] (broadcastInDim S3x32768x1x128 ![0, 1, 3] bcast_S3x32768x128_S3x32768x1x128_0_1_3 tab) slices_S3x32768x1x128_S1x32768x1x128_0_0_0_0) shapeCasts_S1x32768x1x128_S32768x1x128))) (mulf (concatenate S32768x8x128 2 [⟨S32768x8x112, (extractStridedSlice S32768x8x112 ![0, 0, 16] x slices_S32768x8x128_S32768x8x112_0_0_16)⟩, ⟨S32768x8x16, (extractStridedSlice S32768x8x16 ![0, 0, 0] x slices_S32768x8x128_S32768x8x16_0_0_0)⟩] concatenates_S32768x8x112_S32768x8x16_S32768x8x128_d2) (broadcastInDim S32768x8x128 ![0, 1, 2] bcast_S32768x1x128_S32768x8x128_0_1_2 (shapeCast _ (extractStridedSlice S1x32768x1x128 ![1, 0, 0, 0] (broadcastInDim S3x32768x1x128 ![0, 1, 3] bcast_S3x32768x128_S3x32768x1x128_0_1_3 tab) slices_S3x32768x1x128_S1x32768x1x128_1_0_0_0) shapeCasts_S1x32768x1x128_S32768x1x128)))) (mulf (concatenate S32768x8x128 2 [⟨S32768x8x16, (extractStridedSlice S32768x8x16 ![0, 0, 112] x slices_S32768x8x128_S32768x8x16_0_0_112)⟩, ⟨S32768x8x112, (extractStridedSlice S32768x8x112 ![0, 0, 0] x slices_S32768x8x128_S32768x8x112_0_0_0)⟩] concatenates_S32768x8x16_S32768x8x112_S32768x8x128_d2) (broadcastInDim S32768x8x128 ![0, 1, 2] bcast_S32768x1x128_S32768x8x128_0_1_2 (shapeCast _ (extractStridedSlice S1x32768x1x128 ![2, 0, 0, 0] (broadcastInDim S3x32768x1x128 ![0, 1, 3] bcast_S3x32768x128_S3x32768x1x128_0_1_3 tab) slices_S3x32768x1x128_S1x32768x1x128_2_0_0_0) shapeCasts_S1x32768x1x128_S32768x1x128))))

/-- The heads' queries normalised, one row for each position. -/
def finished (x : FVec Ideal S32768x8x128 .f32) (g : FVec Ideal S1x128 .f32) : FVec Ideal S32768x1024 .bf16 :=
  truncf .bf16 (shapeCast _ (mulf (mulf x (broadcastInDim S32768x8x128 ![0, 1, 2] bcast_S32768x8x1_S32768x8x128_0_1_2 (Host.rsqrt (addf (mulf (broadcastInDim S32768x8x1 ![0, 1] bcast_S32768x8_S32768x8x1_0_1 (Host.reduceAdd (mulf x x) (constant S_ .f32 0x00000000#32) reducesTo_S32768x8x128_S32768x8_d2 h_S_)) (broadcastInDim S32768x8x1 ![] bcast_S_S32768x8x1 (constant S_ .f32 0x3C2AAAAB#32))) (broadcastInDim S32768x8x1 ![] bcast_S_S32768x8x1 (constant S_ .f32 0x358637BD#32)))))) (broadcastInDim S32768x8x128 ![0, 1, 2] bcast_S1x1x128_S32768x8x128_0_1_2 (broadcastInDim S1x1x128 ![1, 2] bcast_S1x128_S1x1x128_1_2 g))) shapeCasts_S32768x8x128_S32768x1024) bitsLt_bf16_f32

/-- The key and value latents, normalised. -/
def latents (z : FVec Ideal S32768x6912 .f32) (g : FVec Ideal S1x256 .f32) : FVec Ideal S32768x256 .f32 :=
  mulf (mulf (extractStridedSlice S32768x256 ![0, 6528] z slices_S32768x6912_S32768x256_0_6528) (broadcastInDim S32768x256 ![0, 1] bcast_S32768x1_S32768x256_0_1 (Host.rsqrt (addf (Host.divf (broadcastInDim S32768x1 ![0] bcast_S32768_S32768x1_0 (Host.reduceAdd (mulf (extractStridedSlice S32768x256 ![0, 6528] z slices_S32768x6912_S32768x256_0_6528) (extractStridedSlice S32768x256 ![0, 6528] z slices_S32768x6912_S32768x256_0_6528)) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32)))))) (broadcastInDim S32768x256 ![0, 1] bcast_S1x256_S32768x256_0_1 g)

/-- The columns of the rotary key. -/
def keyPart (z : FVec Ideal S32768x6912 .f32) : FVec Ideal S32768x128 .f32 :=
  extractStridedSlice S32768x128 ![0, 6784] z slices_S32768x6912_S32768x128_0_6784

/-- A table of the sequence's positions, repeated for each of the eight sequences. -/
def repeated (tab : FVec Ideal S3x4096x128 .f32) : FVec Ideal S3x32768x128 .f32 :=
  shapeCast _ (broadcastInDim S1x3x8x4096x1x128 ![0, 1, 2, 3, 4, 5] bcast_S1x3x1x4096x1x128_S1x3x8x4096x1x128_0_1_2_3_4_5 (shapeCast _ tab shapeCasts_S3x4096x128_S1x3x1x4096x1x128)) shapeCasts_S1x3x8x4096x1x128_S3x32768x128

/-- The rotary part turned. -/
def turnedPart (x : FVec Ideal S32768x128 .f32) (tab : FVec Ideal S3x32768x128 .f32) : FVec Ideal S32768x128 .f32 :=
  (addf (addf (mulf x (shapeCast _ (extractStridedSlice S1x32768x128 ![0, 0, 0] tab slices_S3x32768x128_S1x32768x128_0_0_0) shapeCasts_S1x32768x128_S32768x128)) (mulf (concatenate S32768x128 1 [⟨S32768x112, (extractStridedSlice S32768x112 ![0, 16] x slices_S32768x128_S32768x112_0_16)⟩, ⟨S32768x16, (extractStridedSlice S32768x16 ![0, 0] x slices_S32768x128_S32768x16_0_0)⟩] concatenates_S32768x112_S32768x16_S32768x128_d1) (shapeCast _ (extractStridedSlice S1x32768x128 ![1, 0, 0] tab slices_S3x32768x128_S1x32768x128_1_0_0) shapeCasts_S1x32768x128_S32768x128))) (mulf (concatenate S32768x128 1 [⟨S32768x16, (extractStridedSlice S32768x16 ![0, 112] x slices_S32768x128_S32768x16_0_112)⟩, ⟨S32768x112, (extractStridedSlice S32768x112 ![0, 0] x slices_S32768x128_S32768x112_0_0)⟩] concatenates_S32768x16_S32768x112_S32768x128_d1) (shapeCast _ (extractStridedSlice S1x32768x128 ![2, 0, 0] tab slices_S3x32768x128_S1x32768x128_2_0_0) shapeCasts_S1x32768x128_S32768x128)))

/-- The rotary key: the part's first 32 lanes. -/
def keyOf (p : FVec Ideal S32768x128 .f32) : FVec Ideal S32768x32 .f32 :=
  extractStridedSlice S32768x32 ![0, 0] p slices_S32768x128_S32768x32_0_0

/-- The heads' keys, from the latents and the rotary part. -/
def keyHeads (c : FVec Ideal S32768x256 .f32) (p : FVec Ideal S32768x128 .f32) (wk : FVec Ideal S256x1024 .bf16) (pm : FVec Ideal S128x1024 .bf16) :
    FVec Ideal S32768x8x128 .f32 :=
  shapeCast _ (addf (Host.dotGeneral dot_S32768x256_S256x1024_S32768x1024_1_0_0_1_n_n none c (extf .f32 wk bitsLt_bf16_f32)) (Host.dotGeneral dot_S32768x128_S128x1024_S32768x1024_1_0_0_1_n_n none p (extf .f32 pm bitsLt_bf16_f32))) shapeCasts_S32768x1024_S32768x8x128

/-- The heads' value features from the latents, each position a column. -/
def valueHeads (c : FVec Ideal S32768x256 .f32) (wv : FVec Ideal S1024x256 .bf16) : FVec Ideal S8x128x32768 .f32 :=
  shapeCast _ (Host.dotGeneral dot_S1024x256_S256x32768_S1024x32768_1_0_0_1_n_n none (extf .f32 wv bitsLt_bf16_f32) (transpose S256x32768 [1, 0] c transposes_S32768x256_S256x32768_1_0)) shapeCasts_S1024x32768_S8x128x32768

/-- The values with ones in row 64 of each head. -/
def withOnes (v : FVec Ideal S8x128x32768 .f32) : FVec Ideal S1024x32768 .bf16 :=
  truncf .bf16 (shapeCast _ ((concatenate S8x128x32768 1 [⟨S8x64x32768, ((extractStridedSlice S8x64x32768 ![0, 0, 0] v slices_S8x128x32768_S8x64x32768_0_0_0))⟩, ⟨S8x1x32768, ((broadcastInDim S8x1x32768 ![] bcast_S_S8x1x32768 (constant S_ .f32 0x3F800000#32)))⟩, ⟨S8x63x32768, ((extractStridedSlice S8x63x32768 ![0, 65, 0] v slices_S8x128x32768_S8x63x32768_0_65_0))⟩] concatenates_S8x64x32768_S8x1x32768_S8x63x32768_S8x128x32768_d1 : FVec Ideal S8x128x32768 .f32)) shapeCasts_S8x128x32768_S1024x32768) bitsLt_bf16_f32

/-- The reference's queries, from its arguments. -/
def queries (z : FVec Ideal S32768x6912 .f32) (tab : FVec Ideal S3x4096x128 .f32) (gq : FVec Ideal S1x384 .f32) (w : FVec Ideal S384x1024 .bf16)
    (g : FVec Ideal S1x128 .f32) : FVec Ideal S32768x1024 .bf16 :=
  finished (turnedHeads (heads (queryLatents z gq) w) (repeated tab)) g

/-- The reference's rotary part, from its arguments. -/
def rotary (z : FVec Ideal S32768x6912 .f32) (tab : FVec Ideal S3x4096x128 .f32) : FVec Ideal S32768x128 .f32 :=
  turnedPart (keyPart z) (repeated tab)

/-- The reference's keys, from its arguments. -/
def keys (z : FVec Ideal S32768x6912 .f32) (tab : FVec Ideal S3x4096x128 .f32) (gc : FVec Ideal S1x256 .f32) (wk : FVec Ideal S256x1024 .bf16)
    (pm : FVec Ideal S128x1024 .bf16) (g : FVec Ideal S1x128 .f32) : FVec Ideal S32768x1024 .bf16 :=
  finished (keyHeads (latents z gc) (rotary z tab) wk pm) g

theorem queries_eq (m : (ℓ : Loc nD τ sig) → Buf (Elt Ideal) ℓ) (c : Dev nD) :
    Value.res_main_v93 m c = queries (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg6)) := rfl

theorem keys_eq (m : (ℓ : Loc nD τ sig) → Buf (Elt Ideal) ℓ) (c : Dev nD) :
    Value.res_main_v110 m c = keys (m ((c.tc : Thread nD τ).loc main_arg0)) (m ((c.tc : Thread nD τ).loc main_arg2))
      (m ((c.tc : Thread nD τ).loc main_arg5)) (m ((c.tc : Thread nD τ).loc main_arg7)) (m ((c.tc : Thread nD τ).loc main_arg8))
      (m ((c.tc : Thread nD τ).loc main_arg10)) := rfl

theorem queryLatents_at (z : FVec Ideal S32768x6912 .f32) (g : FVec Ideal S1x384 .f32) (R : Fin 32768) (k : Fin 384) :
    queryLatents z g (ix2 R k) = rms 0x43C00000#32 (fun l : Fin 384 => z (ix2 R ⟨6144 + l.val, by omega⟩)) (g (ix2 0 k)) k := by
  pointwise [queryLatents, rms]

theorem heads_at (h : FVec Ideal S32768x384 .f32) (w : FVec Ideal S384x1024 .bf16) (R : Fin 32768) (a : Fin 8) (j : Fin 128) :
    heads h w (ix3 R a j) = ∑ k : Fin 384, h (ix2 R k) * w (ix2 k ⟨a.val * 128 + j.val, by omega⟩) := by
  pointwise [heads]

theorem turnedHeads_at (x : FVec Ideal S32768x8x128 .f32) (tab : FVec Ideal S3x32768x128 .f32) (R : Fin 32768) (a : Fin 8) (j : Fin 128) :
    turnedHeads x tab (ix3 R a j) = turn (fun l => x (ix3 R a l)) (fun l => tab (ix3 0 R l)) (fun l => tab (ix3 1 R l)) (fun l => tab (ix3 2 R l)) j := by
  pointwise [turnedHeads, turn]
  refine congrArg₂ (fun p q : EReal => p + q) (congrArg₂ (fun p q : EReal => p + q) rfl (congrArg (fun p : EReal => p * _) ?_)) (congrArg (fun p : EReal => p * _) ?_)
    <;> split_ifs <;> exact congrArg (fun i => x (ix3 R a i)) (Fin.ext (by dsimp only; omega))

theorem finished_at (x : FVec Ideal S32768x8x128 .f32) (g : FVec Ideal S1x128 .f32) (R : Fin 32768) (a : Fin 8) (j : Fin 128) :
    finished x g (ix2 R ⟨a.val * 128 + j.val, by omega⟩) = headRow (fun l => x (ix3 R a l)) (g (ix2 0 j)) j := by
  pointwise [finished, headRow]

theorem latents_at (z : FVec Ideal S32768x6912 .f32) (g : FVec Ideal S1x256 .f32) (R : Fin 32768) (k : Fin 256) :
    latents z g (ix2 R k) = rms 0x43800000#32 (fun l : Fin 256 => z (ix2 R ⟨6528 + l.val, by omega⟩)) (g (ix2 0 k)) k := by
  pointwise [latents, rms]

theorem keyPart_at (z : FVec Ideal S32768x6912 .f32) (R : Fin 32768) (j : Fin 128) :
    keyPart z (ix2 R j) = z (ix2 R ⟨6784 + j.val, by omega⟩) := by
  pointwise [keyPart]

theorem turnedPart_at (x : FVec Ideal S32768x128 .f32) (tab : FVec Ideal S3x32768x128 .f32) (R : Fin 32768) (j : Fin 128) :
    turnedPart x tab (ix2 R j) = turn (fun l => x (ix2 R l)) (fun l => tab (ix3 0 R l)) (fun l => tab (ix3 1 R l)) (fun l => tab (ix3 2 R l)) j := by
  pointwise [turnedPart, turn]
  refine congrArg₂ (fun p q : EReal => p + q) (congrArg₂ (fun p q : EReal => p + q) rfl (congrArg (fun p : EReal => p * _) ?_)) (congrArg (fun p : EReal => p * _) ?_)
    <;> split_ifs <;> exact congrArg (fun i => x (ix2 R i)) (Fin.ext (by dsimp only; omega))

theorem repeated_at (tab : FVec Ideal S3x4096x128 .f32) (a : Fin 3) (R : Fin 32768) (j : Fin 128) :
    repeated tab (ix3 a R j) = tab (ix3 a ⟨R.val % 4096, by omega⟩ j) := by
  pointwise [repeated]

theorem keyOf_at (p : FVec Ideal S32768x128 .f32) (R : Fin 32768) (j : Fin 32) : keyOf p (ix2 R j) = p (ix2 R ⟨j.val, by omega⟩) := by
  pointwise [keyOf]

theorem keyHeads_at (c : FVec Ideal S32768x256 .f32) (p : FVec Ideal S32768x128 .f32) (wk : FVec Ideal S256x1024 .bf16) (pm : FVec Ideal S128x1024 .bf16)
    (R : Fin 32768) (a : Fin 8) (j : Fin 128) :
    keyHeads c p wk pm (ix3 R a j) = ∑ k : Fin 256, c (ix2 R k) * wk (ix2 k ⟨a.val * 128 + j.val, by omega⟩)
      + ∑ k : Fin 128, p (ix2 R k) * pm (ix2 k ⟨a.val * 128 + j.val, by omega⟩) := by
  pointwise [keyHeads]

theorem valueHeads_at (c : FVec Ideal S32768x256 .f32) (wv : FVec Ideal S1024x256 .bf16) (a : Fin 8) (j : Fin 128) (R : Fin 32768) :
    valueHeads c wv (ix3 a j R) = ∑ k : Fin 256, wv (ix2 ⟨a.val * 128 + j.val, by omega⟩ k) * c (ix2 R k) := by
  pointwise [valueHeads]

theorem withOnes_at (v : FVec Ideal S8x128x32768 .f32) (a : Fin 8) (j : Fin 128) (R : Fin 32768) :
    withOnes v (ix2 ⟨a.val * 128 + j.val, by omega⟩ R) = if j.val = 64 then 1 else v (ix3 a j R) := by
  pointwise [withOnes]
  rcases lt_trichotomy j.val 64 with h | h | h
  · rw [dif_pos h, if_neg (by omega)]
  · rw [dif_neg (by omega), dif_pos (by omega), if_pos h]
  · rw [dif_neg (by omega), dif_neg (by omega)]
    have e : (⟨65 + (j.val - 64 - 1), by omega⟩ : Fin 128) = j := Fin.ext (by dsimp only; omega)
    exact (congrArg (fun i => v (ix3 a i R)) e).trans (if_neg (by omega)).symm

end Cert.Expand.Ref

end
-- ==== Proof.KeyRows.lean ====
/-
  A row of keys whose rotary part is added in two pieces, what its rounding keeps and what that leaves. Where the rotary part
  is real the second piece is zero; where it is infinite both rows are, and normalising an infinite row leaves zeros.
-/
module

public import proofs.«01_k».proof.Proof.LatentRows

@[expose] public section

noncomputable section

namespace Cert.Latents

open Idealize.ShloMosaic

/-- Whether `x` is no real number. -/
def Infinite (x : EReal) : Prop := x = ⊤ ∨ x = ⊥

/-- A sum with an infinite number on its left is infinite. -/
theorem infinite_add {a : EReal} (b : EReal) (h : Infinite a) : Infinite (a + b) := by
  rcases h with rfl | rfl
  · induction b with
    | bot => exact Or.inr (EReal.add_bot _)
    | coe b => exact Or.inl (EReal.top_add_coe b)
    | top => exact Or.inl rfl
  · exact Or.inr (EReal.bot_add b)

/-- A sum with an infinite term is infinite. -/
theorem infinite_sum {n : ℕ} (f : Fin n → EReal) (k : Fin n) (h : Infinite (f k)) : Infinite (∑ i, f i) := by
  rw [← Finset.add_sum_erase Finset.univ f (Finset.mem_univ k)]
  exact infinite_add _ h

/-- An infinite number times any but zero is infinite. -/
theorem infinite_mul {p w : EReal} (h : Infinite p) (hw : w ≠ 0) : Infinite (p * w) := by
  rcases lt_or_gt_of_ne hw with hn | hp
  · rcases h with rfl | rfl
    · exact Or.inr (EReal.top_mul_of_neg hn)
    · exact Or.inl (EReal.bot_mul_of_neg hn)
  · rcases h with rfl | rfl
    · exact Or.inl (EReal.top_mul_of_pos hp)
    · exact Or.inr (EReal.bot_mul_of_pos hp)

/-- Where a product is real, what the rounding of its first factor leaves contributes nothing. -/
theorem left_mul (p w : EReal) (h : ¬ Infinite (p * w)) : (p - p) * w = 0 := by
  by_cases hw : w = 0
  · rw [hw, mul_zero]
  · induction p with
    | bot => exact absurd (infinite_mul (Or.inr rfl) hw) h
    | coe p => rw [← EReal.coe_sub, sub_self, EReal.coe_zero, zero_mul]
    | top => exact absurd (infinite_mul (Or.inl rfl) hw) h

/-- The two rows agree at an entry, or both are infinite there. -/
theorem entry_split (a : EReal) (p w : Fin 128 → EReal) :
    a + ∑ k, p k * w k + ∑ k, (p k - p k) * w k = a + ∑ k, p k * w k
      ∨ Infinite (a + ∑ k, p k * w k + ∑ k, (p k - p k) * w k) ∧ Infinite (a + ∑ k, p k * w k) := by
  by_cases h : Infinite (∑ k, p k * w k)
  · have h' : Infinite (a + ∑ k, p k * w k) := by rw [add_comm]; exact infinite_add a h
    exact Or.inr ⟨infinite_add _ h', h'⟩
  · left
    rw [Finset.sum_eq_zero (f := fun k => (p k - p k) * w k) fun k _ => left_mul _ _ fun hk => h (infinite_sum (fun k => p k * w k) k hk), add_zero]

/-- A square is not negative, and that of an infinite number is infinite. -/
theorem square_nonneg (x : EReal) : 0 ≤ x * x := by
  rcases le_total 0 x with h | h
  · exact mul_nonneg h h
  · rw [← neg_mul_neg]
    exact mul_nonneg (EReal.neg_nonneg.2 h) (EReal.neg_nonneg.2 h)

theorem square_infinite {x : EReal} (h : Infinite x) : x * x = ⊤ := by
  rcases h with rfl | rfl
  · exact EReal.top_mul_top
  · exact EReal.bot_mul_bot

/-- The reciprocal of 96 as the kernel holds it is positive. -/
theorem part_pos : 0 < Ideal.ofBits .f32 0x3C2AAAAB#32 := by
  have h : Ideal.ofBits .f32 0x3C2AAAAB#32 = ((11184811 / 1073741824 : ℝ) : EReal) := by
    simp [Ideal.ofBits, Ideal.ieee]
    rw [← EReal.coe_mul]
    norm_num
  rw [h]
  exact EReal.coe_pos.2 (by norm_num)

/-- The number added to the mean square is not minus infinity. -/
theorem eps_ne_bot : Ideal.ofBits .f32 0x358637BD#32 ≠ ⊥ := by
  simp [Ideal.ofBits, Ideal.ieee]
  exact EReal.coe_ne_bot _

/-- A head's row with an infinite entry is normalised to zeros. -/
theorem headRow_infinite (x : Fin 128 → EReal) (g : EReal) (j l : Fin 128) (h : Infinite (x l)) : headRow x g j = 0 := by
  have s : ∑ i : Fin 128, x i * x i = ⊤ :=
    top_le_iff.1 ((square_infinite h).symm.le.trans (Finset.single_le_sum (f := fun i => x i * x i) (fun i _ => square_nonneg (x i)) (Finset.mem_univ l)))
  unfold headRow
  rw [s, EReal.top_mul_of_pos part_pos, EReal.top_add_of_ne_bot eps_ne_bot, Ideal.rsqrt_top, mul_zero, zero_mul]

/-- The rows with the rotary part in two pieces and in one are normalised to the same. -/
theorem headRow_split (a p : Fin 128 → EReal) (w : Fin 128 → Fin 128 → EReal) (g : EReal) (j : Fin 128) :
    headRow (fun l => a l + ∑ k, p k * w k l + ∑ k, (p k - p k) * w k l) g j = headRow (fun l => a l + ∑ k, p k * w k l) g j := by
  by_cases h : ∃ l, Infinite (a l + ∑ k, p k * w k l + ∑ k, (p k - p k) * w k l) ∧ Infinite (a l + ∑ k, p k * w k l)
  · obtain ⟨l, h1, h2⟩ := h
    exact (headRow_infinite _ g j l h1).trans (headRow_infinite _ g j l h2).symm
  · exact congrArg (fun x => headRow x g j) (funext fun l => (entry_split (a l) p fun k => w k l).resolve_right fun e => h ⟨l, e⟩)

end Cert.Latents

end
-- ==== Proof.ExpandArray.lean ====
/-
  The five arrays the prompt's latent preparation leaves are the reference's of its arguments.
-/
module

public import proofs.«01_k».proof.Proof.Gen.ExpandIdeal.Value
public import proofs.«01_k».proof.Proof.ExpandBlock
public import proofs.«01_k».proof.Proof.ExpandReference
public import proofs.«01_k».proof.Proof.KeyRows
public import Idealize.ShloMosaic.Lib.Pipeline.ValueKit

@[expose] public section

set_option maxRecDepth 16384

noncomputable section

namespace Cert.Expand

open Idealize.ShloMosaic Idealize.ShloMosaic.TcCoe Idealize.SL.Sem
open Idealize.ShloMosaic.Pipeline (Dat)
open Cert.Latents Cert.ExpandIdeal Cert.ExpandIdeal.Gen

variable (m : (ℓ : Loc nD τ sig) → Buf (Elt Ideal) ℓ)

/-! ## What a point leaves -/

/-- The queries stored, head by head. -/
theorem queries_left (z : Vec Ideal S512x768 .f32) (q k : Vec Ideal S3x512x128 .f32) (gq : Vec Ideal S1x384 .f32) (w : Vec Ideal S384x1024 .bf16)
    (gc : Vec Ideal S1x256 .f32) (gn : Vec Ideal S1x128 .f32) (wk : Vec Ideal S256x1024 .bf16) (pm : Vec Ideal S128x1024 .bf16)
    (wv : Vec Ideal S1024x256 .bf16) (gk : Vec Ideal S1x128 .f32) (r : Fin 512) (h : Fin 8) (j : Fin 128) :
    out0_11 z q k gq w gc gn wk pm wv gk (ix2 r ⟨h.val * 128 + j.val, by omega⟩)
      = headOf (k0_pay1 (View.ld z r0_0) (View.ld gq r0_3) (View.ld w r0_4)) (View.ld q r0_5) (View.ld q r0_6) (View.ld q r0_7) (View.ld gn r0_8) r h j := by
  canon_tiles x e
  · obtain ⟨r', j', rfl⟩ : ∃ (r' : Fin 512) (j' : Fin 128), x = ix2 r' j' := ⟨x 0, x 1, eq_ix2 x⟩
    have f0 : r.val = r'.val := e0
    have f1 : h.val * 128 + j.val = 896 + j'.val := e1
    obtain rfl : h = 7 := Fin.ext (by show h.val = 7; omega)
    obtain rfl : r = r' := Fin.ext f0
    obtain rfl : j = j' := Fin.ext (by have : (((7 : Fin 8)).val = 7) := rfl; omega)
    exact head7_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 768 + j'.val := e1
    obtain rfl : h = 6 := Fin.ext (by show h.val = 6; omega)
    obtain rfl : r = r' := Fin.ext f0
    obtain rfl : j = j' := Fin.ext (by have : (((6 : Fin 8)).val = 6) := rfl; omega)
    exact head6_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 640 + j'.val := e1
    obtain rfl : h = 5 := Fin.ext (by show h.val = 5; omega)
    obtain rfl : r = r' := Fin.ext f0
    obtain rfl : j = j' := Fin.ext (by have : (((5 : Fin 8)).val = 5) := rfl; omega)
    exact head5_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 512 + j'.val := e1
    obtain rfl : h = 4 := Fin.ext (by show h.val = 4; omega)
    obtain rfl : r = r' := Fin.ext f0
    obtain rfl : j = j' := Fin.ext (by have : (((4 : Fin 8)).val = 4) := rfl; omega)
    exact head4_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 384 + j'.val := e1
    obtain rfl : h = 3 := Fin.ext (by show h.val = 3; omega)
    obtain rfl : r = r' := Fin.ext f0
    obtain rfl : j = j' := Fin.ext (by have : (((3 : Fin 8)).val = 3) := rfl; omega)
    exact head3_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 256 + j'.val := e1
    obtain rfl : h = 2 := Fin.ext (by show h.val = 2; omega)
    obtain rfl : r = r' := Fin.ext f0
    obtain rfl : j = j' := Fin.ext (by have : (((2 : Fin 8)).val = 2) := rfl; omega)
    exact head2_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 128 + j'.val := e1
    obtain rfl : h = 1 := Fin.ext (by show h.val = 1; omega)
    obtain rfl : r = r' := Fin.ext f0
    obtain rfl : j = j' := Fin.ext (by have : (((1 : Fin 8)).val = 1) := rfl; omega)
    exact head1_at _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = j'.val := e1
    obtain rfl : h = 0 := Fin.ext (by show h.val = 0; omega)
    obtain rfl : r = r' := Fin.ext f0
    obtain rfl : j = j' := Fin.ext (by have : (((0 : Fin 8)).val = 0) := rfl; omega)
    exact head0_at _ _ _ _ _ _ _ r j

/-- The keys stored, head by head. -/
theorem keys_left (z : Vec Ideal S512x768 .f32) (q k : Vec Ideal S3x512x128 .f32) (gq : Vec Ideal S1x384 .f32) (w : Vec Ideal S384x1024 .bf16)
    (gc : Vec Ideal S1x256 .f32) (gn : Vec Ideal S1x128 .f32) (wk : Vec Ideal S256x1024 .bf16) (pm : Vec Ideal S128x1024 .bf16)
    (wv : Vec Ideal S1024x256 .bf16) (gk : Vec Ideal S1x128 .f32) (r : Fin 512) (h : Fin 8) (j : Fin 128) :
    out0_14 z q k gq w gc gn wk pm wv gk (ix2 r ⟨h.val * 128 + j.val, by omega⟩) = keyHead (k0_pay48 z q k gq w gc gn wk pm wv gk) (View.ld gk r0_8) r h j := by
  canon_tiles x e
  · obtain ⟨r', j', rfl⟩ : ∃ (r' : Fin 512) (j' : Fin 128), x = ix2 r' j' := ⟨x 0, x 1, eq_ix2 x⟩
    have f0 : r.val = r'.val := e0
    have f1 : h.val * 128 + j.val = 896 + j'.val := e1
    obtain rfl : h = 7 := Fin.ext (by show h.val = 7; omega)
    obtain rfl : r = r' := Fin.ext f0
    obtain rfl : j = j' := Fin.ext (by have : (((7 : Fin 8)).val = 7) := rfl; omega)
    exact keyHead7_at _ _ r j
  · obtain ⟨r', j', rfl⟩ : ∃ (r' : Fin 512) (j' : Fin 128), x = ix2 r' j' := ⟨x 0, x 1, eq_ix2 x⟩
    have f0 : r.val = r'.val := e0
    have f1 : h.val * 128 + j.val = 768 + j'.val := e1
    obtain rfl : h = 6 := Fin.ext (by show h.val = 6; omega)
    obtain rfl : r = r' := Fin.ext f0
    obtain rfl : j = j' := Fin.ext (by have : (((6 : Fin 8)).val = 6) := rfl; omega)
    exact keyHead6_at _ _ r j
  · obtain ⟨r', j', rfl⟩ : ∃ (r' : Fin 512) (j' : Fin 128), x = ix2 r' j' := ⟨x 0, x 1, eq_ix2 x⟩
    have f0 : r.val = r'.val := e0
    have f1 : h.val * 128 + j.val = 640 + j'.val := e1
    obtain rfl : h = 5 := Fin.ext (by show h.val = 5; omega)
    obtain rfl : r = r' := Fin.ext f0
    obtain rfl : j = j' := Fin.ext (by have : (((5 : Fin 8)).val = 5) := rfl; omega)
    exact keyHead5_at _ _ r j
  · obtain ⟨r', j', rfl⟩ : ∃ (r' : Fin 512) (j' : Fin 128), x = ix2 r' j' := ⟨x 0, x 1, eq_ix2 x⟩
    have f0 : r.val = r'.val := e0
    have f1 : h.val * 128 + j.val = 512 + j'.val := e1
    obtain rfl : h = 4 := Fin.ext (by show h.val = 4; omega)
    obtain rfl : r = r' := Fin.ext f0
    obtain rfl : j = j' := Fin.ext (by have : (((4 : Fin 8)).val = 4) := rfl; omega)
    exact keyHead4_at _ _ r j
  · obtain ⟨r', j', rfl⟩ : ∃ (r' : Fin 512) (j' : Fin 128), x = ix2 r' j' := ⟨x 0, x 1, eq_ix2 x⟩
    have f0 : r.val = r'.val := e0
    have f1 : h.val * 128 + j.val = 384 + j'.val := e1
    obtain rfl : h = 3 := Fin.ext (by show h.val = 3; omega)
    obtain rfl : r = r' := Fin.ext f0
    obtain rfl : j = j' := Fin.ext (by have : (((3 : Fin 8)).val = 3) := rfl; omega)
    exact keyHead3_at _ _ r j
  · obtain ⟨r', j', rfl⟩ : ∃ (r' : Fin 512) (j' : Fin 128), x = ix2 r' j' := ⟨x 0, x 1, eq_ix2 x⟩
    have f0 : r.val = r'.val := e0
    have f1 : h.val * 128 + j.val = 256 + j'.val := e1
    obtain rfl : h = 2 := Fin.ext (by show h.val = 2; omega)
    obtain rfl : r = r' := Fin.ext f0
    obtain rfl : j = j' := Fin.ext (by have : (((2 : Fin 8)).val = 2) := rfl; omega)
    exact keyHead2_at _ _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = 128 + j'.val := e1
    obtain rfl : h = 1 := Fin.ext (by show h.val = 1; omega)
    obtain rfl : r = r' := Fin.ext f0
    obtain rfl : j = j' := Fin.ext (by have : (((1 : Fin 8)).val = 1) := rfl; omega)
    exact keyHead1_at _ _ _ _ _ _ r j
  · obtain ⟨r', j', rfl⟩ : ∃ (r' : Fin 512) (j' : Fin 128), x = ix2 r' j' := ⟨x 0, x 1, eq_ix2 x⟩
    have f0 : r.val = r'.val := e0
    have f1 : h.val * 128 + j.val = j'.val := e1
    obtain rfl : h = 0 := Fin.ext (by show h.val = 0; omega)
    obtain rfl : r = r' := Fin.ext f0
    obtain rfl : j = j' := Fin.ext (by have : (((0 : Fin 8)).val = 0) := rfl; omega)
    exact keyHead0_at _ _ _ _ _ _ r j

/-! ## Where the blocks are -/

theorem places : ∀ t : Fin cfg0.N,
    win0_0.index t = ![t.val, 8] ∧ win0_1.index t = ![0, t.val % 8, 0] ∧ win0_2.index t = ![0, t.val % 8, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val, 0]
    ∧ win0_12.index t = ![t.val, 0] ∧ win0_13.index t = ![t.val, 0] ∧ win0_14.index t = ![t.val, 0] ∧ win0_15.index t = ![0, t.val] :=
  (by decide +kernel : ∀ t : Fin grid0.N, _)

/-- Some of the latents' columns of the block. -/
theorem columns_at (c : Dev nD) (t : Fin cfg0.N) (o n : ℕ) (inb : ∀ a, (![0, o] : Fin 2 → ℕ) a + (![512, n] : Fin 2 → ℕ) a ≤ S512x768.size a)
    (r : Fin 512) (j : Fin n) (R : Fin 32768) (J : Fin 6912) (hR : R.val = t.val * 512 + r.val) (hJ : J.val = 6144 + (o + j.val)) (ho : o + n ≤ 768) :
    View.ld (show Vec Ideal S512x768 .f32 from iblk m c 0 t) (Rect.unit (s := S512x768) ![0, o] ![512, n] inb) (ix2 r j)
      = (m ((c : Thread nD τ).loc main_arg0) : FVec Ideal S32768x6912 .f32) (ix2 R J) := by
  refine (View.ld_unit_apply_of (show Vec Ideal S512x768 .f32 from iblk m c 0 t) _ _ inb (ix2 r j) (ix2 r (⟨o + j.val, by omega⟩ : Fin 768)) fun a => ?_).trans ?_
  · fin_cases a
    · exact (Nat.zero_add _).symm
    · rfl
  · blk_ext [iblk, V, places t]

/-- A table of the queries' rotation. -/
theorem queryTable_at (c : Dev nD) (t : Fin cfg0.N) (a : Fin 3) (inb : ∀ b, (![a.val, 0, 0] : Fin 3 → ℕ) b + (![1, 512, 128] : Fin 3 → ℕ) b ≤ S3x512x128.size b)
    (r : Fin 512) (j : Fin 128) (R : Fin 32768) (hR : R.val = t.val * 512 + r.val) :
    View.ld (show Vec Ideal S3x512x128 .f32 from iblk m c 1 t) (Rect.unit (s := S3x512x128) ![a.val, 0, 0] ![1, 512, 128] inb) (ix3 0 r j)
      = Ref.repeated (m ((c : Thread nD τ).loc main_arg1)) (ix3 a R j) := by
  refine (View.ld_unit_apply_of (show Vec Ideal S3x512x128 .f32 from iblk m c 1 t) _ _ inb (ix3 0 r j) (ix3 a r j) fun b => ?_).trans
    (Eq.trans ?_ (Ref.repeated_at _ a R j).symm)
  · fin_cases b
    · rfl
    · exact (Nat.zero_add _).symm
    · exact (Nat.zero_add _).symm
  · have hQ : R.val % 4096 = t.val % 8 * 512 + r.val := by omega
    blk_ext [iblk, V, places t]

/-- A table of the key's rotation. -/
theorem keyTable_at (c : Dev nD) (t : Fin cfg0.N) (a : Fin 3) (inb : ∀ b, (![a.val, 0, 0] : Fin 3 → ℕ) b + (![1, 512, 128] : Fin 3 → ℕ) b ≤ S3x512x128.size b)
    (r : Fin 512) (j : Fin 128) (R : Fin 32768) (hR : R.val = t.val * 512 + r.val) :
    View.ld (show Vec Ideal S3x512x128 .f32 from iblk m c 2 t) (Rect.unit (s := S3x512x128) ![a.val, 0, 0] ![1, 512, 128] inb) (ix3 0 r j)
      = Ref.repeated (m ((c : Thread nD τ).loc main_arg2)) (ix3 a R j) := by
  refine (View.ld_unit_apply_of (show Vec Ideal S3x512x128 .f32 from iblk m c 2 t) _ _ inb (ix3 0 r j) (ix3 a r j) fun b => ?_).trans
    (Eq.trans ?_ (Ref.repeated_at _ a R j).symm)
  · fin_cases b
    · rfl
    · exact (Nat.zero_add _).symm
    · exact (Nat.zero_add _).symm
  · have hQ : R.val % 4096 = t.val % 8 * 512 + r.val := by omega
    blk_ext [iblk, V, places t]

theorem queryGain_at (c : Dev nD) (t : Fin cfg0.N) (k : Fin 384) :
    View.ld (show Vec Ideal S1x384 .f32 from iblk m c 3 t) r0_3 (ix2 0 k) = (m ((c : Thread nD τ).loc main_arg3) : FVec Ideal S1x384 .f32) (ix2 0 k) := by
  refine (View.ld_unit_apply_of (show Vec Ideal S1x384 .f32 from iblk m c 3 t) _ _ _ (ix2 0 k) (ix2 0 k) fun b => ?_).trans ?_
  · fin_cases b <;> exact (Nat.zero_add _).symm
  · blk_ext [iblk, V, places t]

theorem queryWeight_at (c : Dev nD) (t : Fin cfg0.N) (k : Fin 384) (j : Fin 1024) :
    View.ld (show Vec Ideal S384x1024 .bf16 from iblk m c 4 t) r0_4 (ix2 k j) = (m ((c : Thread nD τ).loc main_arg4) : FVec Ideal S384x1024 .bf16) (ix2 k j) := by
  refine (View.ld_unit_apply_of (show Vec Ideal S384x1024 .bf16 from iblk m c 4 t) _ _ _ (ix2 k j) (ix2 k j) fun b => ?_).trans ?_
  · fin_cases b <;> exact (Nat.zero_add _).symm
  · blk_ext [iblk, V, places t]

theorem latentGain_at (c : Dev nD) (t : Fin cfg0.N) (k : Fin 256) :
    (show Vec Ideal S1x256 .f32 from iblk m c 5 t) (ix2 0 k) = (m ((c : Thread nD τ).loc main_arg5) : FVec Ideal S1x256 .f32) (ix2 0 k) := by
  blk_ext [iblk, V, places t]

theorem latentGainRead_at (c : Dev nD) (t : Fin cfg0.N) (k : Fin 256) :
    View.ld (show Vec Ideal S1x256 .f32 from iblk m c 5 t) r0_17 (ix2 0 k) = (m ((c : Thread nD τ).loc main_arg5) : FVec Ideal S1x256 .f32) (ix2 0 k) := by
  refine (View.ld_unit_apply_of (show Vec Ideal S1x256 .f32 from iblk m c 5 t) _ _ _ (ix2 0 k) (ix2 0 k) fun b => ?_).trans ?_
  · fin_cases b <;> exact (Nat.zero_add _).symm
  · blk_ext [iblk, V, places t]

theorem headGain_at (c : Dev nD) (t : Fin cfg0.N) (j : Fin 128) :
    View.ld (show Vec Ideal S1x128 .f32 from iblk m c 6 t) r0_8 (ix2 0 j) = (m ((c : Thread nD τ).loc main_arg6) : FVec Ideal S1x128 .f32) (ix2 0 j) := by
  refine (View.ld_unit_apply_of (show Vec Ideal S1x128 .f32 from iblk m c 6 t) _ _ _ (ix2 0 j) (ix2 0 j) fun b => ?_).trans ?_
  · fin_cases b <;> exact (Nat.zero_add _).symm
  · blk_ext [iblk, V, places t]

theorem keyWeight_at (c : Dev nD) (t : Fin cfg0.N) (k : Fin 256) (j : Fin 1024) :
    View.ld (show Vec Ideal S256x1024 .bf16 from iblk m c 7 t) r0_20 (ix2 k j) = (m ((c : Thread nD τ).loc main_arg7) : FVec Ideal S256x1024 .bf16) (ix2 k j) := by
  refine (View.ld_unit_apply_of (show Vec Ideal S256x1024 .bf16 from iblk m c 7 t) _ _ _ (ix2 k j) (ix2 k j) fun b => ?_).trans ?_
  · fin_cases b <;> exact (Nat.zero_add _).symm
  · blk_ext [iblk, V, places t]

theorem partWeight_at (c : Dev nD) (t : Fin cfg0.N) (k : Fin 128) (j : Fin 1024) :
    View.ld (show Vec Ideal S128x1024 .bf16 from iblk m c 8 t) r0_21 (ix2 k j) = (m ((c : Thread nD τ).loc main_arg8) : FVec Ideal S128x1024 .bf16) (ix2 k j) := by
  refine (View.ld_unit_apply_of (show Vec Ideal S128x1024 .bf16 from iblk m c 8 t) _ _ _ (ix2 k j) (ix2 k j) fun b => ?_).trans ?_
  · fin_cases b <;> exact (Nat.zero_add _).symm
  · blk_ext [iblk, V, places t]

theorem valueWeight_at (c : Dev nD) (t : Fin cfg0.N) (j : Fin 1024) (k : Fin 256) :
    (show Vec Ideal S1024x256 .bf16 from iblk m c 9 t) (ix2 j k) = (m ((c : Thread nD τ).loc main_arg9) : FVec Ideal S1024x256 .bf16) (ix2 j k) := by
  blk_ext [iblk, V, places t]

theorem keyGain_at (c : Dev nD) (t : Fin cfg0.N) (j : Fin 128) :
    View.ld (show Vec Ideal S1x128 .f32 from iblk m c 10 t) r0_8 (ix2 0 j) = (m ((c : Thread nD τ).loc main_arg10) : FVec Ideal S1x128 .f32) (ix2 0 j) := by
  refine (View.ld_unit_apply_of (show Vec Ideal S1x128 .f32 from iblk m c 10 t) _ _ _ (ix2 0 j) (ix2 0 j) fun b => ?_).trans ?_
  · fin_cases b <;> exact (Nat.zero_add _).symm
  · blk_ext [iblk, V, places t]

/-! ## The rows a point computes -/

/-- The latents of a row, whichever way their gain is read. -/
theorem latentRow (c : Dev nD) (t : Fin cfg0.N) (g : Vec Ideal S1x256 .f32) (hg : ∀ k, g (ix2 0 k) = (m ((c : Thread nD τ).loc main_arg5) : FVec Ideal S1x256 .f32) (ix2 0 k))
    (r : Fin 512) (k : Fin 256) (R : Fin 32768) (hR : R.val = t.val * 512 + r.val) :
    k0_pay22 (View.ld (show Vec Ideal S512x768 .f32 from iblk m c 0 t) r0_1) (k0_pay21 (View.ld (show Vec Ideal S512x768 .f32 from iblk m c 0 t) r0_1)) g (ix2 r k)
      = Ref.latents (m ((c : Thread nD τ).loc main_arg0)) (m ((c : Thread nD τ).loc main_arg5)) (ix2 R k) :=
  (latents_at _ g r k).trans (Eq.trans (congrArg₂ (fun (x : Fin 256 → EReal) (e : EReal) => rms 0x43800000#32 x e k)
    (funext fun i => columns_at m c t 384 256 _ r i R ⟨6528 + i.val, by omega⟩ hR (by dsimp only; omega) (by omega)) (hg k)) (Ref.latents_at (m ((c : Thread nD τ).loc main_arg0)) (m ((c : Thread nD τ).loc main_arg5)) R k).symm)

/-- The turned rotary part of a row. -/
theorem partRow (c : Dev nD) (t : Fin cfg0.N) (r : Fin 512) (j : Fin 128) (R : Fin 32768) (hR : R.val = t.val * 512 + r.val) :
    k0_pay23 (View.ld (show Vec Ideal S512x768 .f32 from iblk m c 0 t) r0_2) (View.ld (show Vec Ideal S3x512x128 .f32 from iblk m c 2 t) r0_5)
        (View.ld (show Vec Ideal S3x512x128 .f32 from iblk m c 2 t) r0_6) (View.ld (show Vec Ideal S3x512x128 .f32 from iblk m c 2 t) r0_7) (ix2 r j)
      = Ref.rotary (m ((c : Thread nD τ).loc main_arg0)) (m ((c : Thread nD τ).loc main_arg2)) (ix2 R j) := by
  refine (part_at _ _ _ _ r j).trans (Eq.trans ?_ (Ref.turnedPart_at (Ref.keyPart (m ((c : Thread nD τ).loc main_arg0))) (Ref.repeated (m ((c : Thread nD τ).loc main_arg2))) R j).symm)
  rw [show (fun l => View.ld (show Vec Ideal S3x512x128 .f32 from iblk m c 2 t) r0_5 (ix3 0 r l)) = _ from funext fun l => keyTable_at m c t 0 _ r l R hR,
      show (fun l => View.ld (show Vec Ideal S3x512x128 .f32 from iblk m c 2 t) r0_6 (ix3 0 r l)) = _ from funext fun l => keyTable_at m c t 1 _ r l R hR,
      show (fun l => View.ld (show Vec Ideal S3x512x128 .f32 from iblk m c 2 t) r0_7 (ix3 0 r l)) = _ from funext fun l => keyTable_at m c t 2 _ r l R hR]
  exact congrArg (fun x : Fin 128 → EReal => turn x _ _ _ j) (funext fun i =>
    (columns_at m c t 640 128 _ r i R ⟨6784 + i.val, by omega⟩ hR (by dsimp only; omega) (by omega)).trans (Ref.keyPart_at _ R i).symm)

/-! ## The five arrays -/

/-- The queries after the run. -/
theorem queries_eq (c : Dev nD) :
    (dats m 0 c).arrAt 11 cfg0.N = Ref.queries (m ((c : Thread nD τ).loc main_arg0)) (m ((c : Thread nD τ).loc main_arg1))
      (m ((c : Thread nD τ).loc main_arg3)) (m ((c : Thread nD τ).loc main_arg4)) (m ((c : Thread nD τ).loc main_arg6)) := by
  refine (dats m 0 c).arrAt_eq_of_covers 11 _ (by decide +kernel) fun t hf y => ?_
  have p := (places t).2.2.2.2.2.2.2.2.2.2.2.1
  have hN : t.val < 64 := lt_of_lt_of_eq t.isLt N_0
  blk_simp
  rw [after0_11]
  obtain ⟨r, J, rfl⟩ : ∃ (r : Fin 512) (J : Fin 1024), y = ix2 r J := ⟨y 0, y 1, eq_ix2 y⟩
  obtain ⟨h, j, rfl⟩ : ∃ (h : Fin 8) (j : Fin 128), J = ⟨h.val * 128 + j.val, by omega⟩ :=
    ⟨⟨J.val / 128, by omega⟩, ⟨J.val % 128, by omega⟩, Fin.ext (by dsimp only; omega)⟩
  have hL : t.val * 512 + r.val < 32768 := by omega
  obtain ⟨R, hR⟩ : ∃ R : Fin 32768, R.val = t.val * 512 + r.val := ⟨⟨t.val * 512 + r.val, hL⟩, rfl⟩
  refine (queries_left _ _ _ _ _ _ _ _ _ _ _ r h j).trans (Eq.trans ?_ ((Ref.finished_at (Ref.turnedHeads (Ref.heads (Ref.queryLatents (m ((c : Thread nD τ).loc main_arg0)) (m ((c : Thread nD τ).loc main_arg3))) (m ((c : Thread nD τ).loc main_arg4))) (Ref.repeated (m ((c : Thread nD τ).loc main_arg1))))
      (m ((c : Thread nD τ).loc main_arg6)) R h j).symm.trans ?_))
  · unfold headOf
    refine congrArg₂ (fun (x : Fin 128 → EReal) (g : EReal) => headRow x g j) (funext fun l => Eq.trans ?_ (Ref.turnedHeads_at _ _ R h l).symm) (headGain_at m c t j)
    rw [show (fun l => View.ld (show Vec Ideal S3x512x128 .f32 from iblk m c 1 t) r0_5 (ix3 0 r l)) = _ from funext fun l => queryTable_at m c t 0 _ r l R hR,
      show (fun l => View.ld (show Vec Ideal S3x512x128 .f32 from iblk m c 1 t) r0_6 (ix3 0 r l)) = _ from funext fun l => queryTable_at m c t 1 _ r l R hR,
      show (fun l => View.ld (show Vec Ideal S3x512x128 .f32 from iblk m c 1 t) r0_7 (ix3 0 r l)) = _ from funext fun l => queryTable_at m c t 2 _ r l R hR]
    refine congrArg (fun x : Fin 128 → EReal => turn x _ _ _ l) (funext fun i => ?_)
    refine (queries_at _ _ _ r _).trans (Eq.trans ?_ (Ref.heads_at _ _ R h i).symm)
    refine Fin.sum_fin_congr fun k => congrArg₂ (fun a b : EReal => a * b) (Eq.trans ?_ (Ref.queryLatents_at _ _ R k).symm) (queryWeight_at m c t k _)
    exact congrArg₂ (fun (x : Fin 384 → EReal) (g : EReal) => rms 0x43C00000#32 x g k)
      (funext fun i => columns_at m c t 0 384 _ r i R _ hR (by dsimp only; omega) (by omega)) (queryGain_at m c t k)
  · unfold Ref.queries
    obtain rfl : R = ⟨t.val * 512 + r.val, hL⟩ := Fin.ext hR
    blk_ext [p] <;> rfl

/-- The key and value latents after the run. -/
theorem latents_eq (c : Dev nD) : (dats m 0 c).arrAt 12 cfg0.N = Ref.latents (m ((c : Thread nD τ).loc main_arg0)) (m ((c : Thread nD τ).loc main_arg5)) := by
  refine (dats m 0 c).arrAt_eq_of_covers 12 _ (by decide +kernel) fun t hf y => ?_
  have p := (places t).2.2.2.2.2.2.2.2.2.2.2.2.1
  have hN : t.val < 64 := lt_of_lt_of_eq t.isLt N_0
  blk_simp
  rw [after0_12]
  frame_out
  obtain ⟨r, k, rfl⟩ : ∃ (r : Fin 512) (k : Fin 256), y = ix2 r k := ⟨y 0, y 1, eq_ix2 y⟩
  have hL : t.val * 512 + r.val < 32768 := by omega
  obtain ⟨R, hR⟩ : ∃ R : Fin 32768, R.val = t.val * 512 + r.val := ⟨⟨t.val * 512 + r.val, hL⟩, rfl⟩
  refine (latentRow m c t _ (latentGain_at m c t) r k R hR).trans ?_
  obtain rfl : R = ⟨t.val * 512 + r.val, hL⟩ := Fin.ext hR
  blk_ext [p] <;> rfl

/-- The rotary key after the run. -/
theorem key_eq (c : Dev nD) : (dats m 0 c).arrAt 13 cfg0.N = Ref.keyOf (Ref.rotary (m ((c : Thread nD τ).loc main_arg0)) (m ((c : Thread nD τ).loc main_arg2))) := by
  refine (dats m 0 c).arrAt_eq_of_covers 13 _ (by decide +kernel) fun t hf y => ?_
  have p := (places t).2.2.2.2.2.2.2.2.2.2.2.2.2.1
  have hN : t.val < 64 := lt_of_lt_of_eq t.isLt N_0
  blk_simp
  rw [after0_13]
  frame_out
  obtain ⟨r, j, rfl⟩ : ∃ (r : Fin 512) (j : Fin 32), y = ix2 r j := ⟨y 0, y 1, eq_ix2 y⟩
  have hL : t.val * 512 + r.val < 32768 := by omega
  obtain ⟨R, hR⟩ : ∃ R : Fin 32768, R.val = t.val * 512 + r.val := ⟨⟨t.val * 512 + r.val, hL⟩, rfl⟩
  refine (key_at _ _ _ _ r j).trans ((partRow m c t r _ R hR).trans ((Ref.keyOf_at (Ref.rotary (m ((c : Thread nD τ).loc main_arg0)) (m ((c : Thread nD τ).loc main_arg2))) R j).symm.trans ?_))
  obtain rfl : R = ⟨t.val * 512 + r.val, hL⟩ := Fin.ext hR
  blk_ext [p] <;> rfl

/-- The keys after the run. -/
theorem keys_eq (c : Dev nD) :
    (dats m 0 c).arrAt 14 cfg0.N = Ref.keys (m ((c : Thread nD τ).loc main_arg0)) (m ((c : Thread nD τ).loc main_arg2)) (m ((c : Thread nD τ).loc main_arg5))
      (m ((c : Thread nD τ).loc main_arg7)) (m ((c : Thread nD τ).loc main_arg8)) (m ((c : Thread nD τ).loc main_arg10)) := by
  refine (dats m 0 c).arrAt_eq_of_covers 14 _ (by decide +kernel) fun t hf y => ?_
  have p := (places t).2.2.2.2.2.2.2.2.2.2.2.2.2.2.1
  have hN : t.val < 64 := lt_of_lt_of_eq t.isLt N_0
  blk_simp
  rw [after0_14]
  obtain ⟨r, J, rfl⟩ : ∃ (r : Fin 512) (J : Fin 1024), y = ix2 r J := ⟨y 0, y 1, eq_ix2 y⟩
  obtain ⟨h, j, rfl⟩ : ∃ (h : Fin 8) (j : Fin 128), J = ⟨h.val * 128 + j.val, by omega⟩ :=
    ⟨⟨J.val / 128, by omega⟩, ⟨J.val % 128, by omega⟩, Fin.ext (by dsimp only; omega)⟩
  have hL : t.val * 512 + r.val < 32768 := by omega
  obtain ⟨R, hR⟩ : ∃ R : Fin 32768, R.val = t.val * 512 + r.val := ⟨⟨t.val * 512 + r.val, hL⟩, rfl⟩
  refine (keys_left _ _ _ _ _ _ _ _ _ _ _ r h j).trans (Eq.trans ?_ ((Ref.finished_at (Ref.keyHeads (Ref.latents (m ((c : Thread nD τ).loc main_arg0)) (m ((c : Thread nD τ).loc main_arg5))) (Ref.rotary (m ((c : Thread nD τ).loc main_arg0)) (m ((c : Thread nD τ).loc main_arg2)))
      (m ((c : Thread nD τ).loc main_arg7)) (m ((c : Thread nD τ).loc main_arg8))) (m ((c : Thread nD τ).loc main_arg10)) R h j).symm.trans ?_))
  · unfold keyHead
    refine (congrArg₂ (fun (x : Fin 128 → EReal) (g : EReal) => headRow x g j) (funext fun l => (keys_at _ _ _ _ _ _ _ _ r _).trans ?_) (keyGain_at m c t j)).trans
      ((headRow_split (fun l => ∑ k : Fin 256, Ref.latents (m ((c : Thread nD τ).loc main_arg0)) (m ((c : Thread nD τ).loc main_arg5)) (ix2 R k) * (m ((c : Thread nD τ).loc main_arg7)) (ix2 k ⟨h.val * 128 + l.val, by omega⟩))
        (fun k => Ref.rotary (m ((c : Thread nD τ).loc main_arg0)) (m ((c : Thread nD τ).loc main_arg2)) (ix2 R k)) (fun k l => (m ((c : Thread nD τ).loc main_arg8)) (ix2 k ⟨h.val * 128 + l.val, by omega⟩)) _ j).trans ?_)
    · exact congrArg₂ (fun a b : EReal => a + b) (congrArg₂ (fun a b : EReal => a + b)
        (Fin.sum_fin_congr fun k => congrArg₂ (fun a b : EReal => a * b) (latentRow m c t _ (latentGainRead_at m c t) r k R hR) (keyWeight_at m c t k _))
        (Fin.sum_fin_congr fun k => congrArg₂ (fun a b : EReal => a * b) (partRow m c t r k R hR) (partWeight_at m c t k _)))
        (Fin.sum_fin_congr fun k => congrArg₂ (fun a b : EReal => (a - a) * b) (partRow m c t r k R hR) (partWeight_at m c t k _))
    · exact congrArg (fun x : Fin 128 → EReal => headRow x _ j) (funext fun l => (Ref.keyHeads_at _ _ _ _ R h l).symm)
  · unfold Ref.keys
    obtain rfl : R = ⟨t.val * 512 + r.val, hL⟩ := Fin.ext hR
    blk_ext [p] <;> rfl

/-- The values after the run. -/
theorem values_eq (c : Dev nD) : (dats m 0 c).arrAt 15 cfg0.N = Ref.withOnes (Ref.valueHeads (Ref.latents (m ((c : Thread nD τ).loc main_arg0)) (m ((c : Thread nD τ).loc main_arg5))) (m ((c : Thread nD τ).loc main_arg9))) := by
  refine (dats m 0 c).arrAt_eq_of_covers 15 _ (by decide +kernel) fun t hf y => ?_
  have p := (places t).2.2.2.2.2.2.2.2.2.2.2.2.2.2.2
  have hN : t.val < 64 := lt_of_lt_of_eq t.isLt N_0
  blk_simp
  rw [after0_15]
  frame_out
  obtain ⟨J, r, rfl⟩ : ∃ (J : Fin 1024) (r : Fin 512), y = ix2 J r := ⟨y 0, y 1, eq_ix2 y⟩
  obtain ⟨h, j, rfl⟩ : ∃ (h : Fin 8) (j : Fin 128), J = ⟨h.val * 128 + j.val, by omega⟩ :=
    ⟨⟨J.val / 128, by omega⟩, ⟨J.val % 128, by omega⟩, Fin.ext (by dsimp only; omega)⟩
  have hL : t.val * 512 + r.val < 32768 := by omega
  obtain ⟨R, hR⟩ : ∃ R : Fin 32768, R.val = t.val * 512 + r.val := ⟨⟨t.val * 512 + r.val, hL⟩, rfl⟩
  refine (values_at _ _ _ h j r).trans (Eq.trans ?_ ((Ref.withOnes_at (Ref.valueHeads (Ref.latents (m ((c : Thread nD τ).loc main_arg0)) (m ((c : Thread nD τ).loc main_arg5))) (m ((c : Thread nD τ).loc main_arg9))) h j R).symm.trans ?_))
  · refine if_congr Iff.rfl rfl (Eq.trans ?_ (Ref.valueHeads_at _ _ h j R).symm)
    exact Fin.sum_fin_congr fun k => congrArg₂ (fun a b : EReal => a * b) (valueWeight_at m c t _ k) (latentRow m c t _ (latentGain_at m c t) r k R hR)
  · obtain rfl : R = ⟨t.val * 512 + r.val, hL⟩ := Fin.ext hR
    blk_ext [p] <;> rfl

end Cert.Expand

end
-- ==== Proof.MixBlock.lean ====
/-
  The sample's merge, its body's blocks read at an index: sequences of eight rows stand one under another, and a row's two
  predecessors come from turning the block's rows by one and by two, or from the state where that leaves the sequence.
-/
module

public import proofs.«01_k».proof.Proof.Gen.MixIdeal.Skeleton
public import Idealize.ShloMosaic.Lib.Pointwise

@[expose] public section

set_option maxRecDepth 8192

noncomputable section

namespace Cert.Mix

open Cert.MixIdeal Cert.MixIdeal.Gen Idealize.ShloMosaic Idealize.ShloMosaic.TcCoe

/-- The kernel's place of a row in its sequence, as its integer operations say it. -/
def place (n : ℕ) : BitVec 32 :=
  Scalar.select
    (IntOp.andi (IntOp.xori (IntOp.cmpi CmpIPredicate.slt (IntOp.remsi ArithUnit.vector (BitVec.ofNat 32 n) (Scalar.select (Scalar.cmpi CmpIPredicate.eq 8#32 0#32) 1#32 8#32)) 0#32) (Scalar.cmpi CmpIPredicate.slt (Scalar.select (Scalar.cmpi CmpIPredicate.eq 8#32 0#32) 1#32 8#32) 0#32))
      (IntOp.cmpi CmpIPredicate.ne (IntOp.remsi ArithUnit.vector (BitVec.ofNat 32 n) (Scalar.select (Scalar.cmpi CmpIPredicate.eq 8#32 0#32) 1#32 8#32)) 0#32))
    (IntOp.addi (IntOp.remsi ArithUnit.vector (BitVec.ofNat 32 n) (Scalar.select (Scalar.cmpi CmpIPredicate.eq 8#32 0#32) 1#32 8#32)) (Scalar.select (Scalar.cmpi CmpIPredicate.eq 8#32 0#32) 1#32 8#32))
    (IntOp.remsi ArithUnit.vector (BitVec.ofNat 32 n) (Scalar.select (Scalar.cmpi CmpIPredicate.eq 8#32 0#32) 1#32 8#32))

theorem first_iff : ∀ r : Fin 512, IntOp.cmpi CmpIPredicate.eq (place r.val) 0#32 = if r.val % 8 = 0 then 1#1 else 0#1 := by
  decide +kernel

theorem second_iff : ∀ r : Fin 512, IntOp.cmpi CmpIPredicate.eq (place r.val) 1#32 = if r.val % 8 = 1 then 1#1 else 0#1 := by
  decide +kernel

theorem first_at (r k : Fin 512) : k0_pay5 (ix2 r k) = if r.val % 8 = 0 then 1#1 else 0#1 := by
  refine Eq.trans ?_ (first_iff r)
  pointwise [k0_pay5, k0_pay3]
  rfl

theorem second_at (r k : Fin 512) : k0_pay6 (ix2 r k) = if r.val % 8 = 1 then 1#1 else 0#1 := by
  refine Eq.trans ?_ (second_iff r)
  pointwise [k0_pay6, k0_pay3]
  rfl

theorem input_at (c h : Vec Ideal S512x512 .f32) (r k : Fin 512) : k0_pay2 c h (ix2 r k) = c (ix2 r k) * h (ix2 r k) := by
  pointwise [k0_pay2]

/-- The row before: of the state at a sequence's first row. -/
theorem before_at (c h s : Vec Ideal S512x512 .f32) (r k : Fin 512) :
    k0_pay4 c h s (ix2 r k) = if r.val % 8 = 0 then s (ix2 r k) else k0_pay2 c h (ix2 ⟨(r.val + 512 - 1) % 512, by omega⟩ k) := by
  have one : k0_pay4 c h s (ix2 r k) = Scalar.select (k0_pay5 (ix2 r k)) (s (ix2 r k)) (k0_pay2 c h (ix2 ⟨(r.val + 512 - 1) % 512, by omega⟩ k)) := by
    pointwise [k0_pay4, k0_pay5]
  rw [one, first_at]
  split_ifs <;> rfl

/-- Two rows before: of the state at a sequence's first two rows. -/
def before2 (u s0 s1 : Vec Ideal S512x512 .f32) (r k : Fin 512) : EReal :=
  if r.val % 8 = 0 then s0 (ix2 r k) else if r.val % 8 = 1 then s1 (ix2 r k) else u (ix2 ⟨(r.val + 512 - 2) % 512, by omega⟩ k)

theorem gated_at (cb u v s0 s1 : Vec Ideal S512x512 .f32) (w0 w1 w2 : Vec Ideal S1x512 .f32) (wa : Vec Ideal S512x1024 .bf16)
    (b : Vec Ideal S512x512 .bf16) (wb : Vec Ideal S512x1024 .bf16) (d : Vec Ideal S512x512 .bf16) (wd : Vec Ideal S512x1024 .bf16)
    (g0 g1 g2 : Vec Ideal S512x1024 .f32) (r : Fin 512) (j : Fin 1024) :
    k0_pay7 cb u v k0_pay5 s0 k0_pay6 s1 2#32 w0 w1 w2 wa b wb d wd g0 g1 g2 (ix2 r j)
      = Ideal.logistic (g0 (ix2 r j)) * (∑ k : Fin 512, cb (ix2 r k)
          * (before2 u s0 s1 r k * w0 (ix2 0 k) + v (ix2 r k) * w1 (ix2 0 k) + u (ix2 r k) * w2 (ix2 0 k)) * wa (ix2 k j))
        + Ideal.logistic (g1 (ix2 r j)) * (∑ k : Fin 512, b (ix2 r k) * wb (ix2 k j))
        + Ideal.logistic (g2 (ix2 r j)) * (∑ k : Fin 512, d (ix2 r k) * wd (ix2 k j)) := by
  have two : ∀ k : Fin 512, Scalar.select (k0_pay5 (ix2 r k)) (s0 (ix2 r k)) (Scalar.select (k0_pay6 (ix2 r k)) (s1 (ix2 r k))
      (u (ix2 ⟨(r.val + 512 - 2) % 512, by omega⟩ k))) = before2 u s0 s1 r k := by
    intro k
    rw [first_at, second_at, before2]
    split_ifs <;> rfl
  simp only [← two]
  pointwise [k0_pay7]

theorem added_at (s x : Vec Ideal S512x1024 .f32) (wo : Vec Ideal S1024x1024 .bf16) (r : Fin 512) (e : Fin 1024) :
    k0_pay1 s x wo (ix2 r e) = x (ix2 r e) + ∑ j : Fin 1024, s (ix2 r j) * wo (ix2 j e) := by
  pointwise [k0_pay1]

end Cert.Mix

end
-- ==== Proof.MixReference.lean ====
/-
  The reference of the sample's merge, read at an index: the gated inputs as sequences of eight rows, the rows before them
  with the state's in front, their short convolution, the gates, the branches' gated sum and the stream it is added to.
-/
module

public import proofs.«01_k».proof.Proof.Gen.MixReferenceIdeal.Run
public import Idealize.ShloMosaic.Lib.Pointwise

@[expose] public section

set_option maxRecDepth 8192

noncomputable section

namespace Cert.Mix.Ref

open Cert.MixReferenceIdeal Cert.MixReferenceIdeal.Gen Idealize.ShloMosaic Idealize.ShloMosaic.TcCoe

/-- The gated inputs, by sequence. -/
def inputs (z : FVec Ideal S1024x6912 .f32) : FVec Ideal S128x8x512 .f32 :=
  shapeCast _ (mulf (extractStridedSlice S1024x512 ![0, 512] z slices_S1024x6912_S1024x512_0_512) (extractStridedSlice S1024x512 ![0, 1024] z slices_S1024x6912_S1024x512_0_1024)) shapeCasts_S1024x512_S128x8x512

/-- The gated inputs as rows again: the second result. -/
def flat (u : FVec Ideal S128x8x512 .f32) : FVec Ideal S1024x512 .f32 := shapeCast _ u shapeCasts_S128x8x512_S1024x512

/-- Each row's last but one. -/
def two (s0 s1 : FVec Ideal S1024x512 .f32) (u : FVec Ideal S128x8x512 .f32) : FVec Ideal S128x8x512 .f32 :=
  concatenate S128x8x512 1 [⟨S128x1x512, (extractStridedSlice S128x1x512 ![0, 0, 0] (shapeCast S128x8x512 s0 shapeCasts_S1024x512_S128x8x512) slices_S128x8x512_S128x1x512_0_0_0)⟩, ⟨S128x1x512, (extractStridedSlice S128x1x512 ![0, 1, 0] (shapeCast S128x8x512 s1 shapeCasts_S1024x512_S128x8x512) slices_S128x8x512_S128x1x512_0_1_0)⟩, ⟨S128x6x512, (extractStridedSlice S128x6x512 ![0, 0, 0] u slices_S128x8x512_S128x6x512_0_0_0)⟩] concatenates_S128x1x512_S128x1x512_S128x6x512_S128x8x512_d1

/-- Each row's last. -/
def one (s1 : FVec Ideal S1024x512 .f32) (u : FVec Ideal S128x8x512 .f32) : FVec Ideal S128x8x512 .f32 :=
  concatenate S128x8x512 1 [⟨S128x1x512, (extractStridedSlice S128x1x512 ![0, 0, 0] (shapeCast S128x8x512 s1 shapeCasts_S1024x512_S128x8x512) slices_S128x8x512_S128x1x512_0_0_0)⟩, ⟨S128x7x512, (extractStridedSlice S128x7x512 ![0, 0, 0] u slices_S128x8x512_S128x7x512_0_0_0)⟩] concatenates_S128x1x512_S128x7x512_S128x8x512_d1

/-- The convolution of width three. -/
def conv (v w u : FVec Ideal S128x8x512 .f32) (wc : FVec Ideal S8x512 .f32) : FVec Ideal S128x8x512 .f32 :=
  addf (addf (mulf v (broadcastInDim S128x8x512 ![0, 1, 2] bcast_S1x1x512_S128x8x512_0_1_2 (broadcastInDim S1x1x512 ![2] bcast_S512_S1x1x512_2 (shapeCast _ (extractStridedSlice S1x512 ![0, 0] wc slices_S8x512_S1x512_0_0) shapeCasts_S1x512_S512)))) (mulf w (broadcastInDim S128x8x512 ![0, 1, 2] bcast_S1x1x512_S128x8x512_0_1_2 (broadcastInDim S1x1x512 ![2] bcast_S512_S1x1x512_2 (shapeCast _ (extractStridedSlice S1x512 ![1, 0] wc slices_S8x512_S1x512_1_0) shapeCasts_S1x512_S512))))) (mulf u (broadcastInDim S128x8x512 ![0, 1, 2] bcast_S1x1x512_S128x8x512_0_1_2 (broadcastInDim S1x1x512 ![2] bcast_S512_S1x1x512_2 (shapeCast _ (extractStridedSlice S1x512 ![2, 0] wc slices_S8x512_S1x512_2_0) shapeCasts_S1x512_S512))))

/-- The gates of the three branches. -/
def gates (z : FVec Ideal S1024x6912 .f32) : FVec Ideal S1024x3072 .f32 :=
  Host.divf (broadcastInDim S1024x3072 ![] bcast_S_S1024x3072 (constant S_ .f32 0x3F800000#32)) (addf (broadcastInDim S1024x3072 ![] bcast_S_S1024x3072 (constant S_ .f32 0x3F800000#32)) (Host.exp (Host.negf (extractStridedSlice S1024x3072 ![0, 3072] z slices_S1024x6912_S1024x3072_0_3072))))

/-- The convolution's branch before its projection. -/
def branch (z : FVec Ideal S1024x6912 .f32) (v : FVec Ideal S128x8x512 .f32) : FVec Ideal S1024x512 .f32 :=
  mulf (extractStridedSlice S1024x512 ![0, 0] z slices_S1024x6912_S1024x512_0_0) (shapeCast _ v shapeCasts_S128x8x512_S1024x512)

/-- The gated sum of the three branches, each through its projection. -/
def gated (g : FVec Ideal S1024x3072 .f32) (a : FVec Ideal S1024x512 .f32) (b d : FVec Ideal S1024x512 .bf16)
    (wa wb wd : FVec Ideal S512x1024 .bf16) : FVec Ideal S1024x1024 .f32 :=
  addf (addf (mulf (extractStridedSlice S1024x1024 ![0, 0] g slices_S1024x3072_S1024x1024_0_0) (Host.dotGeneral dot_S1024x512_S512x1024_S1024x1024_1_0_0_1_n_n none a (extf .f32 wa bitsLt_bf16_f32))) (mulf (extractStridedSlice S1024x1024 ![0, 1024] g slices_S1024x3072_S1024x1024_0_1024) (Host.dotGeneral dot_S1024x512_S512x1024_S1024x1024_1_0_0_1_n_n none (extf .f32 b bitsLt_bf16_f32) (extf .f32 wb bitsLt_bf16_f32)))) (mulf (extractStridedSlice S1024x1024 ![0, 2048] g slices_S1024x3072_S1024x1024_0_2048) (Host.dotGeneral dot_S1024x512_S512x1024_S1024x1024_1_0_0_1_n_n none (extf .f32 d bitsLt_bf16_f32) (extf .f32 wd bitsLt_bf16_f32)))

/-- The stream with the branches' sum projected and added. -/
def added (x s : FVec Ideal S1024x1024 .f32) (wo : FVec Ideal S1024x1024 .bf16) : FVec Ideal S1024x1024 .f32 :=
  addf x (Host.dotGeneral dot_S1024x1024_S1024x1024_S1024x1024_1_0_0_1_n_n none s (extf .f32 wo bitsLt_bf16_f32))

/-- The convolved rows, from the projected stream, the state and the weights. -/
def convolved (z : FVec Ideal S1024x6912 .f32) (s0 s1 : FVec Ideal S1024x512 .f32) (wc : FVec Ideal S8x512 .f32) : FVec Ideal S128x8x512 .f32 :=
  conv (two s0 s1 (inputs z)) (one s1 (inputs z)) (inputs z) wc

/-- The reference's merged stream, from all its arguments. -/
def merged (z : FVec Ideal S1024x6912 .f32) (b d : FVec Ideal S1024x512 .bf16) (x : FVec Ideal S1024x1024 .f32) (s0 s1 : FVec Ideal S1024x512 .f32)
    (wc : FVec Ideal S8x512 .f32) (wa wb wd : FVec Ideal S512x1024 .bf16) (wo : FVec Ideal S1024x1024 .bf16) : FVec Ideal S1024x1024 .f32 :=
  added x (gated (gates z) (branch z (convolved z s0 s1 wc)) b d wa wb wd) wo

/-- The reference's first result is `merged` of its arguments. -/
theorem result_eq (m : (ℓ : Loc nD τ sig) → Buf (Elt Ideal) ℓ) (c : Dev nD) :
    Value.res_main_v58 m c = merged (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := rfl

/-- An entry of the gated inputs. -/
abbrev input (z : FVec Ideal S1024x6912 .f32) (R : Fin 1024) (k : Fin 512) : EReal :=
  z (ix2 R ⟨512 + k.val, by omega⟩) * z (ix2 R ⟨1024 + k.val, by omega⟩)

theorem inputs_at (z : FVec Ideal S1024x6912 .f32) (R : Fin 1024) (b : Fin 128) (p : Fin 8) (k : Fin 512) (hR : R.val = b.val * 8 + p.val) :
    inputs z (ix3 b p k) = input z R k := by
  rw [show R = ⟨b.val * 8 + p.val, by omega⟩ from Fin.ext hR]
  pointwise [inputs]

theorem flat_at (z : FVec Ideal S1024x6912 .f32) (R : Fin 1024) (k : Fin 512) : flat (inputs z) (ix2 R k) = input z R k := by
  have by_rows : flat (inputs z) (ix2 R k) = inputs z (ix3 ⟨R.val / 8, by omega⟩ ⟨R.val % 8, by omega⟩ k) := by pointwise [flat]
  exact by_rows.trans (inputs_at z R _ _ k (by dsimp only; omega))

/-- The row before a sequence's first is the state's second. -/
theorem one_state (s1 : FVec Ideal S1024x512 .f32) (u : FVec Ideal S128x8x512 .f32) (R : Fin 1024) (b : Fin 128) (p : Fin 8) (k : Fin 512)
    (hR : R.val = b.val * 8 + p.val) (hp : p.val < 1) : one s1 u (ix3 b p k) = s1 (ix2 R k) := by
  rw [show R = ⟨b.val * 8 + p.val, by omega⟩ from Fin.ext hR]
  pointwise [one, hp]

theorem one_input (s1 : FVec Ideal S1024x512 .f32) (u : FVec Ideal S128x8x512 .f32) (b : Fin 128) (p : Fin 8) (k : Fin 512)
    (hp : ¬p.val < 1) : one s1 u (ix3 b p k) = u (ix3 b ⟨p.val - 1, by omega⟩ k) := by
  pointwise [one, hp]

theorem two_first (s0 s1 : FVec Ideal S1024x512 .f32) (u : FVec Ideal S128x8x512 .f32) (R : Fin 1024) (b : Fin 128) (p : Fin 8) (k : Fin 512)
    (hR : R.val = b.val * 8 + p.val) (hp : p.val < 1) : two s0 s1 u (ix3 b p k) = s0 (ix2 R k) := by
  rw [show R = ⟨b.val * 8 + p.val, by omega⟩ from Fin.ext hR]
  pointwise [two, hp]

theorem two_second (s0 s1 : FVec Ideal S1024x512 .f32) (u : FVec Ideal S128x8x512 .f32) (R : Fin 1024) (b : Fin 128) (p : Fin 8) (k : Fin 512)
    (hR : R.val = b.val * 8 + p.val) (hp : ¬p.val < 1) (hp' : p.val - 1 < 1) : two s0 s1 u (ix3 b p k) = s1 (ix2 R k) := by
  have e : (⟨b.val * 8 + (1 + (p.val - 1)), by omega⟩ : Fin 1024) = R := Fin.ext (by dsimp only; omega)
  have at_rows : two s0 s1 u (ix3 b p k) = s1 (ix2 ⟨b.val * 8 + (1 + (p.val - 1)), by omega⟩ k) := by pointwise [two, hp, hp']
  rw [at_rows, e]

theorem two_input (s0 s1 : FVec Ideal S1024x512 .f32) (u : FVec Ideal S128x8x512 .f32) (b : Fin 128) (p : Fin 8) (k : Fin 512)
    (hp : ¬p.val < 1) (hp' : ¬p.val - 1 < 1) : two s0 s1 u (ix3 b p k) = u (ix3 b ⟨p.val - 1 - 1, by omega⟩ k) := by
  pointwise [two, hp, hp']

theorem conv_at (v w u : FVec Ideal S128x8x512 .f32) (wc : FVec Ideal S8x512 .f32) (b : Fin 128) (p : Fin 8) (k : Fin 512) :
    conv v w u wc (ix3 b p k) = v (ix3 b p k) * wc (ix2 0 k) + w (ix3 b p k) * wc (ix2 1 k) + u (ix3 b p k) * wc (ix2 2 k) := by
  pointwise [conv]

theorem gates_at (z : FVec Ideal S1024x6912 .f32) (R : Fin 1024) (j : Fin 3072) :
    gates z (ix2 R j) = Ideal.logistic (z (ix2 R ⟨3072 + j.val, by omega⟩)) := by
  pointwise [gates]
  rfl

theorem branch_at (z : FVec Ideal S1024x6912 .f32) (v : FVec Ideal S128x8x512 .f32) (R : Fin 1024) (k : Fin 512) :
    branch z v (ix2 R k) = z (ix2 R ⟨k.val, by omega⟩) * v (ix3 ⟨R.val / 8, by omega⟩ ⟨R.val % 8, by omega⟩ k) := by
  pointwise [branch]

theorem gated_at (g : FVec Ideal S1024x3072 .f32) (a : FVec Ideal S1024x512 .f32) (b d : FVec Ideal S1024x512 .bf16)
    (wa wb wd : FVec Ideal S512x1024 .bf16) (R j : Fin 1024) :
    gated g a b d wa wb wd (ix2 R j) = g (ix2 R ⟨j.val, by omega⟩) * (∑ k : Fin 512, a (ix2 R k) * wa (ix2 k j))
      + g (ix2 R ⟨1024 + j.val, by omega⟩) * (∑ k : Fin 512, b (ix2 R k) * wb (ix2 k j))
      + g (ix2 R ⟨2048 + j.val, by omega⟩) * (∑ k : Fin 512, d (ix2 R k) * wd (ix2 k j)) := by
  pointwise [gated]

theorem added_at (x s : FVec Ideal S1024x1024 .f32) (wo : FVec Ideal S1024x1024 .bf16) (R e : Fin 1024) :
    added x s wo (ix2 R e) = x (ix2 R e) + ∑ j : Fin 1024, s (ix2 R j) * wo (ix2 j e) := by
  pointwise [added]

end Cert.Mix.Ref

end
-- ==== Proof.MixArray.lean ====
/-
  The two arrays the sample's merge leaves are the reference's of its arguments. A block holds whole sequences of eight rows,
  so a row's predecessors in its sequence are in its own block.
-/
module

public import proofs.«01_k».proof.Proof.Gen.MixIdeal.Value
public import proofs.«01_k».proof.Proof.MixBlock
public import proofs.«01_k».proof.Proof.MixReference
public import Idealize.ShloMosaic.Lib.Pipeline.ValueKit

@[expose] public section

set_option maxRecDepth 16384

noncomputable section

namespace Cert.Mix

open Idealize.ShloMosaic Idealize.ShloMosaic.TcCoe Idealize.SL.Sem
open Idealize.ShloMosaic.Pipeline (Dat)
open Cert.MixIdeal Cert.MixIdeal.Gen

variable (m : (ℓ : Loc nD τ sig) → Buf (Elt Ideal) ℓ)

/-! ## Where the blocks are -/

theorem places : ∀ t : Fin cfg0.N,
    win0_0.index t = ![t.val, 0] ∧ win0_1.index t = ![t.val, 1] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0]
    ∧ win0_8.index t = ![0, 0] ∧ win0_9.index t = ![0, 0] ∧ win0_10.index t = ![0, 0] ∧ win0_11.index t = ![0, 0]
    ∧ win0_12.index t = ![t.val, 0] ∧ win0_13.index t = ![t.val, 0] :=
  (by decide +kernel : ∀ t : Fin grid0.N, _)

/-- The projected stream. -/
abbrev zOf (c : Dev nD) : FVec Ideal S1024x6912 .f32 := m ((c : Thread nD τ).loc main_arg0)

/-- The state's first rows, and its second rows. -/
abbrev s0Of (c : Dev nD) : FVec Ideal S1024x512 .f32 := m ((c : Thread nD τ).loc main_arg4)
abbrev s1Of (c : Dev nD) : FVec Ideal S1024x512 .f32 := m ((c : Thread nD τ).loc main_arg5)

theorem conv_block (c : Dev nD) (t : Fin cfg0.N) (r : Fin 512) (j : Fin 1536) (R : Fin 1024) (J : Fin 6912)
    (hR : R.val = t.val * 512 + r.val) (hJ : J.val = j.val) :
    (show Vec Ideal S512x1536 .f32 from X0_0 m c t) (ix2 r j) = zOf m c (ix2 R J) := by
  show X0_0 m c t (ix2 r j) = _
  unfold X0_0 Pipeline.Window.fill
  rw [dif_pos (moved0_0 t _)]
  blk_ext [iblk, V, places t]

theorem gate_block (c : Dev nD) (t : Fin cfg0.N) (r : Fin 512) (j : Fin 3072) (R : Fin 1024) (J : Fin 6912)
    (hR : R.val = t.val * 512 + r.val) (hJ : J.val = 3072 + j.val) :
    (show Vec Ideal S512x3072 .f32 from X0_1 m c t) (ix2 r j) = zOf m c (ix2 R J) := by
  show X0_1 m c t (ix2 r j) = _
  unfold X0_1 Pipeline.Window.fill
  rw [dif_pos (moved0_1 t _)]
  blk_ext [iblk, V, places t]

theorem latent_block (c : Dev nD) (t : Fin cfg0.N) (r k : Fin 512) (R : Fin 1024) (hR : R.val = t.val * 512 + r.val) :
    (show Vec Ideal S512x512 .bf16 from iblk m c 2 t) (ix2 r k) = (m ((c : Thread nD τ).loc main_arg1) : FVec Ideal S1024x512 .bf16) (ix2 R k) := by
  blk_ext [iblk, V, places t]

theorem retention_block (c : Dev nD) (t : Fin cfg0.N) (r k : Fin 512) (R : Fin 1024) (hR : R.val = t.val * 512 + r.val) :
    (show Vec Ideal S512x512 .bf16 from iblk m c 3 t) (ix2 r k) = (m ((c : Thread nD τ).loc main_arg2) : FVec Ideal S1024x512 .bf16) (ix2 R k) := by
  blk_ext [iblk, V, places t]

theorem stream_block (c : Dev nD) (t : Fin cfg0.N) (r : Fin 512) (e R : Fin 1024) (hR : R.val = t.val * 512 + r.val) :
    (show Vec Ideal S512x1024 .f32 from iblk m c 4 t) (ix2 r e) = (m ((c : Thread nD τ).loc main_arg3) : FVec Ideal S1024x1024 .f32) (ix2 R e) := by
  blk_ext [iblk, V, places t]

theorem state0_block (c : Dev nD) (t : Fin cfg0.N) (r k : Fin 512) (R : Fin 1024) (hR : R.val = t.val * 512 + r.val) :
    (show Vec Ideal S512x512 .f32 from iblk m c 5 t) (ix2 r k) = s0Of m c (ix2 R k) := by
  blk_ext [iblk, V, places t]

theorem state1_block (c : Dev nD) (t : Fin cfg0.N) (r k : Fin 512) (R : Fin 1024) (hR : R.val = t.val * 512 + r.val) :
    (show Vec Ideal S512x512 .f32 from iblk m c 6 t) (ix2 r k) = s1Of m c (ix2 R k) := by
  blk_ext [iblk, V, places t]

theorem taps_block (c : Dev nD) (t : Fin cfg0.N) (r : Fin 8) (k : Fin 512) :
    (show Vec Ideal S8x512 .f32 from iblk m c 7 t) (ix2 r k) = (m ((c : Thread nD τ).loc main_arg6) : FVec Ideal S8x512 .f32) (ix2 r k) := by
  blk_ext [iblk, V, places t]

theorem convWeight_block (c : Dev nD) (t : Fin cfg0.N) (k : Fin 512) (j : Fin 1024) :
    (show Vec Ideal S512x1024 .bf16 from iblk m c 8 t) (ix2 k j) = (m ((c : Thread nD τ).loc main_arg7) : FVec Ideal S512x1024 .bf16) (ix2 k j) := by
  blk_ext [iblk, V, places t]

theorem latentWeight_block (c : Dev nD) (t : Fin cfg0.N) (k : Fin 512) (j : Fin 1024) :
    (show Vec Ideal S512x1024 .bf16 from iblk m c 9 t) (ix2 k j) = (m ((c : Thread nD τ).loc main_arg8) : FVec Ideal S512x1024 .bf16) (ix2 k j) := by
  blk_ext [iblk, V, places t]

theorem retentionWeight_block (c : Dev nD) (t : Fin cfg0.N) (k : Fin 512) (j : Fin 1024) :
    (show Vec Ideal S512x1024 .bf16 from iblk m c 10 t) (ix2 k j) = (m ((c : Thread nD τ).loc main_arg9) : FVec Ideal S512x1024 .bf16) (ix2 k j) := by
  blk_ext [iblk, V, places t]

theorem outWeight_block (c : Dev nD) (t : Fin cfg0.N) (j e : Fin 1024) :
    (show Vec Ideal S1024x1024 .bf16 from iblk m c 11 t) (ix2 j e) = (m ((c : Thread nD τ).loc main_arg10) : FVec Ideal S1024x1024 .bf16) (ix2 j e) := by
  blk_ext [iblk, V, places t]

/-! ## The rows a point convolves -/

/-- The gated inputs of a point's block. -/
abbrev ins (c : Dev nD) (t : Fin cfg0.N) : Vec Ideal S512x512 .f32 :=
  k0_pay2 (View.ld (X0_0 m c t) (Rect.unit ![0, 512] ![512, 512] inb_S512x1536_S512x512_0_512))
    (View.ld (X0_0 m c t) (Rect.unit ![0, 1024] ![512, 512] inb_S512x1536_S512x512_0_1024))

/-- A third of the convolution's columns of the block. -/
theorem third_at (c : Dev nD) (t : Fin cfg0.N) (o : ℕ) (inb : ∀ a, (![0, o] : Fin 2 → ℕ) a + (![512, 512] : Fin 2 → ℕ) a ≤ S512x1536.size a)
    (r k : Fin 512) (R : Fin 1024) (J : Fin 6912) (hR : R.val = t.val * 512 + r.val) (hJ : J.val = o + k.val) (ho : o ≤ 1024) :
    View.ld (show Vec Ideal S512x1536 .f32 from X0_0 m c t) (Rect.unit (s := S512x1536) ![0, o] ![512, 512] inb) (ix2 r k) = zOf m c (ix2 R J) := by
  refine (View.ld_unit_apply_of (show Vec Ideal S512x1536 .f32 from X0_0 m c t) _ _ inb (ix2 r k) (ix2 r (⟨o + k.val, by omega⟩ : Fin 1536)) fun a => ?_).trans
    (conv_block m c t r ⟨o + k.val, by omega⟩ R J hR hJ)
  fin_cases a
  · exact (Nat.zero_add _).symm
  · rfl

/-- A third of the gates of the block. -/
theorem gate_at (c : Dev nD) (t : Fin cfg0.N) (o : ℕ) (inb : ∀ a, (![0, o] : Fin 2 → ℕ) a + (![512, 1024] : Fin 2 → ℕ) a ≤ S512x3072.size a)
    (r : Fin 512) (j R : Fin 1024) (J : Fin 6912) (hR : R.val = t.val * 512 + r.val) (hJ : J.val = 3072 + (o + j.val)) (ho : o ≤ 2048) :
    View.ld (show Vec Ideal S512x3072 .f32 from X0_1 m c t) (Rect.unit (s := S512x3072) ![0, o] ![512, 1024] inb) (ix2 r j) = zOf m c (ix2 R J) := by
  refine (View.ld_unit_apply_of (show Vec Ideal S512x3072 .f32 from X0_1 m c t) _ _ inb (ix2 r j) (ix2 r (⟨o + j.val, by omega⟩ : Fin 3072)) fun a => ?_).trans
    (gate_block m c t r ⟨o + j.val, by omega⟩ R J hR hJ)
  fin_cases a
  · exact (Nat.zero_add _).symm
  · rfl

/-- A row of the convolution's weights. -/
theorem tap_at (c : Dev nD) (t : Fin cfg0.N) (o : Fin 8) (inb : ∀ a, (![o.val, 0] : Fin 2 → ℕ) a + (![1, 512] : Fin 2 → ℕ) a ≤ S8x512.size a) (k : Fin 512) :
    View.ld (show Vec Ideal S8x512 .f32 from iblk m c 7 t) (Rect.unit (s := S8x512) ![o.val, 0] ![1, 512] inb) (ix2 0 k)
      = (m ((c : Thread nD τ).loc main_arg6) : FVec Ideal S8x512 .f32) (ix2 o k) := by
  refine (View.ld_unit_apply_of (show Vec Ideal S8x512 .f32 from iblk m c 7 t) _ _ inb (ix2 0 k) (ix2 o k) fun a => ?_).trans (taps_block m c t o k)
  fin_cases a
  · rfl
  · exact (Nat.zero_add _).symm

theorem ins_at (c : Dev nD) (t : Fin cfg0.N) (r k : Fin 512) (R : Fin 1024) (hR : R.val = t.val * 512 + r.val) :
    ins m c t (ix2 r k) = Ref.input (zOf m c) R k :=
  (input_at _ _ r k).trans (congrArg₂ (fun a b : EReal => a * b)
    (third_at m c t 512 _ r k R ⟨512 + k.val, by omega⟩ hR rfl (by omega))
    (third_at m c t 1024 _ r k R ⟨1024 + k.val, by omega⟩ hR rfl (by omega)))

/-- A block's row is its sequence's. -/
theorem row_at (c : Dev nD) (t : Fin cfg0.N) (r k : Fin 512) (b : Fin 128) (p : Fin 8) (hR : b.val * 8 + p.val = t.val * 512 + r.val) :
    ins m c t (ix2 r k) = Ref.inputs (zOf m c) (ix3 b p k) :=
  (ins_at m c t r k ⟨b.val * 8 + p.val, by omega⟩ hR).trans (Ref.inputs_at (zOf m c) _ b p k rfl).symm

/-- The row before it. -/
theorem last_at (c : Dev nD) (t : Fin cfg0.N) (r k : Fin 512) (b : Fin 128) (p : Fin 8) (hR : b.val * 8 + p.val = t.val * 512 + r.val) :
    k0_pay4 (View.ld (X0_0 m c t) (Rect.unit ![0, 512] ![512, 512] inb_S512x1536_S512x512_0_512))
      (View.ld (X0_0 m c t) (Rect.unit ![0, 1024] ![512, 512] inb_S512x1536_S512x512_0_1024)) (iblk m c 6 t) (ix2 r k)
      = Ref.one (s1Of m c) (Ref.inputs (zOf m c)) (ix3 b p k) := by
  refine (before_at _ _ _ r k).trans ?_
  by_cases hp : p.val < 1
  · rw [if_pos (by omega)]
    exact (state1_block m c t r k ⟨b.val * 8 + p.val, by omega⟩ hR).trans (Ref.one_state _ _ _ b p k rfl hp).symm
  · rw [if_neg (by omega)]
    exact (row_at m c t _ k b ⟨p.val - 1, by omega⟩ (by dsimp only; omega)).trans (Ref.one_input _ _ b p k hp).symm

/-- The row two before it. -/
theorem lastBut_at (c : Dev nD) (t : Fin cfg0.N) (r k : Fin 512) (b : Fin 128) (p : Fin 8) (hR : b.val * 8 + p.val = t.val * 512 + r.val) :
    before2 (ins m c t) (iblk m c 5 t) (iblk m c 6 t) r k = Ref.two (s0Of m c) (s1Of m c) (Ref.inputs (zOf m c)) (ix3 b p k) := by
  unfold before2
  by_cases hp : p.val < 1
  · rw [if_pos (by omega)]
    exact (state0_block m c t r k ⟨b.val * 8 + p.val, by omega⟩ hR).trans (Ref.two_first _ _ _ _ b p k rfl hp).symm
  · rw [if_neg (by omega)]
    by_cases hp' : p.val - 1 < 1
    · rw [if_pos (by omega)]
      exact (state1_block m c t r k ⟨b.val * 8 + p.val, by omega⟩ hR).trans (Ref.two_second _ _ _ _ b p k rfl hp hp').symm
    · rw [if_neg (by omega)]
      exact (row_at m c t _ k b ⟨p.val - 1 - 1, by omega⟩ (by dsimp only; omega)).trans (Ref.two_input _ _ _ b p k hp hp').symm

/-! ## The two arrays -/

/-- The merged rows a point leaves. -/
theorem merged_left (c : Dev nD) (t : Fin cfg0.N) (r : Fin 512) (e R : Fin 1024) (hR : R.val = t.val * 512 + r.val) :
    (outsAt0 m c t).1 (ix2 r e)
      = Ref.merged (zOf m c) (m ((c : Thread nD τ).loc main_arg1)) (m ((c : Thread nD τ).loc main_arg2)) (m ((c : Thread nD τ).loc main_arg3))
        (s0Of m c) (s1Of m c) (m ((c : Thread nD τ).loc main_arg6)) (m ((c : Thread nD τ).loc main_arg7)) (m ((c : Thread nD τ).loc main_arg8))
        (m ((c : Thread nD τ).loc main_arg9)) (m ((c : Thread nD τ).loc main_arg10)) (ix2 R e) := by
  unfold outsAt0
  dsimp only
  frame_out
  refine (added_at _ _ _ r e).trans (Eq.trans ?_ (Ref.added_at _ _ _ R e).symm)
  refine congrArg₂ (fun a b : EReal => a + b) (stream_block m c t r e R hR) (Fin.sum_fin_congr fun j =>
    congrArg₂ (fun a b : EReal => a * b) ((gated_at _ _ _ _ _ _ _ _ _ _ _ _ _ _ _ _ r j).trans (Eq.trans ?_ (Ref.gated_at _ _ _ _ _ _ _ R j).symm)) (outWeight_block m c t j e))
  refine congrArg₂ (fun a b : EReal => a + b) (congrArg₂ (fun a b : EReal => a + b)
    (congrArg₂ (fun a b : EReal => a * b) ?_ (Fin.sum_fin_congr fun k => congrArg₂ (fun a b : EReal => a * b) ?_ (convWeight_block m c t k j)))
    (congrArg₂ (fun a b : EReal => a * b) ?_ (Fin.sum_fin_congr fun k => congrArg₂ (fun a b : EReal => a * b) (latent_block m c t r k R hR) (latentWeight_block m c t k j))))
    (congrArg₂ (fun a b : EReal => a * b) ?_ (Fin.sum_fin_congr fun k => congrArg₂ (fun a b : EReal => a * b) (retention_block m c t r k R hR) (retentionWeight_block m c t k j)))
  · refine Eq.trans (congrArg Ideal.logistic ?_) (Ref.gates_at _ R _).symm
    exact gate_at m c t 0 _ r j R _ hR (by dsimp only; omega) (by omega)
  · refine Eq.trans ?_ (Ref.branch_at _ _ R k).symm
    refine congrArg₂ (fun a b : EReal => a * b) (third_at m c t 0 _ r k R _ hR (by dsimp only; omega) (by omega)) ?_
    have hb : (⟨R.val / 8, by omega⟩ : Fin 128).val * 8 + (⟨R.val % 8, by omega⟩ : Fin 8).val = t.val * 512 + r.val := by dsimp only; omega
    refine Eq.trans ?_ (Ref.conv_at _ _ _ _ _ _ k).symm
    exact congrArg₂ (fun a b : EReal => a + b) (congrArg₂ (fun a b : EReal => a + b)
      (congrArg₂ (fun a b : EReal => a * b) (lastBut_at m c t r k _ _ hb) (tap_at m c t 0 _ k))
      (congrArg₂ (fun a b : EReal => a * b) (last_at m c t r k _ _ hb) (tap_at m c t 1 _ k)))
      (congrArg₂ (fun a b : EReal => a * b) (row_at m c t r k _ _ hb) (tap_at m c t 2 _ k))
  · refine Eq.trans (congrArg Ideal.logistic ?_) (Ref.gates_at _ R _).symm
    exact gate_at m c t 1024 _ r j R _ hR (by dsimp only) (by omega)
  · refine Eq.trans (congrArg Ideal.logistic ?_) (Ref.gates_at _ R _).symm
    exact gate_at m c t 2048 _ r j R _ hR (by dsimp only) (by omega)

/-- The gated inputs a point leaves. -/
theorem inputs_left (c : Dev nD) (t : Fin cfg0.N) (r k : Fin 512) (R : Fin 1024) (hR : R.val = t.val * 512 + r.val) :
    (outsAt0 m c t).2 (ix2 r k) = Ref.flat (Ref.inputs (zOf m c)) (ix2 R k) := by
  unfold outsAt0
  dsimp only
  frame_out
  exact (ins_at m c t r k R hR).trans (Ref.flat_at (zOf m c) R k).symm

/-- The merged stream after the run. -/
theorem array_eq (c : Dev nD) :
    (dats m 0 c).arrAt 12 cfg0.N
      = Ref.merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 12 _ (by decide +kernel) fun t hf y => ?_
  obtain ⟨-, -, -, -, -, -, -, -, -, -, -, -, p, -⟩ := places t
  have hN : t.val < 2 := lt_of_lt_of_eq t.isLt N_0
  blk_simp
  rw [after0_12]
  obtain ⟨r, e, rfl⟩ : ∃ (r : Fin 512) (e : Fin 1024), y = ix2 r e := ⟨y 0, y 1, eq_ix2 y⟩
  refine (merged_left m c t r e ⟨t.val * 512 + r.val, by omega⟩ rfl).trans ?_
  blk_ext [p] <;> rfl

/-- The gated inputs after the run. -/
theorem inputs_eq (c : Dev nD) :
    (dats m 0 c).arrAt 13 cfg0.N = Ref.flat (Ref.inputs (m ((c : Thread nD τ).loc main_arg0))) := by
  refine (dats m 0 c).arrAt_eq_of_covers 13 _ (by decide +kernel) fun t hf y => ?_
  obtain ⟨-, -, -, -, -, -, -, -, -, -, -, -, -, p⟩ := places t
  have hN : t.val < 2 := lt_of_lt_of_eq t.isLt N_0
  blk_simp
  rw [after0_13]
  obtain ⟨r, k, rfl⟩ : ∃ (r k : Fin 512), y = ix2 r k := ⟨y 0, y 1, eq_ix2 y⟩
  refine (inputs_left m c t r k ⟨t.val * 512 + r.val, by omega⟩ rfl).trans ?_
  blk_ext [p] <;> rfl

end Cert.Mix

end
-- ==== Proof.lean ====
/-
  The certificate: the attention kernel runs, and leaves what the reference attention leaves of the same queries, keys and
  values. The launch and the loop are in FlashFrame and FlashPoint, the mathematics of the online softmax in Online, the
  comparison with the reference in FlashBlock and FlashArray. The feed-forward kernel's comparison is in FeedArray,
  the input projection's in ProjArray, the merge's in MergeArray, the sample's latent preparation's in LatentArray,
  the prompt's in ExpandArray, the sample's merge's in MixArray.
-/
module

public import proofs.«01_k».proof.Defs
public import proofs.«01_k».proof.Proof.FlashBits
public import proofs.«01_k».proof.Proof.FlashArray
public import proofs.«01_k».proof.Proof.FlashPre
public import proofs.«01_k».proof.Proof.Gen.Feed.Frame
public import proofs.«01_k».proof.Proof.FeedArray
public import proofs.«01_k».proof.Proof.ProjBits
public import proofs.«01_k».proof.Proof.ProjArray
public import proofs.«01_k».proof.Proof.Gen.Merge.Frame
public import proofs.«01_k».proof.Proof.Gen.MergeIdeal.Frame
public import proofs.«01_k».proof.Proof.MergeArray
public import proofs.«01_k».proof.Proof.Gen.Latent.Frame
public import proofs.«01_k».proof.Proof.Gen.LatentIdeal.Frame
public import proofs.«01_k».proof.Proof.LatentArray
public import proofs.«01_k».proof.Proof.Gen.Expand.Frame
public import proofs.«01_k».proof.Proof.Gen.ExpandIdeal.Frame
public import proofs.«01_k».proof.Proof.ExpandArray
public import proofs.«01_k».proof.Proof.Gen.Mix.Frame
public import proofs.«01_k».proof.Proof.Gen.MixIdeal.Frame
public import proofs.«01_k».proof.Proof.MixArray
public import Idealize.ShloMosaic.Adequacy
public import Idealize.ShloMosaic.Init

@[expose] public section

noncomputable section

namespace Cert.Proof

open Idealize.ShloMosaic Idealize.ShloMosaic.TcCoe Idealize.SL.Sem

/-- The attention kernel and the reference leave the same array. -/
theorem attention_algebraic : algebraic_KernelIdeal_ReferenceIdeal_pre_finite_and_ones (hKernelIdeal := Cert.KernelIdeal.Gen.facts)
    (hReferenceIdeal := Cert.ReferenceIdeal.Gen.facts) (hPre_finite_and_ones := Cert.Flash.preFacts) := by
  intro m g m' g' pre same
  refine ⟨fun c => Cert.Flash.Ref.attention (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run _ _ _).mono (fun r h c => ?_) (Cert.Flash.run_blocks m g)
    exact ⟨(h c).1.trans (Cert.Flash.array_eq m c (Cert.Flash.fit_of_pre (hF := Cert.Flash.preFacts) _ _ _ (pre c))), (h c).2⟩
  · refine (θ_run _ _ _).mono (fun r h c => ?_) (Cert.ReferenceIdeal.Value.run m' g')
    obtain ⟨e, rest⟩ := h c
    refine ⟨e.trans ((Cert.Flash.Ref.result_eq m' c).trans ?_), rest⟩
    rw [(same c).1, (same c).2.1, (same c).2.2]

/-- The reference runs and leaves its arguments as they were; it declares no semaphore. -/
theorem reference_frame : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The feed-forward kernel and its reference leave the same array. -/
theorem feed_algebraic : algebraic_FeedIdeal_FeedReferenceIdeal (hFeedIdeal := Cert.FeedIdeal.Gen.facts)
    (hFeedReferenceIdeal := Cert.FeedReferenceIdeal.Gen.facts) := by
  intro m g m' g' _ same
  refine ⟨fun c => Cert.Feed.Ref.feed (m ((c.tc : Thread Cert.FeedIdeal.nD Cert.FeedIdeal.τ).loc Cert.FeedIdeal.main_arg0))
    (m ((c.tc : Thread Cert.FeedIdeal.nD Cert.FeedIdeal.τ).loc Cert.FeedIdeal.main_arg1)) (m ((c.tc : Thread Cert.FeedIdeal.nD Cert.FeedIdeal.τ).loc Cert.FeedIdeal.main_arg2))
    (m ((c.tc : Thread Cert.FeedIdeal.nD Cert.FeedIdeal.τ).loc Cert.FeedIdeal.main_arg3)), ?_, ?_⟩
  · refine (θ_run _ _ _).mono (fun r h c => ?_) (Cert.FeedIdeal.Value.run_blocks m g)
    exact ⟨(h c).1.trans (Cert.Feed.array_eq m c), (h c).2⟩
  · refine (θ_run _ _ _).mono (fun r h c => ?_) (Cert.FeedReferenceIdeal.Value.run m' g')
    obtain ⟨e, rest⟩ := h c
    refine ⟨e.trans ?_, rest⟩
    rw [(same c).1, (same c).2.1, (same c).2.2.1, (same c).2.2.2]
    rfl

/-- The feed-forward reference runs and leaves its arguments as they were; it declares no semaphore. -/
theorem feed_reference_frame : quiescent_FeedReferenceIdeal (hFeedReferenceIdeal := Cert.FeedReferenceIdeal.Gen.facts) := fun m g _ =>
  (θ_run Cert.FeedReferenceIdeal.defs _ _).mono (fun r h => ⟨fun c => (h c).2, sem_eq_zero_of_no_sems (by decide) r.2⟩)
    (Cert.FeedReferenceIdeal.Value.run m g)

/-- The input projection's kernel and its reference leave the same two arrays. -/
theorem proj_algebraic : algebraic_ProjIdeal_ProjReferenceIdeal (hProjIdeal := Cert.ProjIdeal.Gen.facts)
    (hProjReferenceIdeal := Cert.ProjReferenceIdeal.Gen.facts) := by
  intro m g m' g' _ same
  refine ⟨fun c => Cert.InProj.Ref.projected (Cert.InProj.Ref.normed (m ((c.tc : Thread Cert.ProjIdeal.nD Cert.ProjIdeal.τ).loc Cert.ProjIdeal.main_arg0))
      (m ((c.tc : Thread Cert.ProjIdeal.nD Cert.ProjIdeal.τ).loc Cert.ProjIdeal.main_arg1))) (m ((c.tc : Thread Cert.ProjIdeal.nD Cert.ProjIdeal.τ).loc Cert.ProjIdeal.main_arg2)),
    fun c => Cert.InProj.Ref.keysOf (Cert.InProj.Ref.normed (m ((c.tc : Thread Cert.ProjIdeal.nD Cert.ProjIdeal.τ).loc Cert.ProjIdeal.main_arg0))
      (m ((c.tc : Thread Cert.ProjIdeal.nD Cert.ProjIdeal.τ).loc Cert.ProjIdeal.main_arg1))) (m ((c.tc : Thread Cert.ProjIdeal.nD Cert.ProjIdeal.τ).loc Cert.ProjIdeal.main_arg3)), ?_, ?_⟩
  · refine (θ_run _ _ _).mono (fun r h c => ?_) (Cert.InProj.run_blocks m g)
    exact ⟨(h c).1.trans (Cert.InProj.array_eq m c), (h c).2.1.trans (Cert.InProj.keys_eq m c), (h c).2.2⟩
  · refine (θ_run _ _ _).mono (fun r h c => ?_) (Cert.ProjReferenceIdeal.Value.run m' g')
    obtain ⟨e, e', rest⟩ := h c
    refine ⟨e.trans ?_, e'.trans ?_, rest⟩ <;> rw [(same c).1, (same c).2.1]
    · rw [(same c).2.2.1]; rfl
    · rw [(same c).2.2.2]; rfl

/-- The input projection's reference runs and leaves its arguments as they were; it declares no semaphore. -/
theorem proj_reference_frame : quiescent_ProjReferenceIdeal (hProjReferenceIdeal := Cert.ProjReferenceIdeal.Gen.facts) := fun m g _ =>
  (θ_run Cert.ProjReferenceIdeal.defs _ _).mono (fun r h => ⟨fun c => (h c).2.2, sem_eq_zero_of_no_sems (by decide) r.2⟩)
    (Cert.ProjReferenceIdeal.Value.run m g)

/-- The merge kernel and its reference leave the same two arrays. -/
theorem merge_algebraic : algebraic_MergeIdeal_MergeReferenceIdeal (hMergeIdeal := Cert.MergeIdeal.Gen.facts)
    (hMergeReferenceIdeal := Cert.MergeReferenceIdeal.Gen.facts) := by
  intro m g m' g' _ same
  refine ⟨fun c => Cert.Merge.Ref.merged (m ((c.tc : Thread Cert.MergeIdeal.nD Cert.MergeIdeal.τ).loc Cert.MergeIdeal.main_arg0)) (m ((c.tc : Thread Cert.MergeIdeal.nD Cert.MergeIdeal.τ).loc Cert.MergeIdeal.main_arg1))
      (m ((c.tc : Thread Cert.MergeIdeal.nD Cert.MergeIdeal.τ).loc Cert.MergeIdeal.main_arg2)) (m ((c.tc : Thread Cert.MergeIdeal.nD Cert.MergeIdeal.τ).loc Cert.MergeIdeal.main_arg3))
      (m ((c.tc : Thread Cert.MergeIdeal.nD Cert.MergeIdeal.τ).loc Cert.MergeIdeal.main_arg4)) (m ((c.tc : Thread Cert.MergeIdeal.nD Cert.MergeIdeal.τ).loc Cert.MergeIdeal.main_arg5))
      (m ((c.tc : Thread Cert.MergeIdeal.nD Cert.MergeIdeal.τ).loc Cert.MergeIdeal.main_arg6)) (m ((c.tc : Thread Cert.MergeIdeal.nD Cert.MergeIdeal.τ).loc Cert.MergeIdeal.main_arg7))
      (m ((c.tc : Thread Cert.MergeIdeal.nD Cert.MergeIdeal.τ).loc Cert.MergeIdeal.main_arg8)) (m ((c.tc : Thread Cert.MergeIdeal.nD Cert.MergeIdeal.τ).loc Cert.MergeIdeal.main_arg9)),
    fun c => Cert.Merge.Ref.tails (Cert.Merge.Ref.behind (m ((c.tc : Thread Cert.MergeIdeal.nD Cert.MergeIdeal.τ).loc Cert.MergeIdeal.main_arg0))
      (m ((c.tc : Thread Cert.MergeIdeal.nD Cert.MergeIdeal.τ).loc Cert.MergeIdeal.main_arg4))), ?_, ?_⟩
  · refine (θ_run _ _ _).mono (fun r h c => ?_) (Cert.MergeIdeal.Value.run_blocks m g)
    exact ⟨(h c).1.trans (Cert.Merge.array_eq m c), (h c).2.1.trans (Cert.Merge.tails_eq m c), (h c).2.2⟩
  · refine (θ_run _ _ _).mono (fun r h c => ?_) (Cert.MergeReferenceIdeal.Value.run m' g')
    obtain ⟨e, e', rest⟩ := h c
    obtain ⟨s0, s1, s2, s3, s4, s5, s6, s7, s8, s9⟩ := same c
    refine ⟨(e.trans (Cert.Merge.Ref.result_eq m' c)).trans ?_, e'.trans ?_, rest⟩
    · rw [s0, s1, s2, s3, s4, s5, s6, s7, s8, s9]
    · rw [s0, s4]; rfl

/-- The merge's reference runs and leaves its arguments as they were; it declares no semaphore. -/
theorem merge_reference_frame : quiescent_MergeReferenceIdeal (hMergeReferenceIdeal := Cert.MergeReferenceIdeal.Gen.facts) := fun m g _ =>
  (θ_run Cert.MergeReferenceIdeal.defs _ _).mono (fun r h => ⟨fun c => (h c).2.2, sem_eq_zero_of_no_sems (by decide) r.2⟩)
    (Cert.MergeReferenceIdeal.Value.run m g)

/-- The latent preparation's kernel and its reference leave the same three arrays. -/
theorem latent_algebraic : algebraic_LatentIdeal_LatentReferenceIdeal (hLatentIdeal := Cert.LatentIdeal.Gen.facts)
    (hLatentReferenceIdeal := Cert.LatentReferenceIdeal.Gen.facts) := by
  intro m g m' g' _ same
  refine ⟨fun c => Cert.Latents.Ref.queries (m ((c.tc : Thread Cert.LatentIdeal.nD Cert.LatentIdeal.τ).loc Cert.LatentIdeal.main_arg0)) (m ((c.tc : Thread Cert.LatentIdeal.nD Cert.LatentIdeal.τ).loc Cert.LatentIdeal.main_arg1))
      (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg6)),
    fun c => Cert.Latents.Ref.latents (m ((c.tc : Thread Cert.LatentIdeal.nD Cert.LatentIdeal.τ).loc Cert.LatentIdeal.main_arg0)) (m ((c.tc : Thread Cert.LatentIdeal.nD Cert.LatentIdeal.τ).loc Cert.LatentIdeal.main_arg5)),
    fun c => Cert.Latents.Ref.turnedKey (Cert.Latents.Ref.keyPart (m ((c.tc : Thread Cert.LatentIdeal.nD Cert.LatentIdeal.τ).loc Cert.LatentIdeal.main_arg0))) (m ((c.tc : Thread Cert.LatentIdeal.nD Cert.LatentIdeal.τ).loc Cert.LatentIdeal.main_arg2)), ?_, ?_⟩
  · refine (θ_run _ _ _).mono (fun r h c => ?_) (Cert.LatentIdeal.Value.run_blocks m g)
    exact ⟨(h c).1.trans (Cert.Latents.queries_eq m c), (h c).2.1.trans (Cert.Latents.latents_eq m c), (h c).2.2.1.trans (Cert.Latents.key_eq m c), (h c).2.2.2⟩
  · refine (θ_run _ _ _).mono (fun r h c => ?_) (Cert.LatentReferenceIdeal.Value.run m' g')
    obtain ⟨e, e', e'', rest⟩ := h c
    obtain ⟨s0, s1, s2, s3, s4, s5, s6⟩ := same c
    refine ⟨(e.trans (Cert.Latents.Ref.result_eq m' c)).trans ?_, e'.trans ?_, e''.trans ?_, rest⟩
    · rw [s0, s1, s3, s4, s6]
    · rw [s0, s5]; rfl
    · rw [s0, s2]; rfl

/-- The latent preparation's reference runs and leaves its arguments as they were; it declares no semaphore. -/
theorem latent_reference_frame : quiescent_LatentReferenceIdeal (hLatentReferenceIdeal := Cert.LatentReferenceIdeal.Gen.facts) := fun m g _ =>
  (θ_run Cert.LatentReferenceIdeal.defs _ _).mono (fun r h => ⟨fun c => (h c).2.2.2, sem_eq_zero_of_no_sems (by decide) r.2⟩)
    (Cert.LatentReferenceIdeal.Value.run m g)

/-- The prompt's latent preparation and its reference leave the same five arrays. -/
theorem expand_algebraic : algebraic_ExpandIdeal_ExpandReferenceIdeal (hExpandIdeal := Cert.ExpandIdeal.Gen.facts)
    (hExpandReferenceIdeal := Cert.ExpandReferenceIdeal.Gen.facts) := by
  intro m g m' g' _ same
  refine ⟨fun c => Cert.Expand.Ref.queries (m ((c.tc : Thread Cert.ExpandIdeal.nD Cert.ExpandIdeal.τ).loc Cert.ExpandIdeal.main_arg0))
      (m ((c.tc : Thread Cert.ExpandIdeal.nD Cert.ExpandIdeal.τ).loc Cert.ExpandIdeal.main_arg1))
      (m ((c.tc : Thread Cert.ExpandIdeal.nD Cert.ExpandIdeal.τ).loc Cert.ExpandIdeal.main_arg3))
      (m ((c.tc : Thread Cert.ExpandIdeal.nD Cert.ExpandIdeal.τ).loc Cert.ExpandIdeal.main_arg4))
      (m ((c.tc : Thread Cert.ExpandIdeal.nD Cert.ExpandIdeal.τ).loc Cert.ExpandIdeal.main_arg6)),
    fun c => Cert.Expand.Ref.latents (m ((c.tc : Thread Cert.ExpandIdeal.nD Cert.ExpandIdeal.τ).loc Cert.ExpandIdeal.main_arg0))
      (m ((c.tc : Thread Cert.ExpandIdeal.nD Cert.ExpandIdeal.τ).loc Cert.ExpandIdeal.main_arg5)),
    fun c => Cert.Expand.Ref.keyOf (Cert.Expand.Ref.rotary (m ((c.tc : Thread Cert.ExpandIdeal.nD Cert.ExpandIdeal.τ).loc Cert.ExpandIdeal.main_arg0))
      (m ((c.tc : Thread Cert.ExpandIdeal.nD Cert.ExpandIdeal.τ).loc Cert.ExpandIdeal.main_arg2))),
    fun c => Cert.Expand.Ref.keys (m ((c.tc : Thread Cert.ExpandIdeal.nD Cert.ExpandIdeal.τ).loc Cert.ExpandIdeal.main_arg0))
      (m ((c.tc : Thread Cert.ExpandIdeal.nD Cert.ExpandIdeal.τ).loc Cert.ExpandIdeal.main_arg2))
      (m ((c.tc : Thread Cert.ExpandIdeal.nD Cert.ExpandIdeal.τ).loc Cert.ExpandIdeal.main_arg5))
      (m ((c.tc : Thread Cert.ExpandIdeal.nD Cert.ExpandIdeal.τ).loc Cert.ExpandIdeal.main_arg7))
      (m ((c.tc : Thread Cert.ExpandIdeal.nD Cert.ExpandIdeal.τ).loc Cert.ExpandIdeal.main_arg8))
      (m ((c.tc : Thread Cert.ExpandIdeal.nD Cert.ExpandIdeal.τ).loc Cert.ExpandIdeal.main_arg10)),
    fun c => Cert.Expand.Ref.withOnes (Cert.Expand.Ref.valueHeads (Cert.Expand.Ref.latents (m ((c.tc : Thread Cert.ExpandIdeal.nD Cert.ExpandIdeal.τ).loc Cert.ExpandIdeal.main_arg0))
      (m ((c.tc : Thread Cert.ExpandIdeal.nD Cert.ExpandIdeal.τ).loc Cert.ExpandIdeal.main_arg5)))
      (m ((c.tc : Thread Cert.ExpandIdeal.nD Cert.ExpandIdeal.τ).loc Cert.ExpandIdeal.main_arg9))), ?_, ?_⟩
  · refine (θ_run _ _ _).mono (fun r h c => ?_) (Cert.ExpandIdeal.Value.run_blocks m g)
    obtain ⟨e0, e1, e2, e3, e4, rest⟩ := h c
    exact ⟨e0.trans (Cert.Expand.queries_eq m c), e1.trans (Cert.Expand.latents_eq m c), e2.trans (Cert.Expand.key_eq m c),
      e3.trans (Cert.Expand.keys_eq m c),
      e4.trans (Cert.Expand.values_eq m c), rest⟩
  · refine (θ_run _ _ _).mono (fun r h c => ?_) (Cert.ExpandReferenceIdeal.Value.run m' g')
    obtain ⟨e0, e1, e2, e3, e4, rest⟩ := h c
    obtain ⟨s0, s1, s2, s3, s4, s5, s6, s7, s8, s9, s10⟩ := same c
    refine ⟨(e0.trans (Cert.Expand.Ref.queries_eq m' c)).trans ?_, e1.trans ?_, e2.trans ?_,
      (e3.trans (Cert.Expand.Ref.keys_eq m' c)).trans ?_, e4.trans ?_, rest⟩
    · rw [s0, s1, s3, s4, s6]
    · rw [s0, s5]; rfl
    · rw [s0, s2]; rfl
    · rw [s0, s2, s5, s7, s8, s10]
    · rw [s0, s5, s9]; rfl

/-- The sample's merge and its reference leave the same two arrays. -/
theorem mix_algebraic : algebraic_MixIdeal_MixReferenceIdeal (hMixIdeal := Cert.MixIdeal.Gen.facts)
    (hMixReferenceIdeal := Cert.MixReferenceIdeal.Gen.facts) := by
  intro m g m' g' _ same
  refine ⟨fun c => Cert.Mix.Ref.merged (m ((c.tc : Thread Cert.MixIdeal.nD Cert.MixIdeal.τ).loc Cert.MixIdeal.main_arg0)) (m ((c.tc : Thread Cert.MixIdeal.nD Cert.MixIdeal.τ).loc Cert.MixIdeal.main_arg1))
      (m ((c.tc : Thread Cert.MixIdeal.nD Cert.MixIdeal.τ).loc Cert.MixIdeal.main_arg2)) (m ((c.tc : Thread Cert.MixIdeal.nD Cert.MixIdeal.τ).loc Cert.MixIdeal.main_arg3))
      (m ((c.tc : Thread Cert.MixIdeal.nD Cert.MixIdeal.τ).loc Cert.MixIdeal.main_arg4)) (m ((c.tc : Thread Cert.MixIdeal.nD Cert.MixIdeal.τ).loc Cert.MixIdeal.main_arg5))
      (m ((c.tc : Thread Cert.MixIdeal.nD Cert.MixIdeal.τ).loc Cert.MixIdeal.main_arg6)) (m ((c.tc : Thread Cert.MixIdeal.nD Cert.MixIdeal.τ).loc Cert.MixIdeal.main_arg7))
      (m ((c.tc : Thread Cert.MixIdeal.nD Cert.MixIdeal.τ).loc Cert.MixIdeal.main_arg8)) (m ((c.tc : Thread Cert.MixIdeal.nD Cert.MixIdeal.τ).loc Cert.MixIdeal.main_arg9))
      (m ((c.tc : Thread Cert.MixIdeal.nD Cert.MixIdeal.τ).loc Cert.MixIdeal.main_arg10)),
    fun c => Cert.Mix.Ref.flat (Cert.Mix.Ref.inputs (m ((c.tc : Thread Cert.MixIdeal.nD Cert.MixIdeal.τ).loc Cert.MixIdeal.main_arg0))), ?_, ?_⟩
  · refine (θ_run _ _ _).mono (fun r h c => ?_) (Cert.MixIdeal.Value.run_blocks m g)
    exact ⟨(h c).1.trans (Cert.Mix.array_eq m c), (h c).2.1.trans (Cert.Mix.inputs_eq m c), (h c).2.2⟩
  · refine (θ_run _ _ _).mono (fun r h c => ?_) (Cert.MixReferenceIdeal.Value.run m' g')
    obtain ⟨e, e', rest⟩ := h c
    obtain ⟨s0, s1, s2, s3, s4, s5, s6, s7, s8, s9, s10⟩ := same c
    refine ⟨(e.trans (Cert.Mix.Ref.result_eq m' c)).trans ?_, e'.trans ?_, rest⟩
    · rw [s0, s1, s2, s3, s4, s5, s6, s7, s8, s9, s10]
    · rw [s0]; rfl

/-- The sample's merge's reference runs and leaves its arguments as they were; it declares no semaphore. -/
theorem mix_reference_frame : quiescent_MixReferenceIdeal (hMixReferenceIdeal := Cert.MixReferenceIdeal.Gen.facts) := fun m g _ =>
  (θ_run Cert.MixReferenceIdeal.defs _ _).mono (fun r h => ⟨fun c => (h c).2.2, sem_eq_zero_of_no_sems (by decide) r.2⟩)
    (Cert.MixReferenceIdeal.Value.run m g)

/-- The reference of the prompt's latent preparation runs and leaves its arguments as they were; it declares no semaphore. -/
theorem expand_reference_frame : quiescent_ExpandReferenceIdeal (hExpandReferenceIdeal := Cert.ExpandReferenceIdeal.Gen.facts) := fun m g _ =>
  (θ_run Cert.ExpandReferenceIdeal.defs _ _).mono (fun r h => ⟨fun c => (h c).2.2.2.2.2, sem_eq_zero_of_no_sems (by decide) r.2⟩)
    (Cert.ExpandReferenceIdeal.Value.run m g)

theorem claim : Cert.Claim :=
  ⟨Cert.Kernel.Gen.facts, Cert.KernelIdeal.Gen.facts, Cert.ReferenceIdeal.Gen.facts, Cert.Feed.Gen.facts, Cert.FeedIdeal.Gen.facts,
    Cert.FeedReferenceIdeal.Gen.facts, Cert.Proj.Gen.facts, Cert.ProjIdeal.Gen.facts, Cert.ProjReferenceIdeal.Gen.facts,
    Cert.Merge.Gen.facts, Cert.MergeIdeal.Gen.facts, Cert.MergeReferenceIdeal.Gen.facts,
    Cert.Latent.Gen.facts, Cert.LatentIdeal.Gen.facts, Cert.LatentReferenceIdeal.Gen.facts,
    Cert.Expand.Gen.facts, Cert.ExpandIdeal.Gen.facts, Cert.ExpandReferenceIdeal.Gen.facts,
    Cert.Mix.Gen.facts, Cert.MixIdeal.Gen.facts, Cert.MixReferenceIdeal.Gen.facts, Cert.Flash.preFacts,
    Cert.Flash.compiled_frame,
    fun m g _ => Cert.Flash.frame m g,
    fun m g _ => Cert.Flash.frame m g,
    fun m g _ => reference_frame m g trivial,
    fun m g _ => reference_frame m g trivial,
    fun m g _ => Cert.Feed.Gen.frame m g,
    fun m g _ => Cert.FeedIdeal.Gen.frame m g,
    feed_reference_frame,
    Cert.InProj.compiled_frame,
    fun m g _ => Cert.InProj.frame m g,
    proj_reference_frame,
    fun m g _ => Cert.Merge.Gen.frame m g,
    fun m g _ => Cert.MergeIdeal.Gen.frame m g,
    merge_reference_frame,
    fun m g _ => Cert.Latent.Gen.frame m g,
    fun m g _ => Cert.LatentIdeal.Gen.frame m g,
    latent_reference_frame,
    fun m g _ => Cert.Expand.Gen.frame m g,
    fun m g _ => Cert.ExpandIdeal.Gen.frame m g,
    expand_reference_frame,
    fun m g _ => Cert.Mix.Gen.frame m g,
    fun m g _ => Cert.MixIdeal.Gen.frame m g,
    mix_reference_frame,
    IdealRules.named_const.statement _ _ _ _ _ rfl,
    attention_algebraic,
    trivial,
    feed_algebraic,
    trivial,
    proj_algebraic,
    trivial,
    merge_algebraic,
    trivial,
    latent_algebraic,
    trivial,
    expand_algebraic,
    trivial,
    mix_algebraic⟩

end Cert.Proof

end
